-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gqa [hPre_finite_gqa : Cert.Pre_finite_gqa.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gqa.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_gqa.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_gqa.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gqa [hPre_finite_gqa : Cert.Pre_finite_gqa.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gqa.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_gqa.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_gqa.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_mla [hPre_finite_mla : Cert.Pre_finite_mla.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_mla.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_mla.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite_mla.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite_mla.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite_mla.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite_mla.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_mla [hPre_finite_mla : Cert.Pre_finite_mla.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_mla.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_mla.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite_mla.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite_mla.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite_mla.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite_mla.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gqa [hKernelIdeal : Cert.KernelIdeal.Facts] [hPre_finite_gqa : Cert.Pre_finite_gqa.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gqa m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gqa [hReferenceIdeal : Cert.ReferenceIdeal.Facts] [hPre_finite_gqa : Cert.Pre_finite_gqa.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gqa m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_mla [hKernel2Ideal : Cert.Kernel2Ideal.Facts] [hPre_finite_mla : Cert.Pre_finite_mla.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_mla m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_mla [hReference2Ideal : Cert.Reference2Ideal.Facts] [hPre_finite_mla : Cert.Pre_finite_mla.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_mla m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  True

def algebraic_KernelIdeal_ReferenceIdeal_pre_finite_gqa [hKernelIdeal : Cert.KernelIdeal.Facts] [hReferenceIdeal : Cert.ReferenceIdeal.Facts] [hPre_finite_gqa : Cert.Pre_finite_gqa.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gqa m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_mla [hKernel2Ideal : Cert.Kernel2Ideal.Facts] [hReference2Ideal : Cert.Reference2Ideal.Facts] [hPre_finite_mla : Cert.Pre_finite_mla.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_mla m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v97) = v0 c
          ∧ r.2.mem ((c.tc : Thread Cert.Reference3Ideal.nD Cert.Reference3Ideal.τ).loc Cert.Reference3Ideal.main_v99) = v1 c
          ∧ r.2.mem ((c.tc : Thread Cert.Reference3Ideal.nD Cert.Reference3Ideal.τ).loc Cert.Reference3Ideal.main_v101) = v2 c
          ∧ r.2.mem ((c.tc : Thread Cert.Reference3Ideal.nD Cert.Reference3Ideal.τ).loc Cert.Reference3Ideal.main_v103) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_v52) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)) (v2 : (c : Dev Cert.Kernel5Ideal.nD) → Buf (Elt Ideal) ((c.tc : Thread Cert.Kernel5Ideal.nD Cert.Kernel5Ideal.τ).loc Cert.Kernel5Ideal.main_v22_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_v22_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v166) = v0 c
          ∧ r.2.mem ((c.tc : Thread Cert.Reference5Ideal.nD Cert.Reference5Ideal.τ).loc Cert.Reference5Ideal.main_v167) = v1 c
          ∧ r.2.mem ((c.tc : Thread Cert.Reference5Ideal.nD Cert.Reference5Ideal.τ).loc Cert.Reference5Ideal.main_v168) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v32_0)) (v1 : (c : Dev Cert.Kernel6Ideal.nD) → Buf (Elt Ideal) ((c.tc : Thread Cert.Kernel6Ideal.nD Cert.Kernel6Ideal.τ).loc Cert.Kernel6Ideal.main_v32_1)) (v2 : (c : Dev Cert.Kernel6Ideal.nD) → Buf (Elt Ideal) ((c.tc : Thread Cert.Kernel6Ideal.nD Cert.Kernel6Ideal.τ).loc Cert.Kernel6Ideal.main_v32_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32_0) = v0 c
          ∧ r.2.mem ((c.tc : Thread Cert.Kernel6Ideal.nD Cert.Kernel6Ideal.τ).loc Cert.Kernel6Ideal.main_v32_1) = v1 c
          ∧ r.2.mem ((c.tc : Thread Cert.Kernel6Ideal.nD Cert.Kernel6Ideal.τ).loc Cert.Kernel6Ideal.main_v32_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v185) = v0 c
          ∧ r.2.mem ((c.tc : Thread Cert.Reference6Ideal.nD Cert.Reference6Ideal.τ).loc Cert.Reference6Ideal.main_v186) = v1 c
          ∧ r.2.mem ((c.tc : Thread Cert.Reference6Ideal.nD Cert.Reference6Ideal.τ).loc Cert.Reference6Ideal.main_v187) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_gqa : Cert.Pre_finite_gqa.Facts) (hPre_finite_mla : Cert.Pre_finite_mla.Facts),
    quiescent_Kernel (hKernel := hKernel)
    ∧ quiescent_KernelIdeal (hKernelIdeal := hKernelIdeal)
    ∧ quiescent_KernelIdeal_pre_finite_gqa (hKernelIdeal := hKernelIdeal) (hPre_finite_gqa := hPre_finite_gqa)
    ∧ quiescent_ReferenceIdeal (hReferenceIdeal := hReferenceIdeal)
    ∧ quiescent_ReferenceIdeal_pre_finite_gqa (hReferenceIdeal := hReferenceIdeal) (hPre_finite_gqa := hPre_finite_gqa)
    ∧ quiescent_Kernel2 (hKernel2 := hKernel2)
    ∧ quiescent_Kernel2Ideal (hKernel2Ideal := hKernel2Ideal)
    ∧ quiescent_Kernel2Ideal_pre_finite_mla (hKernel2Ideal := hKernel2Ideal) (hPre_finite_mla := hPre_finite_mla)
    ∧ quiescent_Reference2Ideal (hReference2Ideal := hReference2Ideal)
    ∧ quiescent_Reference2Ideal_pre_finite_mla (hReference2Ideal := hReference2Ideal) (hPre_finite_mla := hPre_finite_mla)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_gqa (hKernelIdeal := hKernelIdeal) (hReferenceIdeal := hReferenceIdeal) (hPre_finite_gqa := hPre_finite_gqa)
    ∧ preserves_Kernel2_Kernel2Ideal
    ∧ algebraic_Kernel2Ideal_Reference2Ideal_pre_finite_mla (hKernel2Ideal := hKernel2Ideal) (hReference2Ideal := hReference2Ideal) (hPre_finite_mla := hPre_finite_mla)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_gqa.lean ====
abbrev S4x4096x2x4x128 : Shape := ⟨5, ![4, 4096, 2, 4, 128]⟩
abbrev S4x4096x2x128 : Shape := ⟨4, ![4, 4096, 2, 128]⟩
abbrev S4x256x2x128 : Shape := ⟨4, ![4, 256, 2, 128]⟩
abbrev S_ : Shape := ⟨0, ![]⟩

class Facts : Prop where
  bcast_S_S4x4096x2x4x128 : S_.BroadcastsInDim S4x4096x2x4x128 (![] : Fin 0 → Fin S4x4096x2x4x128.rank)
  bcast_S_S4x4096x2x128 : S_.BroadcastsInDim S4x4096x2x128 (![] : Fin 0 → Fin S4x4096x2x128.rank)
  bcast_S_S4x256x2x128 : S_.BroadcastsInDim S4x256x2x128 (![] : Fin 0 → Fin S4x256x2x128.rank)

variable [Facts]

def fn {F : FTy → Type} [FloatOps F] (main_arg0 : FVec F S4x4096x2x4x128 .f32) (main_arg1 : FVec F S4x4096x2x128 .f32) (main_arg2 : FVec F S4x4096x2x128 .f32) (main_arg3 : FVec F S4x256x2x128 .f32) (main_arg4 : FVec F S4x256x2x128 .f32) : IVec S4x4096x2x4x128 1 × IVec S4x4096x2x128 1 × IVec S4x256x2x128 1 :=
  let main_v0 : FVec F S4x4096x2x4x128 .f32 := Host.absf main_arg0
  let main_cst : FVec F S_ .f32 := constant S_ .f32 0x7F800000#32
  let main_v1 : FVec F S4x4096x2x4x128 .f32 := broadcastInDim S4x4096x2x4x128 ![] bcast_S_S4x4096x2x4x128 main_cst
  let main_v2 : IVec S4x4096x2x4x128 1 := cmpf .olt main_v0 main_v1
  let main_v3 : FVec F S4x4096x2x128 .f32 := Host.absf main_arg1
  let main_cst_0 : FVec F S_ .f32 := constant S_ .f32 0x7F800000#32
  let main_v4 : FVec F S4x4096x2x128 .f32 := broadcastInDim S4x4096x2x128 ![] bcast_S_S4x4096x2x128 main_cst_0
  let main_v5 : IVec S4x4096x2x128 1 := cmpf .olt main_v3 main_v4
  let main_v6 : FVec F S4x256x2x128 .f32 := Host.absf main_arg3
  let main_cst_1 : FVec F S_ .f32 := constant S_ .f32 0x7F800000#32
  let main_v7 : FVec F S4x256x2x128 .f32 := broadcastInDim S4x256x2x128 ![] bcast_S_S4x256x2x128 main_cst_1
  let main_v8 : IVec S4x256x2x128 1 := cmpf .olt main_v6 main_v7
  (main_v2, main_v5, main_v8)
-- ==== Pre_finite_mla.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S4x256x8x128 : Shape := ⟨4, ![4, 256, 8, 128]⟩
abbrev S4x256x64 : Shape := ⟨3, ![4, 256, 64]⟩
abbrev S_ : Shape := ⟨0, ![]⟩

class Facts : Prop where
  bcast_S_S4x4096x8x128 : S_.BroadcastsInDim S4x4096x8x128 (![] : Fin 0 → Fin S4x4096x8x128.rank)
  bcast_S_S4x4096x8x64 : S_.BroadcastsInDim S4x4096x8x64 (![] : Fin 0 → Fin S4x4096x8x64.rank)
  bcast_S_S4x4096x64 : S_.BroadcastsInDim S4x4096x64 (![] : Fin 0 → Fin S4x4096x64.rank)
  bcast_S_S4x256x8x128 : S_.BroadcastsInDim S4x256x8x128 (![] : Fin 0 → Fin S4x256x8x128.rank)
  bcast_S_S4x256x64 : S_.BroadcastsInDim S4x256x64 (![] : Fin 0 → Fin S4x256x64.rank)

variable [Facts]

def fn {F : FTy → Type} [FloatOps F] (main_arg0 : FVec F S4x4096x8x128 .f32) (main_arg1 : FVec F S4x4096x8x64 .f32) (main_arg2 : FVec F S4x4096x8x128 .f32) (main_arg3 : FVec F S4x4096x64 .f32) (main_arg4 : FVec F S4x4096x8x128 .f32) (main_arg5 : FVec F S4x256x8x128 .f32) (main_arg6 : FVec F S4x256x64 .f32) (main_arg7 : FVec F S4x256x8x128 .f32) : IVec S4x4096x8x128 1 × IVec S4x4096x8x64 1 × IVec S4x4096x8x128 1 × IVec S4x4096x64 1 × IVec S4x256x8x128 1 × IVec S4x256x64 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  let main_v6 : FVec F S4x4096x8x128 .f32 := Host.absf main_arg2
  let main_cst_1 : FVec F S_ .f32 := constant S_ .f32 0x7F800000#32
  let main_v7 : FVec F S4x4096x8x128 .f32 := broadcastInDim S4x4096x8x128 ![] bcast_S_S4x4096x8x128 main_cst_1
  let main_v8 : IVec S4x4096x8x128 1 := cmpf .olt main_v6 main_v7
  let main_v9 : FVec F S4x4096x64 .f32 := Host.absf main_arg3
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_v12 : FVec F S4x256x8x128 .f32 := Host.absf main_arg5
  let main_cst_3 : FVec F S_ .f32 := constant S_ .f32 0x7F800000#32
  let main_v13 : FVec F S4x256x8x128 .f32 := broadcastInDim S4x256x8x128 ![] bcast_S_S4x256x8x128 main_cst_3
  let main_v14 : IVec S4x256x8x128 1 := cmpf .olt main_v12 main_v13
  let main_v15 : FVec F S4x256x64 .f32 := Host.absf main_arg6
  let main_cst_4 : FVec F S_ .f32 := constant S_ .f32 0x7F800000#32
  let main_v16 : FVec F S4x256x64 .f32 := broadcastInDim S4x256x64 ![] bcast_S_S4x256x64 main_cst_4
  let main_v17 : IVec S4x256x64 1 := cmpf .olt main_v15 main_v16
  (main_v2, main_v5, main_v8, main_v11, main_v14, main_v17)
-- ==== Kernel.lean ====
abbrev S4x4096x2x4x128 : Shape := ⟨5, ![4, 4096, 2, 4, 128]⟩
abbrev S4x4096x2x128 : Shape := ⟨4, ![4, 4096, 2, 128]⟩
abbrev S4x256x2x128 : Shape := ⟨4, ![4, 256, 2, 128]⟩
abbrev S_ : Shape := ⟨0, ![]⟩
abbrev S16384x1024 : Shape := ⟨2, ![16384, 1024]⟩
abbrev S16384x256 : Shape := ⟨2, ![16384, 256]⟩
abbrev S1024x256 : Shape := ⟨2, ![1024, 256]⟩
abbrev S17408x256 : Shape := ⟨2, ![17408, 256]⟩
abbrev S16384x2x128 : Shape := ⟨3, ![16384, 2, 128]⟩
abbrev S1024x2x128 : Shape := ⟨3, ![1024, 2, 128]⟩
abbrev S17408x2x128 : Shape := ⟨3, ![17408, 2, 128]⟩
abbrev S17408x2x256 : Shape := ⟨3, ![17408, 2, 256]⟩
abbrev S17408x512 : Shape := ⟨2, ![17408, 512]⟩
abbrev S2048x128 : Shape := ⟨2, ![2048, 128]⟩
abbrev S4096x128 : Shape := ⟨2, ![4096, 128]⟩
abbrev S256x128 : Shape := ⟨2, ![256, 128]⟩
abbrev S4096x256 : Shape := ⟨2, ![4096, 256]⟩
abbrev S256x256 : Shape := ⟨2, ![256, 256]⟩
abbrev S4x256x4352 : Shape := ⟨3, ![4, 256, 4352]⟩
abbrev S256x4096 : Shape := ⟨2, ![256, 4096]⟩
abbrev S1x256x4096 : Shape := ⟨3, ![1, 256, 4096]⟩
abbrev S1x256x256 : Shape := ⟨3, ![1, 256, 256]⟩
abbrev S1x256x4352 : Shape := ⟨3, ![1, 256, 4352]⟩
abbrev S256x4352 : Shape := ⟨2, ![256, 4352]⟩
abbrev S256 : Shape := ⟨1, ![256]⟩
abbrev S256x1 : Shape := ⟨2, ![256, 1]⟩

abbrev nBuf : Space → Nat
  | .hbm => 29
  | .vmem => 14
  | .smem => 0
  | _ => 0

abbrev bufTy : (tb : Table) → Fin (tcTables nBuf tb) → BufTy
  | .hbm, ⟨0, _⟩ => ⟨S4x4096x2x4x128, .f32⟩
  | .hbm, ⟨1, _⟩ => ⟨S4x4096x2x128, .f32⟩
  | .hbm, ⟨2, _⟩ => ⟨S4x4096x2x128, .f32⟩
  | .hbm, ⟨3, _⟩ => ⟨S4x256x2x128, .f32⟩
  | .hbm, ⟨4, _⟩ => ⟨S4x256x2x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x2x4x128, .f32⟩
  | .hbm, ⟨13, _⟩ => ⟨S4x4096x2x4x128, .f32⟩
  | .hbm, ⟨14, _⟩ => ⟨S16384x1024, .f32⟩
  | .hbm, ⟨15, _⟩ => ⟨S16384x1024, .bf16⟩
  | .hbm, ⟨16, _⟩ => ⟨S16384x256, .f32⟩
  | .hbm, ⟨17, _⟩ => ⟨S1024x256, .f32⟩
  | .hbm, ⟨18, _⟩ => ⟨S17408x256, .f32⟩
  | .hbm, ⟨19, _⟩ => ⟨S17408x256, .bf16⟩
  | .hbm, ⟨20, _⟩ => ⟨S16384x2x128, .f32⟩
  | .hbm, ⟨21, _⟩ => ⟨S1024x2x128, .f32⟩
  | .hbm, ⟨22, _⟩ => ⟨S17408x2x128, .f32⟩
  | .hbm, ⟨23, _⟩ => ⟨S_, .f32⟩
  | .hbm, ⟨24, _⟩ => ⟨S17408x2x128, .f32⟩
  | .hbm, ⟨25, _⟩ => ⟨S17408x2x256, .f32⟩
  | .hbm, ⟨26, _⟩ => ⟨S17408x512, .f32⟩
  | .hbm, ⟨27, _⟩ => ⟨S17408x512, .bf16⟩
  | .hbm, ⟨28, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x256, .bf16⟩
  | .local _ .vmem, ⟨7, _⟩ => ⟨S4096x256, .bf16⟩
  | .local _ .vmem, ⟨8, _⟩ => ⟨S256x256, .bf16⟩
  | .local _ .vmem, ⟨9, _⟩ => ⟨S256x256, .bf16⟩
  | .local _ .vmem, ⟨10, _⟩ => ⟨S2048x128, .bf16⟩
  | .local _ .vmem, ⟨11, _⟩ => ⟨S2048x128, .bf16⟩
  | .local _ .vmem, ⟨12, _⟩ => ⟨S4x256x4352, .f32⟩
  | .local _ .vmem, ⟨13, _⟩ => ⟨S4x256x4352, .bf16⟩
  | _, _ => ⟨S4x4096x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x2x4x128 : Shape := ⟨5, ![4, 4096, 2, 4, 128]⟩
abbrev S4x4096x2x128 : Shape := ⟨4, ![4, 4096, 2, 128]⟩
abbrev S4x256x2x128 : Shape := ⟨4, ![4, 256, 2, 128]⟩
abbrev S4x4352x2x128 : Shape := ⟨4, ![4, 4352, 2, 128]⟩
abbrev S_ : Shape := ⟨0, ![]⟩
abbrev S4x2x4352x4096x4 : Shape := ⟨5, ![4, 2, 4352, 4096, 4]⟩
abbrev S4x2x4x4096x4352 : Shape := ⟨5, ![4, 2, 4, 4096, 4352]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x2x4x128, .f32⟩
  | .hbm, ⟨1, _⟩ => ⟨S4x4096x2x128, .f32⟩
  | .hbm, ⟨2, _⟩ => ⟨S4x4096x2x128, .f32⟩
  | .hbm, ⟨3, _⟩ => ⟨S4x256x2x128, .f32⟩
  | .hbm, ⟨4, _⟩ => ⟨S4x256x2x128, .f32⟩
  | .hbm, ⟨5, _⟩ => ⟨S4x4352x2x128, .f32⟩
  | .hbm, ⟨6, _⟩ => ⟨S4x4352x2x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x2x4352x4096x4, .f32⟩
  | .hbm, ⟨12, _⟩ => ⟨S4x2x4x4096x4352, .f32⟩
  | .hbm, ⟨13, _⟩ => ⟨S4x2x4x4096x4352, .f32⟩
  | .hbm, ⟨14, _⟩ => ⟨S4x2x4x4096x4352, .f32⟩
  | .hbm, ⟨15, _⟩ => ⟨S_, .f32⟩
  | .hbm, ⟨16, _⟩ => ⟨S4x2x4x4096, .f32⟩
  | .hbm, ⟨17, _⟩ => ⟨S_, .f32⟩
  | .hbm, ⟨18, _⟩ => ⟨S4x2x4x4096, .f32⟩
  | .hbm, ⟨19, _⟩ => ⟨S4x2x4x4096, .f32⟩
  | .hbm, ⟨20, _⟩ => ⟨S4x2x4x4096x1, .f32⟩
  | .hbm, ⟨21, _⟩ => ⟨S4x2x4x4096x4352, .f32⟩
  | .hbm, ⟨22, _⟩ => ⟨S4x2x4x4096x4352, .f32⟩
  | .hbm, ⟨23, _⟩ => ⟨S4x2x4x4096x4352, .f32⟩
  | .hbm, ⟨24, _⟩ => ⟨S_, .f32⟩
  | .hbm, ⟨25, _⟩ => ⟨S4x2x4x4096, .f32⟩
  | .hbm, ⟨26, _⟩ => ⟨S4x2x4x4096x1, .f32⟩
  | .hbm, ⟨27, _⟩ => ⟨S4x2x4x4096x4352, .f32⟩
  | .hbm, ⟨28, _⟩ => ⟨S4x2x4x4096x4352, .f32⟩
  | .hbm, ⟨29, _⟩ => ⟨S4x2x128x4x4096, .f32⟩
  | .hbm, ⟨30, _⟩ => ⟨S4x4096x2x4x128, .f32⟩
  | .hbm, ⟨31, _⟩ => ⟨S16384x1024, .f32⟩
  | .hbm, ⟨32, _⟩ => ⟨S16384x1024, .bf16⟩
  | _, _ => ⟨S4x4096x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel2.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S4x256x8x128 : Shape := ⟨4, ![4, 256, 8, 128]⟩
abbrev S4x256x64 : Shape := ⟨3, ![4, 256, 64]⟩
abbrev S_ : Shape := ⟨0, ![]⟩
abbrev S4x4096x8x256 : Shape := ⟨4, ![4, 4096, 8, 256]⟩
abbrev S16384x2048 : Shape := ⟨2, ![16384, 2048]⟩
abbrev S16384x8x128 : Shape := ⟨3, ![16384, 8, 128]⟩
abbrev S1024x8x128 : Shape := ⟨3, ![1024, 8, 128]⟩
abbrev S17408x8x128 : Shape := ⟨3, ![17408, 8, 128]⟩
abbrev S16384x64 : Shape := ⟨2, ![16384, 64]⟩
abbrev S1024x64 : Shape := ⟨2, ![1024, 64]⟩
abbrev S17408x64 : Shape := ⟨2, ![17408, 64]⟩
abbrev S17408x1x64 : Shape := ⟨3, ![17408, 1, 64]⟩
abbrev S17408x8x64 : Shape := ⟨3, ![17408, 8, 64]⟩
abbrev S17408x8x256 : Shape := ⟨3, ![17408, 8, 256]⟩
abbrev S17408x2048 : Shape := ⟨2, ![17408, 2048]⟩
abbrev S16384x1024 : Shape := ⟨2, ![16384, 1024]⟩
abbrev S2048x256 : Shape := ⟨2, ![2048, 256]⟩
abbrev S4096x256 : Shape := ⟨2, ![4096, 256]⟩
abbrev S256x256 : Shape := ⟨2, ![256, 256]⟩
abbrev S2048x128 : Shape := ⟨2, ![2048, 128]⟩
abbrev S4x256x4352 : Shape := ⟨3, ![4, 256, 4352]⟩
abbrev S256x4096 : Shape := ⟨2, ![256, 4096]⟩
abbrev S1x256x4096 : Shape := ⟨3, ![1, 256, 4096]⟩
abbrev S1x256x256 : Shape := ⟨3, ![1, 256, 256]⟩
abbrev S1x256x4352 : Shape := ⟨3, ![1, 256, 4352]⟩
abbrev S256x4352 : Shape := ⟨2, ![256, 4352]⟩
abbrev S256 : Shape := ⟨1, ![256]⟩
abbrev S256x1 : Shape := ⟨2, ![256, 1]⟩
abbrev S256x128 : Shape := ⟨2, ![256, 128]⟩

abbrev nBuf : Space → Nat
  | .hbm => 46
  | .vmem => 14
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x64, .f32⟩
  | .hbm, ⟨2, _⟩ => ⟨S4x4096x8x128, .f32⟩
  | .hbm, ⟨3, _⟩ => ⟨S4x4096x64, .f32⟩
  | .hbm, ⟨4, _⟩ => ⟨S4x4096x8x128, .f32⟩
  | .hbm, ⟨5, _⟩ => ⟨S4x256x8x128, .f32⟩
  | .hbm, ⟨6, _⟩ => ⟨S4x256x64, .f32⟩
  | .hbm, ⟨7, _⟩ => ⟨S4x256x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x4096x8x128, .f32⟩
  | .hbm, ⟨16, _⟩ => ⟨S4x4096x8x128, .f32⟩
  | .hbm, ⟨17, _⟩ => ⟨S4x4096x8x64, .f32⟩
  | .hbm, ⟨18, _⟩ => ⟨S4x4096x8x64, .f32⟩
  | .hbm, ⟨19, _⟩ => ⟨S_, .f32⟩
  | .hbm, ⟨20, _⟩ => ⟨S4x4096x8x64, .f32⟩
  | .hbm, ⟨21, _⟩ => ⟨S4x4096x8x256, .f32⟩
  | .hbm, ⟨22, _⟩ => ⟨S16384x2048, .f32⟩
  | .hbm, ⟨23, _⟩ => ⟨S16384x2048, .bf16⟩
  | .hbm, ⟨24, _⟩ => ⟨S16384x8x128, .f32⟩
  | .hbm, ⟨25, _⟩ => ⟨S1024x8x128, .f32⟩
  | .hbm, ⟨26, _⟩ => ⟨S17408x8x128, .f32⟩
  | .hbm, ⟨27, _⟩ => ⟨S16384x64, .f32⟩
  | .hbm, ⟨28, _⟩ => ⟨S1024x64, .f32⟩
  | .hbm, ⟨29, _⟩ => ⟨S17408x64, .f32⟩
  | .hbm, ⟨30, _⟩ => ⟨S17408x1x64, .f32⟩
  | .hbm, ⟨31, _⟩ => ⟨S17408x8x64, .f32⟩
  | .hbm, ⟨32, _⟩ => ⟨S_, .f32⟩
  | .hbm, ⟨33, _⟩ => ⟨S17408x8x64, .f32⟩
  | .hbm, ⟨34, _⟩ => ⟨S17408x8x256, .f32⟩
  | .hbm, ⟨35, _⟩ => ⟨S17408x2048, .f32⟩
  | .hbm, ⟨36, _⟩ => ⟨S17408x2048, .bf16⟩
  | .hbm, ⟨37, _⟩ => ⟨S16384x8x128, .f32⟩
  | .hbm, ⟨38, _⟩ => ⟨S1024x8x128, .f32⟩
  | .hbm, ⟨39, _⟩ => ⟨S17408x8x128, .f32⟩
  | .hbm, ⟨40, _⟩ => ⟨S_, .f32⟩
  | .hbm, ⟨41, _⟩ => ⟨S17408x8x128, .f32⟩
  | .hbm, ⟨42, _⟩ => ⟨S17408x8x256, .f32⟩
  | .hbm, ⟨43, _⟩ => ⟨S17408x2048, .f32⟩
  | .hbm, ⟨44, _⟩ => ⟨S17408x2048, .bf16⟩
  | .hbm, ⟨45, _⟩ => ⟨S16384x1024, .bf16⟩
  | .local _ .vmem, ⟨0, _⟩ => ⟨S2048x256, .bf16⟩
  | .local _ .vmem, ⟨1, _⟩ => ⟨S2048x256, .bf16⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S4096x256, .bf16⟩
  | .local _ .vmem, ⟨7, _⟩ => ⟨S4096x256, .bf16⟩
  | .local _ .vmem, ⟨8, _⟩ => ⟨S256x256, .bf16⟩
  | .local _ .vmem, ⟨9, _⟩ => ⟨S256x256, .bf16⟩
  | .local _ .vmem, ⟨10, _⟩ => ⟨S2048x128, .bf16⟩
  | .local _ .vmem, ⟨11, _⟩ => ⟨S2048x128, .bf16⟩
  | .local _ .vmem, ⟨12, _⟩ => ⟨S4x256x4352, .f32⟩
  | .local _ .vmem, ⟨13, _⟩ => ⟨S4x256x4352, .bf16⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S4x256x8x128 : Shape := ⟨4, ![4, 256, 8, 128]⟩
abbrev S4x256x64 : Shape := ⟨3, ![4, 256, 64]⟩
abbrev S4x4352x8x128 : Shape := ⟨4, ![4, 4352, 8, 128]⟩
abbrev S4x4352x64 : Shape := ⟨3, ![4, 4352, 64]⟩
abbrev S_ : Shape := ⟨0, ![]⟩
abbrev S4x8x4096x4352 : Shape := ⟨4, ![4, 8, 4096, 4352]⟩
abbrev S4x4352x4096x8 : Shape := ⟨4, ![4, 4352, 4096, 8]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x64, .f32⟩
  | .hbm, ⟨2, _⟩ => ⟨S4x4096x8x128, .f32⟩
  | .hbm, ⟨3, _⟩ => ⟨S4x4096x64, .f32⟩
  | .hbm, ⟨4, _⟩ => ⟨S4x4096x8x128, .f32⟩
  | .hbm, ⟨5, _⟩ => ⟨S4x256x8x128, .f32⟩
  | .hbm, ⟨6, _⟩ => ⟨S4x256x64, .f32⟩
  | .hbm, ⟨7, _⟩ => ⟨S4x256x8x128, .f32⟩
  | .hbm, ⟨8, _⟩ => ⟨S4x4352x8x128, .f32⟩
  | .hbm, ⟨9, _⟩ => ⟨S4x4352x64, .f32⟩
  | .hbm, ⟨10, _⟩ => ⟨S4x4352x8x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x8x4096x4352, .f32⟩
  | .hbm, ⟨16, _⟩ => ⟨S4x4352x4096x8, .f32⟩
  | .hbm, ⟨17, _⟩ => ⟨S4x8x4096x4352, .f32⟩
  | .hbm, ⟨18, _⟩ => ⟨S4x8x4096x4352, .f32⟩
  | .hbm, ⟨19, _⟩ => ⟨S4x8x4096x4352, .f32⟩
  | .hbm, ⟨20, _⟩ => ⟨S4x8x4096x4352, .f32⟩
  | .hbm, ⟨21, _⟩ => ⟨S_, .f32⟩
  | .hbm, ⟨22, _⟩ => ⟨S4x8x4096, .f32⟩
  | .hbm, ⟨23, _⟩ => ⟨S_, .f32⟩
  | .hbm, ⟨24, _⟩ => ⟨S4x8x4096, .f32⟩
  | .hbm, ⟨25, _⟩ => ⟨S4x8x4096, .f32⟩
  | .hbm, ⟨26, _⟩ => ⟨S4x8x4096x1, .f32⟩
  | .hbm, ⟨27, _⟩ => ⟨S4x8x4096x4352, .f32⟩
  | .hbm, ⟨28, _⟩ => ⟨S4x8x4096x4352, .f32⟩
  | .hbm, ⟨29, _⟩ => ⟨S4x8x4096x4352, .f32⟩
  | .hbm, ⟨30, _⟩ => ⟨S_, .f32⟩
  | .hbm, ⟨31, _⟩ => ⟨S4x8x4096, .f32⟩
  | .hbm, ⟨32, _⟩ => ⟨S4x8x4096x1, .f32⟩
  | .hbm, ⟨33, _⟩ => ⟨S4x8x4096x4352, .f32⟩
  | .hbm, ⟨34, _⟩ => ⟨S4x8x4096x4352, .f32⟩
  | .hbm, ⟨35, _⟩ => ⟨S4x8x128x4096, .f32⟩
  | .hbm, ⟨36, _⟩ => ⟨S4x4096x8x128, .f32⟩
  | .hbm, ⟨37, _⟩ => ⟨S16384x1024, .f32⟩
  | .hbm, ⟨38, _⟩ => ⟨S16384x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x2048 : Shape := ⟨2, ![1024, 2048]⟩
abbrev S8x128x128 : Shape := ⟨3, ![8, 128, 128]⟩
abbrev S17408x1024 : Shape := ⟨2, ![17408, 1024]⟩
abbrev S_ : Shape := ⟨0, ![]⟩
abbrev S3x6144 : Shape := ⟨2, ![3, 6144]⟩
abbrev S1x6144 : Shape := ⟨2, ![1, 6144]⟩
abbrev S8x6144 : Shape := ⟨2, ![8, 6144]⟩
abbrev S8x6x1x1024 : Shape := ⟨4, ![8, 6, 1, 1024]⟩
abbrev S1x1024 : Shape := ⟨2, ![1, 1024]⟩
abbrev S8x128x17408 : Shape := ⟨3, ![8, 128, 17408]⟩
abbrev S512x1024 : Shape := ⟨2, ![512, 1024]⟩
abbrev S1x6x1x1024 : Shape := ⟨4, ![1, 6, 1, 1024]⟩
abbrev S8x128x512 : Shape := ⟨3, ![8, 128, 512]⟩
abbrev S1x1x1x1024 : Shape := ⟨4, ![1, 1, 1, 1024]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 28
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S4x4096x1024, .f32⟩
  | .hbm, ⟨3, _⟩ => ⟨S4x256x1024, .f32⟩
  | .hbm, ⟨4, _⟩ => ⟨S4x6144, .f32⟩
  | .hbm, ⟨5, _⟩ => ⟨S6144, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S8x128x128, .f32⟩
  | .hbm, ⟨10, _⟩ => ⟨S8x128x128, .f32⟩
  | .hbm, ⟨11, _⟩ => ⟨S16384x1024, .f32⟩
  | .hbm, ⟨12, _⟩ => ⟨S1024x1024, .f32⟩
  | .hbm, ⟨13, _⟩ => ⟨S17408x1024, .f32⟩
  | .hbm, ⟨14, _⟩ => ⟨S_, .f32⟩
  | .hbm, ⟨15, _⟩ => ⟨S3x6144, .f32⟩
  | .hbm, ⟨16, _⟩ => ⟨S1x6144, .f32⟩
  | .hbm, ⟨17, _⟩ => ⟨S8x6144, .f32⟩
  | .hbm, ⟨18, _⟩ => ⟨S8x6x1x1024, .f32⟩
  | .hbm, ⟨19, _⟩ => ⟨S1024x1024, .bf16⟩
  | .hbm, ⟨20, _⟩ => ⟨S1024x2048, .bf16⟩
  | .hbm, ⟨21, _⟩ => ⟨S8x128x128, .bf16⟩
  | .hbm, ⟨22, _⟩ => ⟨S8x128x128, .bf16⟩
  | .hbm, ⟨23, _⟩ => ⟨S1x1024, .f32⟩
  | .hbm, ⟨24, _⟩ => ⟨S17408x1024, .f32⟩
  | .hbm, ⟨25, _⟩ => ⟨S17408x1024, .bf16⟩
  | .hbm, ⟨26, _⟩ => ⟨S8x128x17408, .f32⟩
  | .hbm, ⟨27, _⟩ => ⟨S8x128x17408, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x6x1x1024, .f32⟩
  | .local _ .vmem, ⟨7, _⟩ => ⟨S1x6x1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x2048, .bf16⟩
  | .local _ .vmem, ⟨11, _⟩ => ⟨S8x128x128, .bf16⟩
  | .local _ .vmem, ⟨12, _⟩ => ⟨S8x128x128, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x128x512, .f32⟩
  | .local _ .vmem, ⟨18, _⟩ => ⟨S8x128x512, .f32⟩
  | .local _ .vmem, ⟨19, _⟩ => ⟨S8x128x512, .f32⟩
  | .local _ .vmem, ⟨20, _⟩ => ⟨S8x128x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S1024x1024 : Shape := ⟨2, ![1024, 1024]⟩
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x2048 : Shape := ⟨2, ![1024, 2048]⟩
abbrev S8x128x128 : Shape := ⟨3, ![8, 128, 128]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x2048 : Shape := ⟨2, ![16384, 2048]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S8x128x16384 : Shape := ⟨3, ![8, 128, 16384]⟩
abbrev S4x256 : Shape := ⟨2, ![4, 256]⟩
abbrev S4x256x1 : Shape := ⟨3, ![4, 256, 1]⟩
abbrev S1024x8x2x128 : Shape := ⟨4, ![1024, 8, 2, 128]⟩
abbrev S1024x8x1x128 : Shape := ⟨4, ![1024, 8, 1, 128]⟩
abbrev S1024x8x128 : Shape := ⟨3, ![1024, 8, 128]⟩
abbrev S8x128x1024 : Shape := ⟨3, ![8, 128, 1024]⟩
abbrev S17408x1024 : Shape := ⟨2, ![17408, 1024]⟩
abbrev S17408x8x128 : Shape := ⟨3, ![17408, 8, 128]⟩
abbrev S8x128x17408 : Shape := ⟨3, ![8, 128, 17408]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S4x4096x1024, .f32⟩
  | .hbm, ⟨3, _⟩ => ⟨S4x256x1024, .f32⟩
  | .hbm, ⟨4, _⟩ => ⟨S4x6144, .f32⟩
  | .hbm, ⟨5, _⟩ => ⟨S6144, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S8x128x128, .f32⟩
  | .hbm, ⟨10, _⟩ => ⟨S8x128x128, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S16384x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S16384x1024, .f32⟩
  | .hbm, ⟨59, _⟩ => ⟨S16384x2048, .f32⟩
  | .hbm, ⟨60, _⟩ => ⟨S16384x8x2x128, .f32⟩
  | .hbm, ⟨61, _⟩ => ⟨S16384x8x1x128, .f32⟩
  | .hbm, ⟨62, _⟩ => ⟨S16384x8x128, .f32⟩
  | .hbm, ⟨63, _⟩ => ⟨S8x128x16384, .f32⟩
  | .hbm, ⟨64, _⟩ => ⟨S16384x8x128, .f32⟩
  | .hbm, ⟨65, _⟩ => ⟨S16384x8x1x128, .f32⟩
  | .hbm, ⟨66, _⟩ => ⟨S16384x8x128, .f32⟩
  | .hbm, ⟨67, _⟩ => ⟨S8x128x16384, .f32⟩
  | .hbm, ⟨68, _⟩ => ⟨S16384x8x128, .f32⟩
  | .hbm, ⟨69, _⟩ => ⟨S16384x1024, .f32⟩
  | .hbm, ⟨70, _⟩ => ⟨S16384x1024, .f32⟩
  | .hbm, ⟨71, _⟩ => ⟨S1024x1024, .f32⟩
  | .hbm, ⟨72, _⟩ => ⟨S4x256x1024, .f32⟩
  | .hbm, ⟨73, _⟩ => ⟨S4x256x1024, .f32⟩
  | .hbm, ⟨74, _⟩ => ⟨S1x1x1024, .f32⟩
  | .hbm, ⟨75, _⟩ => ⟨S4x256x1024, .f32⟩
  | .hbm, ⟨76, _⟩ => ⟨S4x256x1024, .f32⟩
  | .hbm, ⟨77, _⟩ => ⟨S4x256x1024, .f32⟩
  | .hbm, ⟨78, _⟩ => ⟨S4x256x1024, .f32⟩
  | .hbm, ⟨79, _⟩ => ⟨S_, .f32⟩
  | .hbm, ⟨80, _⟩ => ⟨S4x256, .f32⟩
  | .hbm, ⟨81, _⟩ => ⟨S4x256x1, .f32⟩
  | .hbm, ⟨82, _⟩ => ⟨S_, .f32⟩
  | .hbm, ⟨83, _⟩ => ⟨S4x256x1, .f32⟩
  | .hbm, ⟨84, _⟩ => ⟨S4x256x1, .f32⟩
  | .hbm, ⟨85, _⟩ => ⟨S_, .f32⟩
  | .hbm, ⟨86, _⟩ => ⟨S4x256x1, .f32⟩
  | .hbm, ⟨87, _⟩ => ⟨S4x256x1, .f32⟩
  | .hbm, ⟨88, _⟩ => ⟨S4x256x1, .f32⟩
  | .hbm, ⟨89, _⟩ => ⟨S4x256x1024, .f32⟩
  | .hbm, ⟨90, _⟩ => ⟨S4x256x1024, .f32⟩
  | .hbm, ⟨91, _⟩ => ⟨S1x1x1024, .f32⟩
  | .hbm, ⟨92, _⟩ => ⟨S4x256x1024, .f32⟩
  | .hbm, ⟨93, _⟩ => ⟨S4x256x1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1x1x1024, .f32⟩
  | .hbm, ⟨98, _⟩ => ⟨S4x256x1024, .f32⟩
  | .hbm, ⟨99, _⟩ => ⟨S4x256x1024, .f32⟩
  | .hbm, ⟨100, _⟩ => ⟨S1x1x1024, .f32⟩
  | .hbm, ⟨101, _⟩ => ⟨S4x256x1024, .f32⟩
  | .hbm, ⟨102, _⟩ => ⟨S4x256x1024, .f32⟩
  | .hbm, ⟨103, _⟩ => ⟨S1024x1024, .f32⟩
  | .hbm, ⟨104, _⟩ => ⟨S1024x2048, .f32⟩
  | .hbm, ⟨105, _⟩ => ⟨S1024x8x2x128, .f32⟩
  | .hbm, ⟨106, _⟩ => ⟨S1024x8x1x128, .f32⟩
  | .hbm, ⟨107, _⟩ => ⟨S1024x8x128, .f32⟩
  | .hbm, ⟨108, _⟩ => ⟨S8x128x1024, .f32⟩
  | .hbm, ⟨109, _⟩ => ⟨S1024x8x128, .f32⟩
  | .hbm, ⟨110, _⟩ => ⟨S1024x8x1x128, .f32⟩
  | .hbm, ⟨111, _⟩ => ⟨S1024x8x128, .f32⟩
  | .hbm, ⟨112, _⟩ => ⟨S8x128x1024, .f32⟩
  | .hbm, ⟨113, _⟩ => ⟨S1024x8x128, .f32⟩
  | .hbm, ⟨114, _⟩ => ⟨S1024x1024, .f32⟩
  | .hbm, ⟨115, _⟩ => ⟨S1024x1024, .f32⟩
  | .hbm, ⟨116, _⟩ => ⟨S17408x1024, .f32⟩
  | .hbm, ⟨117, _⟩ => ⟨S17408x1024, .f32⟩
  | .hbm, ⟨118, _⟩ => ⟨S17408x1024, .bf16⟩
  | .hbm, ⟨119, _⟩ => ⟨S17408x8x128, .f32⟩
  | .hbm, ⟨120, _⟩ => ⟨S8x128x17408, .f32⟩
  | .hbm, ⟨121, _⟩ => ⟨S17408x8x128, .f32⟩
  | .hbm, ⟨122, _⟩ => ⟨S8x128x17408, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_3 : Ref sig .tc := ⟨.hbm, 79, rfl⟩
abbrev main_v64 : Ref sig .tc := ⟨.hbm, 80, rfl⟩
abbrev main_v65 : Ref sig .tc := ⟨.hbm, 81, rfl⟩
abbrev main_cst_4 : Ref sig .tc := ⟨.hbm, 82, rfl⟩
abbrev main_v66 : Ref sig .tc := ⟨.hbm, 83, rfl⟩
abbrev main_v67 : Ref sig .tc := ⟨.hbm, 84, rfl⟩
abbrev main_cst_5 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_6 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩

abbrev nD : Nat := 1
abbrev τ : Topo := Topo.v7x

variable {F : FTy → Type} [FloatOps F]
-- ==== Kernel4.lean ====
abbrev S16384x1024 : Shape := ⟨2, ![16384, 1024]⟩
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024x1024 : Shape := ⟨2, ![1024, 1024]⟩
abbrev S1024 : Shape := ⟨1, ![1024]⟩
abbrev S1024x2048 : Shape := ⟨2, ![1024, 2048]⟩
abbrev S8x128x128 : Shape := ⟨3, ![8, 128, 128]⟩
abbrev S17408x1024 : Shape := ⟨2, ![17408, 1024]⟩
abbrev S_ : Shape := ⟨0, ![]⟩
abbrev S3x6144 : Shape := ⟨2, ![3, 6144]⟩
abbrev S1x6144 : Shape := ⟨2, ![1, 6144]⟩
abbrev S8x6144 : Shape := ⟨2, ![8, 6144]⟩
abbrev S8x6x1x1024 : Shape := ⟨4, ![8, 6, 1, 1024]⟩
abbrev S1x1024 : Shape := ⟨2, ![1, 1024]⟩
abbrev S8x128x16384 : Shape := ⟨3, ![8, 128, 16384]⟩
abbrev S512x1024 : Shape := ⟨2, ![512, 1024]⟩
abbrev S1x6x1x1024 : Shape := ⟨4, ![1, 6, 1, 1024]⟩
abbrev S8x128x512 : Shape := ⟨3, ![8, 128, 512]⟩
abbrev S1x1x1x1024 : Shape := ⟨4, ![1, 1, 1, 1024]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 27
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S4x256x1024, .f32⟩
  | .hbm, ⟨3, _⟩ => ⟨S4x6144, .f32⟩
  | .hbm, ⟨4, _⟩ => ⟨S6144, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S8x128x128, .f32⟩
  | .hbm, ⟨9, _⟩ => ⟨S8x128x128, .f32⟩
  | .hbm, ⟨10, _⟩ => ⟨S16384x1024, .f32⟩
  | .hbm, ⟨11, _⟩ => ⟨S1024x1024, .f32⟩
  | .hbm, ⟨12, _⟩ => ⟨S17408x1024, .f32⟩
  | .hbm, ⟨13, _⟩ => ⟨S_, .f32⟩
  | .hbm, ⟨14, _⟩ => ⟨S3x6144, .f32⟩
  | .hbm, ⟨15, _⟩ => ⟨S1x6144, .f32⟩
  | .hbm, ⟨16, _⟩ => ⟨S8x6144, .f32⟩
  | .hbm, ⟨17, _⟩ => ⟨S8x6x1x1024, .f32⟩
  | .hbm, ⟨18, _⟩ => ⟨S1024x1024, .bf16⟩
  | .hbm, ⟨19, _⟩ => ⟨S1024x2048, .bf16⟩
  | .hbm, ⟨20, _⟩ => ⟨S8x128x128, .bf16⟩
  | .hbm, ⟨21, _⟩ => ⟨S8x128x128, .bf16⟩
  | .hbm, ⟨22, _⟩ => ⟨S1x1024, .f32⟩
  | .hbm, ⟨23, _⟩ => ⟨S16384x1024, .f32⟩
  | .hbm, ⟨24, _⟩ => ⟨S16384x1024, .bf16⟩
  | .hbm, ⟨25, _⟩ => ⟨S8x128x16384, .f32⟩
  | .hbm, ⟨26, _⟩ => ⟨S8x128x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x6x1x1024, .f32⟩
  | .local _ .vmem, ⟨5, _⟩ => ⟨S1x6x1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S8x128x128, .bf16⟩
  | .local _ .vmem, ⟨10, _⟩ => ⟨S8x128x128, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x128x512, .f32⟩
  | .local _ .vmem, ⟨16, _⟩ => ⟨S8x128x512, .f32⟩
  | .local _ .vmem, ⟨17, _⟩ => ⟨S8x128x512, .f32⟩
  | .local _ .vmem, ⟨18, _⟩ => ⟨S8x128x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x1024 : Shape := ⟨2, ![16384, 1024]⟩
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024x1024 : Shape := ⟨2, ![1024, 1024]⟩
abbrev S1024 : Shape := ⟨1, ![1024]⟩
abbrev S1024x2048 : Shape := ⟨2, ![1024, 2048]⟩
abbrev S8x128x128 : Shape := ⟨3, ![8, 128, 128]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x2048 : Shape := ⟨2, ![16384, 2048]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S8x128x16384 : Shape := ⟨3, ![8, 128, 16384]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S4x256x1024, .f32⟩
  | .hbm, ⟨3, _⟩ => ⟨S4x6144, .f32⟩
  | .hbm, ⟨4, _⟩ => ⟨S6144, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S8x128x128, .f32⟩
  | .hbm, ⟨9, _⟩ => ⟨S8x128x128, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S16384x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S16384x1024, .f32⟩
  | .hbm, ⟨52, _⟩ => ⟨S16384x2048, .f32⟩
  | .hbm, ⟨53, _⟩ => ⟨S16384x8x2x128, .f32⟩
  | .hbm, ⟨54, _⟩ => ⟨S16384x8x1x128, .f32⟩
  | .hbm, ⟨55, _⟩ => ⟨S16384x8x128, .f32⟩
  | .hbm, ⟨56, _⟩ => ⟨S8x128x16384, .f32⟩
  | .hbm, ⟨57, _⟩ => ⟨S16384x8x128, .f32⟩
  | .hbm, ⟨58, _⟩ => ⟨S16384x8x1x128, .f32⟩
  | .hbm, ⟨59, _⟩ => ⟨S16384x8x128, .f32⟩
  | .hbm, ⟨60, _⟩ => ⟨S8x128x16384, .f32⟩
  | .hbm, ⟨61, _⟩ => ⟨S16384x8x128, .f32⟩
  | .hbm, ⟨62, _⟩ => ⟨S16384x1024, .f32⟩
  | .hbm, ⟨63, _⟩ => ⟨S16384x1024, .f32⟩
  | .hbm, ⟨64, _⟩ => ⟨S16384x1024, .bf16⟩
  | .hbm, ⟨65, _⟩ => ⟨S8x128x16384, .f32⟩
  | .hbm, ⟨66, _⟩ => ⟨S8x128x16384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x1536 : Shape := ⟨2, ![1024, 1536]⟩
abbrev S128 : Shape := ⟨1, ![128]⟩
abbrev S4096x128 : Shape := ⟨2, ![4096, 128]⟩
abbrev S16384x1024 : Shape := ⟨2, ![16384, 1024]⟩
abbrev S1024x1024 : Shape := ⟨2, ![1024, 1024]⟩
abbrev S17408x1024 : Shape := ⟨2, ![17408, 1024]⟩
abbrev S_ : Shape := ⟨0, ![]⟩
abbrev S3x6144 : Shape := ⟨2, ![3, 6144]⟩
abbrev S1x6144 : Shape := ⟨2, ![1, 6144]⟩
abbrev S8x6144 : Shape := ⟨2, ![8, 6144]⟩
abbrev S8x6x1x1024 : Shape := ⟨4, ![8, 6, 1, 1024]⟩
abbrev S1x128 : Shape := ⟨2, ![1, 128]⟩
abbrev S4608x128 : Shape := ⟨2, ![4608, 128]⟩
abbrev S1x1024 : Shape := ⟨2, ![1, 1024]⟩
abbrev S17408x256 : Shape := ⟨2, ![17408, 256]⟩
abbrev S17408x512 : Shape := ⟨2, ![17408, 512]⟩
abbrev S512x1024 : Shape := ⟨2, ![512, 1024]⟩
abbrev S1x6x1x1024 : Shape := ⟨4, ![1, 6, 1, 1024]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x1x1x1024 : Shape := ⟨4, ![1, 1, 1, 1024]⟩
abbrev S512x1536 : Shape := ⟨2, ![512, 1536]⟩

abbrev nBuf : Space → Nat
  | .hbm => 70
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S1024, .f32⟩
  | .hbm, ⟨5, _⟩ => ⟨S1024x1536, .f32⟩
  | .hbm, ⟨6, _⟩ => ⟨S128, .f32⟩
  | .hbm, ⟨7, _⟩ => ⟨S128, .f32⟩
  | .hbm, ⟨8, _⟩ => ⟨S4096x128, .f32⟩
  | .hbm, ⟨9, _⟩ => ⟨S4096x128, .f32⟩
  | .hbm, ⟨10, _⟩ => ⟨S16384x1024, .f32⟩
  | .hbm, ⟨11, _⟩ => ⟨S1024x1024, .f32⟩
  | .hbm, ⟨12, _⟩ => ⟨S17408x1024, .f32⟩
  | .hbm, ⟨13, _⟩ => ⟨S_, .f32⟩
  | .hbm, ⟨14, _⟩ => ⟨S3x6144, .f32⟩
  | .hbm, ⟨15, _⟩ => ⟨S1x6144, .f32⟩
  | .hbm, ⟨16, _⟩ => ⟨S8x6144, .f32⟩
  | .hbm, ⟨17, _⟩ => ⟨S8x6x1x1024, .f32⟩
  | .hbm, ⟨18, _⟩ => ⟨S1024x1536, .bf16⟩
  | .hbm, ⟨19, _⟩ => ⟨S1x128, .f32⟩
  | .hbm, ⟨20, _⟩ => ⟨S1x128, .f32⟩
  | .hbm, ⟨21, _⟩ => ⟨S_, .f32⟩
  | .hbm, ⟨22, _⟩ => ⟨S_, .f32⟩
  | .hbm, ⟨23, _⟩ => ⟨S4608x128, .f32⟩
  | .hbm, ⟨24, _⟩ => ⟨S_, .i32⟩
  | .hbm, ⟨25, _⟩ => ⟨S_, .f32⟩
  | .hbm, ⟨26, _⟩ => ⟨S4608x128, .f32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S_, .i1⟩
  | .hbm, ⟨44, _⟩ => ⟨S128, .i1⟩
  | .hbm, ⟨45, _⟩ => ⟨S128, .i1⟩
  | .hbm, ⟨46, _⟩ => ⟨S128, .i1⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S1x128, .i1⟩
  | .hbm, ⟨54, _⟩ => ⟨S4608x128, .f32⟩
  | .hbm, ⟨55, _⟩ => ⟨S_, .f32⟩
  | .hbm, ⟨56, _⟩ => ⟨S_, .f32⟩
  | .hbm, ⟨57, _⟩ => ⟨S4608x128, .i1⟩
  | .hbm, ⟨58, _⟩ => ⟨S4608x128, .f32⟩
  | .hbm, ⟨59, _⟩ => ⟨S4608x128, .f32⟩
  | .hbm, ⟨60, _⟩ => ⟨S1x128, .i1⟩
  | .hbm, ⟨61, _⟩ => ⟨S_, .f32⟩
  | .hbm, ⟨62, _⟩ => ⟨S_, .f32⟩
  | .hbm, ⟨63, _⟩ => ⟨S4608x128, .i1⟩
  | .hbm, ⟨64, _⟩ => ⟨S4608x128, .f32⟩
  | .hbm, ⟨65, _⟩ => ⟨S4608x128, .f32⟩
  | .hbm, ⟨66, _⟩ => ⟨S1x1024, .f32⟩
  | .hbm, ⟨67, _⟩ => ⟨S17408x1024, .bf16⟩
  | .hbm, ⟨68, _⟩ => ⟨S17408x256, .bf16⟩
  | .hbm, ⟨69, _⟩ => ⟨S17408x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1x1024, .f32⟩
  | .local _ .vmem, ⟨4, _⟩ => ⟨S1x6x1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x256, .bf16⟩
  | .local _ .vmem, ⟨17, _⟩ => ⟨S512x256, .bf16⟩
  | .local _ .vmem, ⟨18, _⟩ => ⟨S512x512, .bf16⟩
  | .local _ .vmem, ⟨19, _⟩ => ⟨S512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_call0_v0 : Ref sig .tc := ⟨.hbm, 22, rfl⟩
abbrev main_v10 : Ref sig .tc := ⟨.hbm, 23, rfl⟩
abbrev main_c : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_call2_v0 : Ref sig .tc := ⟨.hbm, 29, rfl⟩
abbrev main_call2_c : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_c_1 : Ref sig .tc := ⟨.hbm, 36, rfl⟩
abbrev main_call2_v5 : Ref sig .tc := ⟨.hbm, 37, rfl⟩
abbrev main_call2_v6 : Ref sig .tc := ⟨.hbm, 38, rfl⟩
abbrev main_call2_c_2 : Ref sig .tc := ⟨.hbm, 39, rfl⟩
abbrev main_call2_v7 : Ref sig .tc := ⟨.hbm, 40, rfl⟩
abbrev main_call2_v8 : Ref sig .tc := ⟨.hbm, 41, rfl⟩
abbrev main_call2_c_3 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_v13 : Ref sig .tc := ⟨.hbm, 49, rfl⟩
abbrev main_c_2 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_3 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v18 : Ref sig .tc := ⟨.hbm, 59, rfl⟩
abbrev main_v19 : Ref sig .tc := ⟨.hbm, 60, rfl⟩
abbrev main_cst_4 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22_0 : Ref sig .tc := ⟨.hbm, 67, rfl⟩
abbrev main_v22_1 : Ref sig .tc := ⟨.hbm, 68, rfl⟩
abbrev main_v22_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x1536 : Shape := ⟨2, ![1024, 1536]⟩
abbrev S128 : Shape := ⟨1, ![128]⟩
abbrev S4096x128 : Shape := ⟨2, ![4096, 128]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1536 : Shape := ⟨3, ![4, 4096, 1536]⟩
abbrev S4x4096x256 : Shape := ⟨3, ![4, 4096, 256]⟩
abbrev S4x4096x2x4x128 : Shape := ⟨5, ![4, 4096, 2, 4, 128]⟩
abbrev S4x4096x2x4 : Shape := ⟨4, ![4, 4096, 2, 4]⟩
abbrev S4x4096x2x4x1 : Shape := ⟨5, ![4, 4096, 2, 4, 1]⟩
abbrev S1x1x1x1x128 : Shape := ⟨5, ![1, 1, 1, 1, 128]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S1x1x1x128 : Shape := ⟨4, ![1, 1, 1, 128]⟩
abbrev S4096x1x1x128 : Shape := ⟨4, ![4096, 1, 1, 128]⟩
abbrev S4x4096x2x4x32 : Shape := ⟨5, ![4, 4096, 2, 4, 32]⟩
abbrev S1x4096x1x1x128 : Shape := ⟨5, ![1, 4096, 1, 1, 128]⟩
abbrev S4096x1x128 : Shape := ⟨3, ![4096, 1, 128]⟩
abbrev S4x4096x2x32 : Shape := ⟨4, ![4, 4096, 2, 32]⟩
abbrev S1x4096x1x128 : Shape := ⟨4, ![1, 4096, 1, 128]⟩
abbrev S4x256 : Shape := ⟨2, ![4, 256]⟩
abbrev S4x256x1 : Shape := ⟨3, ![4, 256, 1]⟩
abbrev S4x256x1536 : Shape := ⟨3, ![4, 256, 1536]⟩
abbrev S4x256x256 : Shape := ⟨3, ![4, 256, 256]⟩
abbrev S4x256x2x4x128 : Shape := ⟨5, ![4, 256, 2, 4, 128]⟩
abbrev S4x256x2x4 : Shape := ⟨4, ![4, 256, 2, 4]⟩
abbrev S4x256x2x4x1 : Shape := ⟨5, ![4, 256, 2, 4, 1]⟩
abbrev S4x256x2x128 : Shape := ⟨4, ![4, 256, 2, 128]⟩
abbrev S4x256x2 : Shape := ⟨3, ![4, 256, 2]⟩
abbrev S4x256x2x1 : Shape := ⟨4, ![4, 256, 2, 1]⟩
abbrev S16384x1024 : Shape := ⟨2, ![16384, 1024]⟩
abbrev S1024x1024 : Shape := ⟨2, ![1024, 1024]⟩
abbrev S17408x1024 : Shape := ⟨2, ![17408, 1024]⟩
abbrev S16384x256 : Shape := ⟨2, ![16384, 256]⟩
abbrev S1024x256 : Shape := ⟨2, ![1024, 256]⟩
abbrev S17408x256 : Shape := ⟨2, ![17408, 256]⟩
abbrev S16384x2x128 : Shape := ⟨3, ![16384, 2, 128]⟩
abbrev S1024x2x128 : Shape := ⟨3, ![1024, 2, 128]⟩
abbrev S17408x2x128 : Shape := ⟨3, ![17408, 2, 128]⟩
abbrev S17408x2x256 : Shape := ⟨3, ![17408, 2, 256]⟩
abbrev S17408x512 : Shape := ⟨2, ![17408, 512]⟩

abbrev nBuf : Space → Nat
  | .hbm => 201
  | .vmem => 0
  | .smem => 0
  | _ => 0

abbrev hbmTy0_0 (i : Nat) : BufTy := match i % 128 with
  | 0 => ⟨S4x4096x1024, .f32⟩
  | 1 => ⟨S4x256x1024, .f32⟩
  | 2 => ⟨S4x6144, .f32⟩
  | 3 => ⟨S6144, .f32⟩
  | 4 => ⟨S1024, .f32⟩
  | 5 => ⟨S1024x1536, .f32⟩
  | 6 => ⟨S128, .f32⟩
  | 7 => ⟨S128, .f32⟩
  | 8 => ⟨S4096x128, .f32⟩
  | 9 => ⟨S4096x128, .f32⟩
  | 10 => ⟨S4x1024, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S4x1x1024, .f32⟩
  | 17 => ⟨S4x1x1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S4x4096x1024, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S_, .f32⟩
  | 32 => ⟨S4x4096x1, .f32⟩
  | 33 => ⟨S4x4096x1, .f32⟩
  | 34 => ⟨S4x4096x1, .f32⟩
  | 35 => ⟨S4x4096x1024, .f32⟩
  | 36 => ⟨S4x4096x1024, .f32⟩
  | 37 => ⟨S1x1x1024, .f32⟩
  | 38 => ⟨S4x4096x1024, .f32⟩
  | 39 => ⟨S4x4096x1024, .f32⟩
  | 40 => ⟨S_, .f32⟩
  | 41 => ⟨S4x1x1024, .f32⟩
  | 42 => ⟨S4x1x1024, .f32⟩
  | 43 => ⟨S4x4096x1024, .f32⟩
  | 44 => ⟨S4x4096x1024, .f32⟩
  | 45 => ⟨S4x4096x1024, .f32⟩
  | 46 => ⟨S4x4096x1024, .f32⟩
  | 47 => ⟨S4x4096x1536, .f32⟩
  | 48 => ⟨S4x4096x1024, .f32⟩
  | 49 => ⟨S4x4096x256, .f32⟩
  | 50 => ⟨S4x4096x256, .f32⟩
  | 51 => ⟨S4x4096x2x4x128, .f32⟩
  | 52 => ⟨S4x4096x2x4x128, .f32⟩
  | 53 => ⟨S_, .f32⟩
  | 54 => ⟨S4x4096x2x4, .f32⟩
  | 55 => ⟨S4x4096x2x4x1, .f32⟩
  | 56 => ⟨S_, .f32⟩
  | 57 => ⟨S4x4096x2x4x1, .f32⟩
  | 58 => ⟨S4x4096x2x4x1, .f32⟩
  | 59 => ⟨S_, .f32⟩
  | 60 => ⟨S4x4096x2x4x1, .f32⟩
  | 61 => ⟨S4x4096x2x4x1, .f32⟩
  | 62 => ⟨S4x4096x2x4x1, .f32⟩
  | 63 => ⟨S4x4096x2x4x128, .f32⟩
  | 64 => ⟨S4x4096x2x4x128, .f32⟩
  | 65 => ⟨S1x1x1x1x128, .f32⟩
  | 66 => ⟨S4x4096x2x4x128, .f32⟩
  | 67 => ⟨S4x4096x2x4x128, .f32⟩
  | 68 => ⟨S4x4096x2x128, .f32⟩
  | 69 => ⟨S4x4096x2x128, .f32⟩
  | 70 => ⟨S_, .f32⟩
  | 71 => ⟨S4x4096x2, .f32⟩
  | 72 => ⟨S4x4096x2x1, .f32⟩
  | 73 => ⟨S_, .f32⟩
  | 74 => ⟨S4x4096x2x1, .f32⟩
  | 75 => ⟨S4x4096x2x1, .f32⟩
  | 76 => ⟨S_, .f32⟩
  | 77 => ⟨S4x4096x2x1, .f32⟩
  | 78 => ⟨S4x4096x2x1, .f32⟩
  | 79 => ⟨S4x4096x2x1, .f32⟩
  | 80 => ⟨S4x4096x2x128, .f32⟩
  | 81 => ⟨S4x4096x2x128, .f32⟩
  | 82 => ⟨S1x1x1x128, .f32⟩
  | 83 => ⟨S4x4096x2x128, .f32⟩
  | 84 => ⟨S4x4096x2x128, .f32⟩
  | 85 => ⟨S4x4096x2x128, .f32⟩
  | 86 => ⟨S4096x1x1x128, .f32⟩
  | 87 => ⟨S4096x1x1x128, .f32⟩
  | 88 => ⟨S4x4096x2x4x32, .f32⟩
  | 89 => ⟨S4x4096x2x4x32, .f32⟩
  | 90 => ⟨S4x4096x2x4x32, .f32⟩
  | 91 => ⟨S4x4096x2x4x32, .f32⟩
  | 92 => ⟨S4x4096x2x4x32, .f32⟩
  | 93 => ⟨S4x4096x2x4x32, .f32⟩
  | 94 => ⟨S4x4096x2x4x128, .f32⟩
  | 95 => ⟨S1x4096x1x1x128, .f32⟩
  | 96 => ⟨S4x4096x2x4x128, .f32⟩
  | 97 => ⟨S4x4096x2x4x128, .f32⟩
  | 98 => ⟨S1x4096x1x1x128, .f32⟩
  | 99 => ⟨S4x4096x2x4x128, .f32⟩
  | 100 => ⟨S4x4096x2x4x128, .f32⟩
  | 101 => ⟨S4x4096x2x4x128, .f32⟩
  | 102 => ⟨S4096x1x128, .f32⟩
  | 103 => ⟨S4096x1x128, .f32⟩
  | 104 => ⟨S4x4096x2x32, .f32⟩
  | 105 => ⟨S4x4096x2x32, .f32⟩
  | 106 => ⟨S4x4096x2x32, .f32⟩
  | 107 => ⟨S4x4096x2x32, .f32⟩
  | 108 => ⟨S4x4096x2x32, .f32⟩
  | 109 => ⟨S4x4096x2x32, .f32⟩
  | 110 => ⟨S4x4096x2x128, .f32⟩
  | 111 => ⟨S1x4096x1x128, .f32⟩
  | 112 => ⟨S4x4096x2x128, .f32⟩
  | 113 => ⟨S4x4096x2x128, .f32⟩
  | 114 => ⟨S1x4096x1x128, .f32⟩
  | 115 => ⟨S4x4096x2x128, .f32⟩
  | 116 => ⟨S4x4096x2x128, .f32⟩
  | 117 => ⟨S4x4096x2x128, .f32⟩
  | 118 => ⟨S4x256x1024, .f32⟩
  | 119 => ⟨S_, .f32⟩
  | 120 => ⟨S4x256, .f32⟩
  | 121 => ⟨S4x256x1, .f32⟩
  | 122 => ⟨S_, .f32⟩
  | 123 => ⟨S4x256x1, .f32⟩
  | 124 => ⟨S4x256x1, .f32⟩
  | 125 => ⟨S_, .f32⟩
  | 126 => ⟨S4x256x1, .f32⟩
  | 127 => ⟨S4x256x1, .f32⟩
  | _ => ⟨S4x4096x1024, .f32⟩

abbrev hbmTy0_1 (i : Nat) : BufTy := match i % 128 with
  | 0 => ⟨S4x256x1, .f32⟩
  | 1 => ⟨S4x256x1024, .f32⟩
  | 2 => ⟨S4x256x1024, .f32⟩
  | 3 => ⟨S1x1x1024, .f32⟩
  | 4 => ⟨S4x256x1024, .f32⟩
  | 5 => ⟨S4x256x1024, .f32⟩
  | 6 => ⟨S_, .f32⟩
  | 7 => ⟨S1024, .f32⟩
  | 8 => ⟨S1024, .f32⟩
  | 9 => ⟨S1x1x1024, .f32⟩
  | 10 => ⟨S4x256x1024, .f32⟩
  | 11 => ⟨S4x256x1024, .f32⟩
  | 12 => ⟨S1x1x1024, .f32⟩
  | 13 => ⟨S4x256x1024, .f32⟩
  | 14 => ⟨S4x256x1024, .f32⟩
  | 15 => ⟨S4x256x1536, .f32⟩
  | 16 => ⟨S4x256x1024, .f32⟩
  | 17 => ⟨S4x256x256, .f32⟩
  | 18 => ⟨S4x256x256, .f32⟩
  | 19 => ⟨S4x256x2x4x128, .f32⟩
  | 20 => ⟨S4x256x2x4x128, .f32⟩
  | 21 => ⟨S_, .f32⟩
  | 22 => ⟨S4x256x2x4, .f32⟩
  | 23 => ⟨S4x256x2x4x1, .f32⟩
  | 24 => ⟨S_, .f32⟩
  | 25 => ⟨S4x256x2x4x1, .f32⟩
  | 26 => ⟨S4x256x2x4x1, .f32⟩
  | 27 => ⟨S_, .f32⟩
  | 28 => ⟨S4x256x2x4x1, .f32⟩
  | 29 => ⟨S4x256x2x4x1, .f32⟩
  | 30 => ⟨S4x256x2x4x1, .f32⟩
  | 31 => ⟨S4x256x2x4x128, .f32⟩
  | 32 => ⟨S4x256x2x4x128, .f32⟩
  | 33 => ⟨S1x1x1x1x128, .f32⟩
  | 34 => ⟨S4x256x2x4x128, .f32⟩
  | 35 => ⟨S4x256x2x4x128, .f32⟩
  | 36 => ⟨S4x256x2x128, .f32⟩
  | 37 => ⟨S4x256x2x128, .f32⟩
  | 38 => ⟨S_, .f32⟩
  | 39 => ⟨S4x256x2, .f32⟩
  | 40 => ⟨S4x256x2x1, .f32⟩
  | 41 => ⟨S_, .f32⟩
  | 42 => ⟨S4x256x2x1, .f32⟩
  | 43 => ⟨S4x256x2x1, .f32⟩
  | 44 => ⟨S_, .f32⟩
  | 45 => ⟨S4x256x2x1, .f32⟩
  | 46 => ⟨S4x256x2x1, .f32⟩
  | 47 => ⟨S4x256x2x1, .f32⟩
  | 48 => ⟨S4x256x2x128, .f32⟩
  | 49 => ⟨S4x256x2x128, .f32⟩
  | 50 => ⟨S1x1x1x128, .f32⟩
  | 51 => ⟨S4x256x2x128, .f32⟩
  | 52 => ⟨S4x256x2x128, .f32⟩
  | 53 => ⟨S4x256x2x128, .f32⟩
  | 54 => ⟨S16384x1024, .f32⟩
  | 55 => ⟨S1024x1024, .f32⟩
  | 56 => ⟨S17408x1024, .f32⟩
  | 57 => ⟨S_, .f32⟩
  | 58 => ⟨S17408x1024, .f32⟩
  | 59 => ⟨S17408x1024, .f32⟩
  | 60 => ⟨S16384x256, .f32⟩
  | 61 => ⟨S1024x256, .f32⟩
  | 62 => ⟨S17408x256, .f32⟩
  | 63 => ⟨S16384x2x128, .f32⟩
  | 64 => ⟨S1024x2x128, .f32⟩
  | 65 => ⟨S17408x2x128, .f32⟩
  | 66 => ⟨S_, .f32⟩
  | 67 => ⟨S17408x2x128, .f32⟩
  | 68 => ⟨S17408x2x256, .f32⟩
  | 69 => ⟨S17408x512, .f32⟩
  | 70 => ⟨S17408x1024, .bf16⟩
  | 71 => ⟨S17408x256, .bf16⟩
  | 72 => ⟨S17408x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_9 : Ref sig .tc := ⟨.hbm, 119, rfl⟩
abbrev main_v99 : Ref sig .tc := ⟨.hbm, 120, rfl⟩
abbrev main_v100 : Ref sig .tc := ⟨.hbm, 121, rfl⟩
abbrev main_cst_10 : Ref sig .tc := ⟨.hbm, 122, rfl⟩
abbrev main_v101 : Ref sig .tc := ⟨.hbm, 123, rfl⟩
abbrev main_v102 : Ref sig .tc := ⟨.hbm, 124, rfl⟩
abbrev main_cst_11 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_12 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_cst_13 : Ref sig .tc := ⟨.hbm, 149, rfl⟩
abbrev main_v125 : Ref sig .tc := ⟨.hbm, 150, rfl⟩
abbrev main_v126 : Ref sig .tc := ⟨.hbm, 151, rfl⟩
abbrev main_cst_14 : Ref sig .tc := ⟨.hbm, 152, rfl⟩
abbrev main_v127 : Ref sig .tc := ⟨.hbm, 153, rfl⟩
abbrev main_v128 : Ref sig .tc := ⟨.hbm, 154, rfl⟩
abbrev main_cst_15 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_16 : Ref sig .tc := ⟨.hbm, 166, rfl⟩
abbrev main_v139 : Ref sig .tc := ⟨.hbm, 167, rfl⟩
abbrev main_v140 : Ref sig .tc := ⟨.hbm, 168, rfl⟩
abbrev main_cst_17 : Ref sig .tc := ⟨.hbm, 169, rfl⟩
abbrev main_v141 : Ref sig .tc := ⟨.hbm, 170, rfl⟩
abbrev main_v142 : Ref sig .tc := ⟨.hbm, 171, rfl⟩
abbrev main_cst_18 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_cst_19 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_cst_20 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩

abbrev nD : Nat := 1
abbrev τ : Topo := Topo.v7x

variable {F : FTy → Type} [FloatOps F]
-- ==== Kernel6.lean ====
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x704 : Shape := ⟨2, ![1024, 704]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S4096x64 : Shape := ⟨2, ![4096, 64]⟩
abbrev S16384x1024 : Shape := ⟨2, ![16384, 1024]⟩
abbrev S1024x1024 : Shape := ⟨2, ![1024, 1024]⟩
abbrev S17408x1024 : Shape := ⟨2, ![17408, 1024]⟩
abbrev S_ : Shape := ⟨0, ![]⟩
abbrev S1024x64 : Shape := ⟨2, ![1024, 64]⟩
abbrev S1024x768 : Shape := ⟨2, ![1024, 768]⟩
abbrev S384x8x192 : Shape := ⟨3, ![384, 8, 192]⟩
abbrev S384x8x256 : Shape := ⟨3, ![384, 8, 256]⟩
abbrev S384x2048 : Shape := ⟨2, ![384, 2048]⟩
abbrev S256x8x2x128 : Shape := ⟨4, ![256, 8, 2, 128]⟩
abbrev S256x2x8x128 : Shape := ⟨4, ![256, 2, 8, 128]⟩
abbrev S3x6144 : Shape := ⟨2, ![3, 6144]⟩
abbrev S1x6144 : Shape := ⟨2, ![1, 6144]⟩
abbrev S8x6144 : Shape := ⟨2, ![8, 6144]⟩
abbrev S8x6x1x1024 : Shape := ⟨4, ![8, 6, 1, 1024]⟩
abbrev S1x384 : Shape := ⟨2, ![1, 384]⟩
abbrev S1x256 : Shape := ⟨2, ![1, 256]⟩
abbrev S4608x128 : Shape := ⟨2, ![4608, 128]⟩
abbrev S128 : Shape := ⟨1, ![128]⟩
abbrev S1x128 : Shape := ⟨2, ![1, 128]⟩
abbrev S1x1024 : Shape := ⟨2, ![1, 1024]⟩
abbrev S17408x2048 : Shape := ⟨2, ![17408, 2048]⟩
abbrev S512x1024 : Shape := ⟨2, ![512, 1024]⟩
abbrev S1x6x1x1024 : Shape := ⟨4, ![1, 6, 1, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x1x1x1024 : Shape := ⟨4, ![1, 1, 1, 1024]⟩
abbrev S512x768 : Shape := ⟨2, ![512, 768]⟩
abbrev S512x384 : Shape := ⟨2, ![512, 384]⟩
abbrev S512x256 : Shape := ⟨2, ![512, 256]⟩

abbrev nBuf : Space → Nat
  | .hbm => 85
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S1024, .f32⟩
  | .hbm, ⟨5, _⟩ => ⟨S1024x704, .f32⟩
  | .hbm, ⟨6, _⟩ => ⟨S384, .f32⟩
  | .hbm, ⟨7, _⟩ => ⟨S384x1536, .f32⟩
  | .hbm, ⟨8, _⟩ => ⟨S256, .f32⟩
  | .hbm, ⟨9, _⟩ => ⟨S256x2048, .f32⟩
  | .hbm, ⟨10, _⟩ => ⟨S4096x64, .f32⟩
  | .hbm, ⟨11, _⟩ => ⟨S4096x64, .f32⟩
  | .hbm, ⟨12, _⟩ => ⟨S16384x1024, .f32⟩
  | .hbm, ⟨13, _⟩ => ⟨S1024x1024, .f32⟩
  | .hbm, ⟨14, _⟩ => ⟨S17408x1024, .f32⟩
  | .hbm, ⟨15, _⟩ => ⟨S_, .f32⟩
  | .hbm, ⟨16, _⟩ => ⟨S1024x64, .f32⟩
  | .hbm, ⟨17, _⟩ => ⟨S1024x768, .f32⟩
  | .hbm, ⟨18, _⟩ => ⟨S384x8x192, .f32⟩
  | .hbm, ⟨19, _⟩ => ⟨S_, .i32⟩
  | .hbm, ⟨20, _⟩ => ⟨S_, .f32⟩
  | .hbm, ⟨21, _⟩ => ⟨S384x8x256, .f32⟩
  | .hbm, ⟨22, _⟩ => ⟨S384x2048, .f32⟩
  | .hbm, ⟨23, _⟩ => ⟨S256x8x2x128, .f32⟩
  | .hbm, ⟨24, _⟩ => ⟨S256x2x8x128, .f32⟩
  | .hbm, ⟨25, _⟩ => ⟨S256x2048, .f32⟩
  | .hbm, ⟨26, _⟩ => ⟨S1024x768, .bf16⟩
  | .hbm, ⟨27, _⟩ => ⟨S384x2048, .bf16⟩
  | .hbm, ⟨28, _⟩ => ⟨S256x2048, .bf16⟩
  | .hbm, ⟨29, _⟩ => ⟨S_, .f32⟩
  | .hbm, ⟨30, _⟩ => ⟨S3x6144, .f32⟩
  | .hbm, ⟨31, _⟩ => ⟨S1x6144, .f32⟩
  | .hbm, ⟨32, _⟩ => ⟨S8x6144, .f32⟩
  | .hbm, ⟨33, _⟩ => ⟨S8x6x1x1024, .f32⟩
  | .hbm, ⟨34, _⟩ => ⟨S1x384, .f32⟩
  | .hbm, ⟨35, _⟩ => ⟨S1x256, .f32⟩
  | .hbm, ⟨36, _⟩ => ⟨S_, .f32⟩
  | .hbm, ⟨37, _⟩ => ⟨S_, .f32⟩
  | .hbm, ⟨38, _⟩ => ⟨S4608x128, .f32⟩
  | .hbm, ⟨39, _⟩ => ⟨S_, .i32⟩
  | .hbm, ⟨40, _⟩ => ⟨S_, .f32⟩
  | .hbm, ⟨41, _⟩ => ⟨S4608x128, .f32⟩
  | .hbm, ⟨42, _⟩ => ⟨S128, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S_, .i32⟩
  | .hbm, ⟨58, _⟩ => ⟨S_, .i1⟩
  | .hbm, ⟨59, _⟩ => ⟨S128, .i1⟩
  | .hbm, ⟨60, _⟩ => ⟨S128, .i1⟩
  | .hbm, ⟨61, _⟩ => ⟨S128, .i1⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S1x128, .i1⟩
  | .hbm, ⟨69, _⟩ => ⟨S4608x128, .f32⟩
  | .hbm, ⟨70, _⟩ => ⟨S_, .f32⟩
  | .hbm, ⟨71, _⟩ => ⟨S_, .f32⟩
  | .hbm, ⟨72, _⟩ => ⟨S4608x128, .i1⟩
  | .hbm, ⟨73, _⟩ => ⟨S4608x128, .f32⟩
  | .hbm, ⟨74, _⟩ => ⟨S4608x128, .f32⟩
  | .hbm, ⟨75, _⟩ => ⟨S1x128, .i1⟩
  | .hbm, ⟨76, _⟩ => ⟨S_, .f32⟩
  | .hbm, ⟨77, _⟩ => ⟨S_, .f32⟩
  | .hbm, ⟨78, _⟩ => ⟨S4608x128, .i1⟩
  | .hbm, ⟨79, _⟩ => ⟨S4608x128, .f32⟩
  | .hbm, ⟨80, _⟩ => ⟨S4608x128, .f32⟩
  | .hbm, ⟨81, _⟩ => ⟨S1x1024, .f32⟩
  | .hbm, ⟨82, _⟩ => ⟨S17408x2048, .bf16⟩
  | .hbm, ⟨83, _⟩ => ⟨S17408x2048, .bf16⟩
  | .hbm, ⟨84, _⟩ => ⟨S17408x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1x1024, .f32⟩
  | .local _ .vmem, ⟨4, _⟩ => ⟨S1x6x1x1024, .f32⟩
  | .local _ .vmem, ⟨5, _⟩ => ⟨S1024x768, .bf16⟩
  | .local _ .vmem, ⟨6, _⟩ => ⟨S1x384, .f32⟩
  | .local _ .vmem, ⟨7, _⟩ => ⟨S384x2048, .bf16⟩
  | .local _ .vmem, ⟨8, _⟩ => ⟨S1x256, .f32⟩
  | .local _ .vmem, ⟨9, _⟩ => ⟨S256x2048, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_call1_v0 : Ref sig .tc := ⟨.hbm, 37, rfl⟩
abbrev main_v20 : Ref sig .tc := ⟨.hbm, 38, rfl⟩
abbrev main_c_2 : Ref sig .tc := ⟨.hbm, 39, rfl⟩
abbrev main_call2_v0 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_call3_v0 : Ref sig .tc := ⟨.hbm, 44, rfl⟩
abbrev main_call3_c : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_c_1 : Ref sig .tc := ⟨.hbm, 51, rfl⟩
abbrev main_call3_v5 : Ref sig .tc := ⟨.hbm, 52, rfl⟩
abbrev main_call3_v6 : Ref sig .tc := ⟨.hbm, 53, rfl⟩
abbrev main_call3_c_2 : Ref sig .tc := ⟨.hbm, 54, rfl⟩
abbrev main_call3_v7 : Ref sig .tc := ⟨.hbm, 55, rfl⟩
abbrev main_call3_v8 : Ref sig .tc := ⟨.hbm, 56, rfl⟩
abbrev main_call3_c_3 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_v12 : Ref sig .tc := ⟨.hbm, 61, rfl⟩
abbrev main_call3_v13 : Ref sig .tc := ⟨.hbm, 62, rfl⟩
abbrev main_call3_v14 : Ref sig .tc := ⟨.hbm, 63, rfl⟩
abbrev main_v23 : Ref sig .tc := ⟨.hbm, 64, rfl⟩
abbrev main_c_4 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_5 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v28 : Ref sig .tc := ⟨.hbm, 74, rfl⟩
abbrev main_v29 : Ref sig .tc := ⟨.hbm, 75, rfl⟩
abbrev main_cst_6 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_v30 : Ref sig .tc := ⟨.hbm, 80, rfl⟩
abbrev main_v31 : Ref sig .tc := ⟨.hbm, 81, rfl⟩
abbrev main_v32_0 : Ref sig .tc := ⟨.hbm, 82, rfl⟩
abbrev main_v32_1 : Ref sig .tc := ⟨.hbm, 83, rfl⟩
abbrev main_v32_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x704 : Shape := ⟨2, ![1024, 704]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S4096x64 : Shape := ⟨2, ![4096, 64]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x704 : Shape := ⟨3, ![4, 4096, 704]⟩
abbrev S4x4096x384 : Shape := ⟨3, ![4, 4096, 384]⟩
abbrev S4x4096x256 : Shape := ⟨3, ![4, 4096, 256]⟩
abbrev S4x4096x64 : Shape := ⟨3, ![4, 4096, 64]⟩
abbrev S1x1x384 : Shape := ⟨3, ![1, 1, 384]⟩
abbrev S4x4096x1536 : Shape := ⟨3, ![4, 4096, 1536]⟩
abbrev S4x4096x8x192 : Shape := ⟨4, ![4, 4096, 8, 192]⟩
abbrev S1x1x256 : Shape := ⟨3, ![1, 1, 256]⟩
abbrev S4x4096x2048 : Shape := ⟨3, ![4, 4096, 2048]⟩
abbrev S4x4096x8x256 : Shape := ⟨4, ![4, 4096, 8, 256]⟩
abbrev S4x4096x8x128 : Shape := ⟨4, ![4, 4096, 8, 128]⟩
abbrev S4x4096x8x64 : Shape := ⟨4, ![4, 4096, 8, 64]⟩
abbrev S4096x1x64 : Shape := ⟨3, ![4096, 1, 64]⟩
abbrev S4x4096x8x16 : Shape := ⟨4, ![4, 4096, 8, 16]⟩
abbrev S1x4096x1x64 : Shape := ⟨4, ![1, 4096, 1, 64]⟩
abbrev S4x4096x16 : Shape := ⟨3, ![4, 4096, 16]⟩
abbrev S1x4096x64 : Shape := ⟨3, ![1, 4096, 64]⟩
abbrev S4x4096x1x64 : Shape := ⟨4, ![4, 4096, 1, 64]⟩
abbrev S16384x2048 : Shape := ⟨2, ![16384, 2048]⟩
abbrev S4x256 : Shape := ⟨2, ![4, 256]⟩
abbrev S4x256x1 : Shape := ⟨3, ![4, 256, 1]⟩
abbrev S4x256x704 : Shape := ⟨3, ![4, 256, 704]⟩
abbrev S4x256x384 : Shape := ⟨3, ![4, 256, 384]⟩
abbrev S4x256x256 : Shape := ⟨3, ![4, 256, 256]⟩
abbrev S4x256x64 : Shape := ⟨3, ![4, 256, 64]⟩
abbrev S4x256x1536 : Shape := ⟨3, ![4, 256, 1536]⟩
abbrev S4x256x8x192 : Shape := ⟨4, ![4, 256, 8, 192]⟩
abbrev S4x256x2048 : Shape := ⟨3, ![4, 256, 2048]⟩
abbrev S4x256x8x256 : Shape := ⟨4, ![4, 256, 8, 256]⟩
abbrev S4x256x8x128 : Shape := ⟨4, ![4, 256, 8, 128]⟩
abbrev S4x256x8x64 : Shape := ⟨4, ![4, 256, 8, 64]⟩
abbrev S4x256x1x64 : Shape := ⟨4, ![4, 256, 1, 64]⟩
abbrev S1024x2048 : Shape := ⟨2, ![1024, 2048]⟩
abbrev S17408x2048 : Shape := ⟨2, ![17408, 2048]⟩

abbrev nBuf : Space → Nat
  | .hbm => 225
  | .vmem => 0
  | .smem => 0
  | _ => 0

abbrev hbmTy0_0 (i : Nat) : BufTy := match i % 128 with
  | 0 => ⟨S4x4096x1024, .f32⟩
  | 1 => ⟨S4x256x1024, .f32⟩
  | 2 => ⟨S4x6144, .f32⟩
  | 3 => ⟨S6144, .f32⟩
  | 4 => ⟨S1024, .f32⟩
  | 5 => ⟨S1024x704, .f32⟩
  | 6 => ⟨S384, .f32⟩
  | 7 => ⟨S384x1536, .f32⟩
  | 8 => ⟨S256, .f32⟩
  | 9 => ⟨S256x2048, .f32⟩
  | 10 => ⟨S4096x64, .f32⟩
  | 11 => ⟨S4096x64, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S4x1024, .f32⟩
  | 18 => ⟨S4x1x1024, .f32⟩
  | 19 => ⟨S4x1x1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S4x4096x1024, .f32⟩
  | 27 => ⟨S_, .f32⟩
  | 28 => ⟨S4x4096, .f32⟩
  | 29 => ⟨S4x4096x1, .f32⟩
  | 30 => ⟨S_, .f32⟩
  | 31 => ⟨S4x4096x1, .f32⟩
  | 32 => ⟨S4x4096x1, .f32⟩
  | 33 => ⟨S_, .f32⟩
  | 34 => ⟨S4x4096x1, .f32⟩
  | 35 => ⟨S4x4096x1, .f32⟩
  | 36 => ⟨S4x4096x1, .f32⟩
  | 37 => ⟨S4x4096x1024, .f32⟩
  | 38 => ⟨S4x4096x1024, .f32⟩
  | 39 => ⟨S1x1x1024, .f32⟩
  | 40 => ⟨S4x4096x1024, .f32⟩
  | 41 => ⟨S4x4096x1024, .f32⟩
  | 42 => ⟨S_, .f32⟩
  | 43 => ⟨S4x1x1024, .f32⟩
  | 44 => ⟨S4x1x1024, .f32⟩
  | 45 => ⟨S4x4096x1024, .f32⟩
  | 46 => ⟨S4x4096x1024, .f32⟩
  | 47 => ⟨S4x4096x1024, .f32⟩
  | 48 => ⟨S4x4096x1024, .f32⟩
  | 49 => ⟨S4x4096x704, .f32⟩
  | 50 => ⟨S4x4096x384, .f32⟩
  | 51 => ⟨S4x4096x256, .f32⟩
  | 52 => ⟨S4x4096x64, .f32⟩
  | 53 => ⟨S4x4096x384, .f32⟩
  | 54 => ⟨S_, .f32⟩
  | 55 => ⟨S4x4096, .f32⟩
  | 56 => ⟨S4x4096x1, .f32⟩
  | 57 => ⟨S_, .f32⟩
  | 58 => ⟨S4x4096x1, .f32⟩
  | 59 => ⟨S4x4096x1, .f32⟩
  | 60 => ⟨S_, .f32⟩
  | 61 => ⟨S4x4096x1, .f32⟩
  | 62 => ⟨S4x4096x1, .f32⟩
  | 63 => ⟨S4x4096x1, .f32⟩
  | 64 => ⟨S4x4096x384, .f32⟩
  | 65 => ⟨S4x4096x384, .f32⟩
  | 66 => ⟨S1x1x384, .f32⟩
  | 67 => ⟨S4x4096x384, .f32⟩
  | 68 => ⟨S4x4096x384, .f32⟩
  | 69 => ⟨S4x4096x1536, .f32⟩
  | 70 => ⟨S4x4096x8x192, .f32⟩
  | 71 => ⟨S4x4096x256, .f32⟩
  | 72 => ⟨S_, .f32⟩
  | 73 => ⟨S4x4096, .f32⟩
  | 74 => ⟨S4x4096x1, .f32⟩
  | 75 => ⟨S_, .f32⟩
  | 76 => ⟨S4x4096x1, .f32⟩
  | 77 => ⟨S4x4096x1, .f32⟩
  | 78 => ⟨S_, .f32⟩
  | 79 => ⟨S4x4096x1, .f32⟩
  | 80 => ⟨S4x4096x1, .f32⟩
  | 81 => ⟨S4x4096x1, .f32⟩
  | 82 => ⟨S4x4096x256, .f32⟩
  | 83 => ⟨S4x4096x256, .f32⟩
  | 84 => ⟨S1x1x256, .f32⟩
  | 85 => ⟨S4x4096x256, .f32⟩
  | 86 => ⟨S4x4096x256, .f32⟩
  | 87 => ⟨S4x4096x2048, .f32⟩
  | 88 => ⟨S4x4096x8x256, .f32⟩
  | 89 => ⟨S4x4096x8x128, .f32⟩
  | 90 => ⟨S4x4096x8x64, .f32⟩
  | 91 => ⟨S4x4096x8x128, .f32⟩
  | 92 => ⟨S4x4096x8x128, .f32⟩
  | 93 => ⟨S4096x1x64, .f32⟩
  | 94 => ⟨S4096x1x64, .f32⟩
  | 95 => ⟨S4x4096x8x16, .f32⟩
  | 96 => ⟨S4x4096x8x16, .f32⟩
  | 97 => ⟨S4x4096x8x16, .f32⟩
  | 98 => ⟨S4x4096x8x16, .f32⟩
  | 99 => ⟨S4x4096x8x16, .f32⟩
  | 100 => ⟨S4x4096x8x16, .f32⟩
  | 101 => ⟨S4x4096x8x64, .f32⟩
  | 102 => ⟨S1x4096x1x64, .f32⟩
  | 103 => ⟨S4x4096x8x64, .f32⟩
  | 104 => ⟨S4x4096x8x64, .f32⟩
  | 105 => ⟨S1x4096x1x64, .f32⟩
  | 106 => ⟨S4x4096x8x64, .f32⟩
  | 107 => ⟨S4x4096x8x64, .f32⟩
  | 108 => ⟨S4x4096x8x64, .f32⟩
  | 109 => ⟨S4x4096x16, .f32⟩
  | 110 => ⟨S4x4096x16, .f32⟩
  | 111 => ⟨S4x4096x16, .f32⟩
  | 112 => ⟨S4x4096x16, .f32⟩
  | 113 => ⟨S4x4096x16, .f32⟩
  | 114 => ⟨S4x4096x16, .f32⟩
  | 115 => ⟨S4x4096x64, .f32⟩
  | 116 => ⟨S1x4096x64, .f32⟩
  | 117 => ⟨S4x4096x64, .f32⟩
  | 118 => ⟨S4x4096x64, .f32⟩
  | 119 => ⟨S1x4096x64, .f32⟩
  | 120 => ⟨S4x4096x64, .f32⟩
  | 121 => ⟨S4x4096x64, .f32⟩
  | 122 => ⟨S4x4096x64, .f32⟩
  | 123 => ⟨S_, .f32⟩
  | 124 => ⟨S4x4096x8x64, .f32⟩
  | 125 => ⟨S4x4096x1x64, .f32⟩
  | 126 => ⟨S4x4096x8x64, .f32⟩
  | 127 => ⟨S4x4096x8x256, .f32⟩
  | _ => ⟨S4x4096x1024, .f32⟩

abbrev hbmTy0_1 (i : Nat) : BufTy := match i % 128 with
  | 0 => ⟨S4x4096x8x256, .f32⟩
  | 1 => ⟨S_, .f32⟩
  | 2 => ⟨S4x4096x8x128, .f32⟩
  | 3 => ⟨S4x4096x8x256, .f32⟩
  | 4 => ⟨S16384x2048, .f32⟩
  | 5 => ⟨S16384x2048, .f32⟩
  | 6 => ⟨S16384x2048, .f32⟩
  | 7 => ⟨S4x256x1024, .f32⟩
  | 8 => ⟨S_, .f32⟩
  | 9 => ⟨S4x256, .f32⟩
  | 10 => ⟨S4x256x1, .f32⟩
  | 11 => ⟨S_, .f32⟩
  | 12 => ⟨S4x256x1, .f32⟩
  | 13 => ⟨S4x256x1, .f32⟩
  | 14 => ⟨S_, .f32⟩
  | 15 => ⟨S4x256x1, .f32⟩
  | 16 => ⟨S4x256x1, .f32⟩
  | 17 => ⟨S4x256x1, .f32⟩
  | 18 => ⟨S4x256x1024, .f32⟩
  | 19 => ⟨S4x256x1024, .f32⟩
  | 20 => ⟨S1x1x1024, .f32⟩
  | 21 => ⟨S4x256x1024, .f32⟩
  | 22 => ⟨S4x256x1024, .f32⟩
  | 23 => ⟨S_, .f32⟩
  | 24 => ⟨S1024, .f32⟩
  | 25 => ⟨S1024, .f32⟩
  | 26 => ⟨S1x1x1024, .f32⟩
  | 27 => ⟨S4x256x1024, .f32⟩
  | 28 => ⟨S4x256x1024, .f32⟩
  | 29 => ⟨S1x1x1024, .f32⟩
  | 30 => ⟨S4x256x1024, .f32⟩
  | 31 => ⟨S4x256x1024, .f32⟩
  | 32 => ⟨S4x256x704, .f32⟩
  | 33 => ⟨S4x256x384, .f32⟩
  | 34 => ⟨S4x256x256, .f32⟩
  | 35 => ⟨S4x256x64, .f32⟩
  | 36 => ⟨S4x256x384, .f32⟩
  | 37 => ⟨S_, .f32⟩
  | 38 => ⟨S4x256, .f32⟩
  | 39 => ⟨S4x256x1, .f32⟩
  | 40 => ⟨S_, .f32⟩
  | 41 => ⟨S4x256x1, .f32⟩
  | 42 => ⟨S4x256x1, .f32⟩
  | 43 => ⟨S_, .f32⟩
  | 44 => ⟨S4x256x1, .f32⟩
  | 45 => ⟨S4x256x1, .f32⟩
  | 46 => ⟨S4x256x1, .f32⟩
  | 47 => ⟨S4x256x384, .f32⟩
  | 48 => ⟨S4x256x384, .f32⟩
  | 49 => ⟨S1x1x384, .f32⟩
  | 50 => ⟨S4x256x384, .f32⟩
  | 51 => ⟨S4x256x384, .f32⟩
  | 52 => ⟨S4x256x1536, .f32⟩
  | 53 => ⟨S4x256x8x192, .f32⟩
  | 54 => ⟨S4x256x256, .f32⟩
  | 55 => ⟨S_, .f32⟩
  | 56 => ⟨S4x256, .f32⟩
  | 57 => ⟨S4x256x1, .f32⟩
  | 58 => ⟨S_, .f32⟩
  | 59 => ⟨S4x256x1, .f32⟩
  | 60 => ⟨S4x256x1, .f32⟩
  | 61 => ⟨S_, .f32⟩
  | 62 => ⟨S4x256x1, .f32⟩
  | 63 => ⟨S4x256x1, .f32⟩
  | 64 => ⟨S4x256x1, .f32⟩
  | 65 => ⟨S4x256x256, .f32⟩
  | 66 => ⟨S4x256x256, .f32⟩
  | 67 => ⟨S1x1x256, .f32⟩
  | 68 => ⟨S4x256x256, .f32⟩
  | 69 => ⟨S4x256x256, .f32⟩
  | 70 => ⟨S4x256x2048, .f32⟩
  | 71 => ⟨S4x256x8x256, .f32⟩
  | 72 => ⟨S4x256x8x128, .f32⟩
  | 73 => ⟨S4x256x8x64, .f32⟩
  | 74 => ⟨S4x256x8x128, .f32⟩
  | 75 => ⟨S4x256x8x128, .f32⟩
  | 76 => ⟨S_, .f32⟩
  | 77 => ⟨S4x256x8x64, .f32⟩
  | 78 => ⟨S4x256x1x64, .f32⟩
  | 79 => ⟨S4x256x8x64, .f32⟩
  | 80 => ⟨S4x256x8x256, .f32⟩
  | 81 => ⟨S4x256x8x256, .f32⟩
  | 82 => ⟨S_, .f32⟩
  | 83 => ⟨S4x256x8x128, .f32⟩
  | 84 => ⟨S4x256x8x256, .f32⟩
  | 85 => ⟨S1024x2048, .f32⟩
  | 86 => ⟨S1024x2048, .f32⟩
  | 87 => ⟨S1024x2048, .f32⟩
  | 88 => ⟨S17408x2048, .f32⟩
  | 89 => ⟨S_, .f32⟩
  | 90 => ⟨S17408x2048, .f32⟩
  | 91 => ⟨S17408x2048, .f32⟩
  | 92 => ⟨S17408x2048, .f32⟩
  | 93 => ⟨S17408x2048, .f32⟩
  | 94 => ⟨S17408x2048, .bf16⟩
  | 95 => ⟨S17408x2048, .bf16⟩
  | 96 => ⟨S17408x2048, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_9 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_10 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_11 : Ref sig .tc := ⟨.hbm, 136, rfl⟩
abbrev main_v112 : Ref sig .tc := ⟨.hbm, 137, rfl⟩
abbrev main_v113 : Ref sig .tc := ⟨.hbm, 138, rfl⟩
abbrev main_cst_12 : Ref sig .tc := ⟨.hbm, 139, rfl⟩
abbrev main_v114 : Ref sig .tc := ⟨.hbm, 140, rfl⟩
abbrev main_v115 : Ref sig .tc := ⟨.hbm, 141, rfl⟩
abbrev main_cst_13 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_14 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_cst_15 : Ref sig .tc := ⟨.hbm, 165, rfl⟩
abbrev main_v137 : Ref sig .tc := ⟨.hbm, 166, rfl⟩
abbrev main_v138 : Ref sig .tc := ⟨.hbm, 167, rfl⟩
abbrev main_cst_16 : Ref sig .tc := ⟨.hbm, 168, rfl⟩
abbrev main_v139 : Ref sig .tc := ⟨.hbm, 169, rfl⟩
abbrev main_v140 : Ref sig .tc := ⟨.hbm, 170, rfl⟩
abbrev main_cst_17 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_18 : Ref sig .tc := ⟨.hbm, 183, rfl⟩
abbrev main_v152 : Ref sig .tc := ⟨.hbm, 184, rfl⟩
abbrev main_v153 : Ref sig .tc := ⟨.hbm, 185, rfl⟩
abbrev main_cst_19 : Ref sig .tc := ⟨.hbm, 186, rfl⟩
abbrev main_v154 : Ref sig .tc := ⟨.hbm, 187, rfl⟩
abbrev main_v155 : Ref sig .tc := ⟨.hbm, 188, rfl⟩
abbrev main_cst_20 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_cst_21 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_cst_22 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_cst_23 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩

abbrev nD : Nat := 1
abbrev τ : Topo := Topo.v7x

variable {F : FTy → Type} [FloatOps F]
-- ==== Proof.Scratch.lean ====
/- What the attention kernel reads back from its two scratch buffers, whichever of the four slots it uses and whatever
   was stored there before: the scores of a chunk are the two products side by side, its weights are read in two parts. -/
module

public import Idealize.ShloMosaic.Lib.WritesUnit
public import Idealize.ShloMosaic.Lib.Pipeline.FrameBody
public import Idealize.ShloMosaic.Lib.Pipeline.Value
public import Idealize.ShloMosaic.Lib.Pointwise

@[expose] public section

noncomputable section

namespace Cert.Scratch

open Idealize.ShloMosaic

variable {Val : EltTy → Type} [∀ e, Nonempty (Val e)] {e : EltTy} {sig : RefSig} {κ : Kind} {sp : Space}

/-- The shape of either scratch buffer: four slots of 256 rows of 4352 positions. -/
abbrev SBuf : Shape := ⟨3, ![4, 256, 4352]⟩

/-- Two blocks of columns side by side. -/
def join {α : Type} (A : (⟨3, ![1, 256, 4096]⟩ : Shape).Idx → α) (B : (⟨3, ![1, 256, 256]⟩ : Shape).Idx → α) :
    (⟨3, ![1, 256, 4352]⟩ : Shape).Idx → α := fun j =>
  if h : (j 2).val < 4096 then A (ix3 0 (j 1) ⟨(j 2).val, h⟩)
  else B (ix3 0 (j 1) ⟨(j 2).val - 4096, by have : (j 2).val < 4352 := (j 2).isLt; omega⟩)

/-- The columns from `o` on. -/
def cols {α : Type} (o n : ℕ) (h : o + n ≤ 4352) (P : (⟨3, ![1, 256, 4352]⟩ : Shape).Idx → α) : (⟨3, ![1, 256, n]⟩ : Shape).Idx → α :=
  fun j => P (ix3 0 (j 1) ⟨o + (j 2).val, by have : (j 2).val < n := (j 2).isLt; omega⟩)

theorem canon_unit_of_mem {s : Shape} {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy, View.canon_cons_emb]

theorem canon_unit_of_not_mem {s : Shape} {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  rw [View.canon_cons_of_not_mem]
  rw [Rect.mem_set_unit]
  intro hall
  have := hall a
  omega

/-- The whole slot read after its two parts were stored. -/
theorem read_join (v : View sig κ sp SBuf e) (n : ℕ)
    (hB : ∀ a, (![n, 0, 4096] : Fin 3 → ℕ) a + (![1, 256, 256] : Fin 3 → ℕ) a ≤ SBuf.size a)
    (hA : ∀ a, (![n, 0, 0] : Fin 3 → ℕ) a + (![1, 256, 4096] : Fin 3 → ℕ) a ≤ SBuf.size a)
    (hR : ∀ a, (![n, 0, 0] : Fin 3 → ℕ) a + (![1, 256, 4352] : Fin 3 → ℕ) a ≤ SBuf.size a)
    (A : (⟨3, ![1, 256, 4096]⟩ : Shape).Idx → Val e) (B : (⟨3, ![1, 256, 256]⟩ : Shape).Idx → Val e)
    (L : List (View.Piece Val SBuf e)) :
    v.readCov ((⟨Rect.unit (s := SBuf) ![n, 0, 4096] ![1, 256, 256] hB, B⟩ : View.Piece Val SBuf e)
        :: (⟨Rect.unit (s := SBuf) ![n, 0, 0] ![1, 256, 4096] hA, A⟩ : View.Piece Val SBuf e) :: L)
      (Rect.unit (s := SBuf) ![n, 0, 0] ![1, 256, 4352] hR).toLoadRect = join A B := by
  rw [View.readCov_eq_canon']
  funext j
  have h0 : (j 0).val = 0 := by have : (j 0).val < 1 := (j 0).isLt; omega
  have h1 : (j 1).val < 256 := (j 1).isLt
  have h2 : (j 2).val < 4352 := (j 2).isLt
  have e0 : (((Rect.unit (s := SBuf) ![n, 0, 0] ![1, 256, 4352] hR).toLoadRect.idx j) 0).val = n + 1 * (j 0).val := rfl
  have e1 : (((Rect.unit (s := SBuf) ![n, 0, 0] ![1, 256, 4352] hR).toLoadRect.idx j) 1).val = 0 + 1 * (j 1).val := rfl
  have e2 : (((Rect.unit (s := SBuf) ![n, 0, 0] ![1, 256, 4352] hR).toLoadRect.idx j) 2).val = 0 + 1 * (j 2).val := rfl
  generalize (Rect.unit (s := SBuf) ![n, 0, 0] ![1, 256, 4352] hR).toLoadRect.idx j = y at e0 e1 e2 ⊢
  unfold join
  by_cases h : (j 2).val < 4096
  · rw [dif_pos h, canon_unit_of_not_mem (s := SBuf) (off := ![n, 0, 4096]) (size := ![1, 256, 256]) hB B _ y 2 (Or.inl (by rw [e2]; show _ < 4096; omega))]
    refine canon_unit_of_mem (s := SBuf) (off := ![n, 0, 0]) (size := ![1, 256, 4096]) hA A L y (ix3 0 (j 1) ⟨(j 2).val, h⟩) ?_
    intro a
    fin_cases a
    · show _ = n + 0; exact e0.trans (by omega)
    · show _ = 0 + (j 1).val; exact e1.trans (by omega)
    · show _ = 0 + (j 2).val; exact e2.trans (by omega)
  · rw [dif_neg h]
    refine canon_unit_of_mem (s := SBuf) (off := ![n, 0, 4096]) (size := ![1, 256, 256]) hB B _ y (ix3 0 (j 1) ⟨(j 2).val - 4096, by omega⟩) ?_
    intro a
    fin_cases a
    · show _ = n + 0; exact e0.trans (by omega)
    · show _ = 0 + (j 1).val; exact e1.trans (by omega)
    · show _ = 4096 + ((j 2).val - 4096); exact e2.trans (by omega)

/-- Some columns of the slot read after the whole slot was stored. -/
theorem read_cols (v : View sig κ sp SBuf e) (n o k : ℕ)
    (hP : ∀ a, (![n, 0, 0] : Fin 3 → ℕ) a + (![1, 256, 4352] : Fin 3 → ℕ) a ≤ SBuf.size a)
    (hR : ∀ a, (![n, 0, o] : Fin 3 → ℕ) a + (![1, 256, k] : Fin 3 → ℕ) a ≤ SBuf.size a) (hk : o + k ≤ 4352)
    (P : (⟨3, ![1, 256, 4352]⟩ : Shape).Idx → Val e) (L : List (View.Piece Val SBuf e)) :
    v.readCov ((⟨Rect.unit (s := SBuf) ![n, 0, 0] ![1, 256, 4352] hP, P⟩ : View.Piece Val SBuf e) :: L)
      (Rect.unit (s := SBuf) ![n, 0, o] ![1, 256, k] hR).toLoadRect = cols o k hk P := by
  rw [View.readCov_eq_canon']
  funext j
  have h0 : (j 0).val = 0 := by have : (j 0).val < 1 := (j 0).isLt; omega
  have h2 : (j 2).val < k := (j 2).isLt
  have e0 : (((Rect.unit (s := SBuf) ![n, 0, o] ![1, 256, k] hR).toLoadRect.idx j) 0).val = n + 1 * (j 0).val := rfl
  have e1 : (((Rect.unit (s := SBuf) ![n, 0, o] ![1, 256, k] hR).toLoadRect.idx j) 1).val = 0 + 1 * (j 1).val := rfl
  have e2 : (((Rect.unit (s := SBuf) ![n, 0, o] ![1, 256, k] hR).toLoadRect.idx j) 2).val = o + 1 * (j 2).val := rfl
  generalize (Rect.unit (s := SBuf) ![n, 0, o] ![1, 256, k] hR).toLoadRect.idx j = y at e0 e1 e2 ⊢
  refine canon_unit_of_mem (s := SBuf) (off := ![n, 0, 0]) (size := ![1, 256, 4352]) hP P L y (ix3 0 (j 1) ⟨o + (j 2).val, by omega⟩) ?_
  intro a
  fin_cases a
  · show _ = n + 0; exact e0.trans (by omega)
  · show _ = 0 + (j 1).val; exact e1.trans (by omega)
  · show _ = 0 + (o + (j 2).val); exact e2.trans (by omega)

end Cert.Scratch

end
-- ==== Proof.Softmax.lean ====
/- The equation between the two ways of computing one entry of the attention, over the extended reals: weights by powers
   of two with one division of the two sums at the end, and weights by the exponential, each divided by their sum. -/
module

public import Idealize.ShloMosaic.PureOps.Ideal
public import Idealize.ShloMosaic.Lib.IdealHost

@[expose] public section

noncomputable section

namespace Cert.Softmax

open Idealize.ShloMosaic

/-- A number that is neither infinity. -/
def IsReal (x : EReal) : Prop := x ≠ ⊥ ∧ x ≠ ⊤

theorem fin_coe (r : ℝ) : IsReal (r : EReal) := ⟨EReal.coe_ne_bot r, EReal.coe_ne_top r⟩

theorem IsReal.coe {x : EReal} (h : IsReal x) : ((x.toReal : ℝ) : EReal) = x := EReal.coe_toReal h.2 h.1

/-- A sum of reals, read as extended reals, is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor moves into a sum of extended reals, whatever the summands. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The largest of finitely many finite numbers, taken from below, is finite. -/
theorem fold_max_fin {n : ℕ} (hn : 0 < n) (f : Fin n → EReal) (hf : ∀ k, IsReal (f k)) :
    IsReal (Finset.univ.fold max (⊥ : EReal) f) := by
  constructor
  · intro h
    have h0 : f ⟨0, hn⟩ ≤ Finset.univ.fold max (⊥ : EReal) f :=
      (Finset.le_fold_max (f ⟨0, hn⟩)).mpr (Or.inr ⟨⟨0, hn⟩, Finset.mem_univ _, le_rfl⟩)
    rw [h] at h0
    exact (hf _).1 (le_bot_iff.mp h0)
  · intro h
    have h0 : (⊤ : EReal) ≤ Finset.univ.fold max (⊥ : EReal) f := h ▸ le_rfl
    rcases (Finset.le_fold_max _).mp h0 with h | ⟨k, -, h⟩
    · exact absurd (le_bot_iff.mp h) (by simp)
    · exact (hf k).2 (top_le_iff.mp h)

theorem div_coe (x : EReal) {z : ℝ} (hz : z ≠ 0) : Ideal.div x (z : EReal) = x * ((z⁻¹ : ℝ) : EReal) := by
  unfold Ideal.div
  rw [if_neg (by exact_mod_cast hz), EReal.coe_inv]

theorem exp2_sub (x M : ℝ) : Ideal.exp2 ((x / Real.log 2 : ℝ) - (M : EReal)) = ((Real.exp x * (Real.exp (M * Real.log 2))⁻¹ : ℝ) : EReal) := by
  rw [← EReal.coe_sub, Ideal.exp2_coe]
  congr 1
  show (2 : ℝ) ^ (x / Real.log 2 - M) = _
  rw [Real.rpow_def_of_pos (by norm_num), ← Real.exp_neg, ← Real.exp_add]
  congr 1
  have : Real.log 2 ≠ 0 := (Real.log_pos (by norm_num)).ne'
  field_simp
  ring

theorem exp_sub (x M : ℝ) : Ideal.exp ((x : EReal) - (M : EReal)) = ((Real.exp x * (Real.exp M)⁻¹ : ℝ) : EReal) := by
  rw [← EReal.coe_sub, Ideal.exp_coe, ← Real.exp_neg, ← Real.exp_add, sub_eq_add_neg]

section
variable {ι κ : Type} [Fintype ι] [Fintype κ]

/-- Weights in which a common positive factor was left in, summed against values and divided by their sum, are the
    weights without that factor, each divided by the sum of the weights first. -/
theorem weighted [Nonempty ι] (e : ι → ℝ) (e' : κ → ℝ) (he : ∀ i, 0 < e i) (he' : ∀ i, 0 < e' i) (v : ι → EReal) (w : κ → EReal)
    {c : ℝ} (hc : 0 < c) :
    Ideal.div (∑ i, ((e i * c : ℝ) : EReal) * v i + ∑ i, ((e' i * c : ℝ) : EReal) * w i)
        (((∑ i, e i * c) + ∑ i, e' i * c : ℝ) : EReal)
      = ∑ i, ((e i / (∑ i, e i + ∑ i, e' i) : ℝ) : EReal) * v i + ∑ i, ((e' i / (∑ i, e i + ∑ i, e' i) : ℝ) : EReal) * w i := by
  have hS : 0 < ∑ i, e i + ∑ i, e' i :=
    add_pos_of_pos_of_nonneg (Finset.sum_pos (fun i _ => he i) Finset.univ_nonempty) (Finset.sum_nonneg fun i _ => (he' i).le)
  have hZ : (∑ i, e i * c) + ∑ i, e' i * c = (∑ i, e i + ∑ i, e' i) * c := by
    rw [← Finset.sum_mul, ← Finset.sum_mul, add_mul]
  have hi : 0 ≤ ((∑ i, e i + ∑ i, e' i) * c)⁻¹ := (inv_pos.mpr (mul_pos hS hc)).le
  rw [hZ, div_coe _ (mul_pos hS hc).ne',
    EReal.right_distrib_of_nonneg_of_ne_top (EReal.coe_nonneg.mpr hi) (EReal.coe_ne_top _), sum_mul_coe _ _ hi, sum_mul_coe _ _ hi]
  have key : ∀ (x : ℝ) (y : EReal), ((x * c : ℝ) : EReal) * y * ((((∑ i, e i + ∑ i, e' i) * c)⁻¹ : ℝ) : EReal)
      = ((x / (∑ i, e i + ∑ i, e' i) : ℝ) : EReal) * y := fun x y => by
    rw [mul_right_comm, ← EReal.coe_mul]
    congr 2
    field_simp
  simp only [key]

/-- One entry of the attention, both ways: the scores are the reals `a` over one part of the positions and `b` over the
    other, the values `v` and `w`, and each way subtracts a real of its own from the scores. -/
theorem entry [Nonempty ι] (a : ι → ℝ) (b : κ → ℝ) (v : ι → EReal) (w : κ → EReal) (M N : ℝ) :
    Ideal.div (∑ i, Ideal.exp2 ((a i / Real.log 2 : ℝ) - (M : EReal)) * v i + ∑ i, Ideal.exp2 ((b i / Real.log 2 : ℝ) - (M : EReal)) * w i)
        (∑ i, Ideal.exp2 ((a i / Real.log 2 : ℝ) - (M : EReal)) + ∑ i, Ideal.exp2 ((b i / Real.log 2 : ℝ) - (M : EReal)))
      = ∑ i, Ideal.div (Ideal.exp ((b i : EReal) - N)) (∑ i, Ideal.exp ((b i : EReal) - N) + ∑ i, Ideal.exp ((a i : EReal) - N)) * w i
        + ∑ i, Ideal.div (Ideal.exp ((a i : EReal) - N)) (∑ i, Ideal.exp ((b i : EReal) - N) + ∑ i, Ideal.exp ((a i : EReal) - N)) * v i := by
  simp only [exp2_sub, exp_sub, sum_coe, ← EReal.coe_add]
  rw [weighted _ _ (fun i => Real.exp_pos _) (fun i => Real.exp_pos _) v w (inv_pos.mpr (Real.exp_pos _)), add_comm]
  have hS : 0 < ∑ i, Real.exp (a i) + ∑ i, Real.exp (b i) :=
    add_pos_of_pos_of_nonneg (Finset.sum_pos (fun i _ => Real.exp_pos _) Finset.univ_nonempty)
      (Finset.sum_nonneg fun i _ => (Real.exp_pos _).le)
  have hZ : (∑ i, Real.exp (b i) * (Real.exp N)⁻¹ + ∑ i, Real.exp (a i) * (Real.exp N)⁻¹)
      = (∑ i, Real.exp (a i) + ∑ i, Real.exp (b i)) * (Real.exp N)⁻¹ := by
    rw [← Finset.sum_mul, ← Finset.sum_mul, ← add_mul, add_comm]
  have hN : 0 < (Real.exp N)⁻¹ := inv_pos.mpr (Real.exp_pos _)
  have key : ∀ x : ℝ, Ideal.div ((x * (Real.exp N)⁻¹ : ℝ) : EReal) (((∑ i, Real.exp (a i) + ∑ i, Real.exp (b i)) * (Real.exp N)⁻¹ : ℝ) : EReal)
      = ((x / (∑ i, Real.exp (a i) + ∑ i, Real.exp (b i)) : ℝ) : EReal) := fun x => by
    rw [div_coe _ (mul_pos hS hN).ne', ← EReal.coe_mul]
    congr 1
    field_simp
  rw [hZ]
  simp only [key]

end

end Cert.Softmax

end
-- ==== Proof.Row.lean ====
/- One entry of the attention as the kernel computes it for one row of queries, for any number of features, and as a
   softmax: both programs' blocks and both references are read as these. -/
module

public import proofs.«01_k».proof.Proof.Scratch
public import proofs.«01_k».proof.Proof.Softmax

@[expose] public section

noncomputable section

namespace Cert.Row

open Idealize.ShloMosaic Cert.Scratch Cert.Softmax

variable {n : ℕ}

/-- The product of a query with one key: a latent key, then a context key. -/
def score (q : Fin n → EReal) (kl : Fin 4096 → Fin n → EReal) (kc : Fin 256 → Fin n → EReal) (k : Fin 4352) : EReal :=
  if h : k.val < 4096 then ∑ x, q x * kl ⟨k.val, h⟩ x else ∑ x, q x * kc ⟨k.val - 4096, by omega⟩ x

/-- The greatest product of a query. -/
def top (q : Fin n → EReal) (kl : Fin 4096 → Fin n → EReal) (kc : Fin 256 → Fin n → EReal) : EReal :=
  Finset.univ.fold max ⊥ (score q kl kc)

/-- The weights of a query summed against column `j` of the values. -/
def weigh (q : Fin n → EReal) (kl : Fin 4096 → Fin n → EReal) (kc : Fin 256 → Fin n → EReal)
    (vl : Fin 4096 → Fin 256 → EReal) (vc : Fin 256 → Fin 256 → EReal) (j : Fin 256) : EReal :=
  ∑ k, Ideal.exp2 ((∑ x, q x * kl k x) - top q kl kc) * vl k j + ∑ k, Ideal.exp2 ((∑ x, q x * kc k x) - top q kl kc) * vc k j

/-- Column `j` of the attention of a query: its weighted sum over the one that column `128 + j` holds. -/
def out (q : Fin n → EReal) (kl : Fin 4096 → Fin n → EReal) (kc : Fin 256 → Fin n → EReal)
    (vl : Fin 4096 → Fin 256 → EReal) (vc : Fin 256 → Fin 256 → EReal) (j : Fin 128) : EReal :=
  Ideal.div (weigh q kl kc vl vc ⟨j.val, by omega⟩) (weigh q kl kc vl vc ⟨128 + j.val, by omega⟩)

/-- The same column as a softmax of the scores, context positions `b` and latent positions `a`, a real taken off all. -/
def soft (a : Fin 4096 → ℝ) (b : Fin 256 → ℝ) (N : EReal) (v : Fin 4096 → EReal) (w : Fin 256 → EReal) : EReal :=
  ∑ i, Ideal.div (Ideal.exp ((b i : EReal) - N)) (∑ i, Ideal.exp ((b i : EReal) - N) + ∑ i, Ideal.exp ((a i : EReal) - N)) * w i
    + ∑ i, Ideal.div (Ideal.exp ((a i : EReal) - N)) (∑ i, Ideal.exp ((b i : EReal) - N) + ∑ i, Ideal.exp ((a i : EReal) - N)) * v i

theorem out_eq_soft (q : Fin n → EReal) (kl : Fin 4096 → Fin n → EReal) (kc : Fin 256 → Fin n → EReal)
    (vl : Fin 4096 → Fin 256 → EReal) (vc : Fin 256 → Fin 256 → EReal) (j : Fin 128) (a : Fin 4096 → ℝ) (b : Fin 256 → ℝ) (N : EReal)
    (ha : ∀ k, ∑ x, q x * kl k x = ((a k / Real.log 2 : ℝ) : EReal)) (hb : ∀ k, ∑ x, q x * kc k x = ((b k / Real.log 2 : ℝ) : EReal))
    (hN : IsReal N) (hl : ∀ k, vl k ⟨128 + j.val, by omega⟩ = 1) (hc : ∀ k, vc k ⟨128 + j.val, by omega⟩ = 1) :
    out q kl kc vl vc j = soft a b N (fun k => vl k ⟨j.val, by omega⟩) (fun k => vc k ⟨j.val, by omega⟩) := by
  have hM : IsReal (top q kl kc) := fold_max_fin (by norm_num) _ fun k => by
    unfold score
    split
    · rw [ha]; exact fin_coe _
    · rw [hb]; exact fin_coe _
  unfold out weigh soft
  simp only [ha, hb, hl, hc, mul_one]
  rw [← hM.coe, ← hN.coe, entry]

/-- A softmax whose positions are the context's, then the latent ones, in one list. -/
theorem soft_of_list (y : Fin 4352 → EReal) (a : Fin 4096 → ℝ) (b : Fin 256 → ℝ) (N : EReal) (v : Fin 4096 → EReal) (w : Fin 256 → EReal)
    (hb : ∀ i : Fin 256, y ⟨i.val, by omega⟩ = (b i : EReal)) (ha : ∀ i : Fin 4096, y ⟨256 + i.val, by omega⟩ = (a i : EReal)) :
    ∑ i : Fin 256, w i * Ideal.div (Ideal.exp (y ⟨i.val, by omega⟩ - N)) (∑ x, Ideal.exp (y x - N))
        + ∑ i : Fin 4096, v i * Ideal.div (Ideal.exp (y ⟨256 + i.val, by omega⟩ - N)) (∑ x, Ideal.exp (y x - N))
      = soft a b N v w := by
  have hZ : ∑ x, Ideal.exp (y x - N) = ∑ i, Ideal.exp ((b i : EReal) - N) + ∑ i, Ideal.exp ((a i : EReal) - N) := by
    refine (Fin.sum_univ_add (a := 256) (b := 4096) fun x => Ideal.exp (y x - N)).trans ?_
    exact congrArg₂ (· + ·) (Finset.sum_congr rfl fun i _ => by rw [← hb]; rfl) (Finset.sum_congr rfl fun i _ => by rw [← ha]; rfl)
  unfold soft
  simp only [hZ, hb, ha]
  exact congrArg₂ (· + ·) (Finset.sum_congr rfl fun i _ => mul_comm _ _) (Finset.sum_congr rfl fun i _ => mul_comm _ _)

/-- A sum of products of reals is the real sum. -/
theorem sum_real {q k : Fin n → EReal} (hq : ∀ x, IsReal (q x)) (hk : ∀ x, IsReal (k x)) :
    ∑ x, k x * q x = ((∑ x, (k x).toReal * (q x).toReal : ℝ) : EReal) := by
  rw [← sum_coe]
  exact Finset.sum_congr rfl fun x _ => by rw [EReal.coe_mul, (hk x).coe, (hq x).coe]

/-- The same with every factor of one side scaled by a real. -/
theorem sum_scaled {q k : Fin n → EReal} (hq : ∀ x, IsReal (q x)) (hk : ∀ x, IsReal (k x)) (c : ℝ) :
    ∑ x, q x * (c : EReal) * k x = (((∑ x, (k x).toReal * (q x).toReal) * c : ℝ) : EReal) := by
  rw [Finset.sum_mul, ← sum_coe]
  refine Finset.sum_congr rfl fun x _ => ?_
  rw [EReal.coe_mul, EReal.coe_mul, (hk x).coe, (hq x).coe, mul_right_comm, mul_comm (q x)]

/-- A sum over 256 features in three parts: 128 of them, 64 more, and the rest. -/
theorem sum_parts (f : Fin 256 → EReal) :
    ∑ x, f x = ∑ x : Fin 128, f ⟨x.val, by omega⟩ + ∑ x : Fin 64, f ⟨128 + x.val, by omega⟩ + ∑ x : Fin 64, f ⟨192 + x.val, by omega⟩ := by
  rw [show ∑ x, f x = ∑ x : Fin (128 + 64 + 64), f x from rfl, Fin.sum_univ_add, Fin.sum_univ_add]
  rfl

/-- The product of a query scaled by a real with a key, both in three parts of which the last is zero. -/
theorem sum_padded (f h : Fin 256 → EReal) (c : ℝ) {q k : Fin 128 → EReal} {p r : Fin 64 → EReal}
    (hq : ∀ x, IsReal (q x)) (hk : ∀ x, IsReal (k x)) (hp : ∀ x, IsReal (p x)) (hr : ∀ x, IsReal (r x))
    (f0 : ∀ x : Fin 128, f ⟨x.val, by omega⟩ = q x * (c : EReal)) (h0 : ∀ x : Fin 128, h ⟨x.val, by omega⟩ = k x)
    (f1 : ∀ x : Fin 64, f ⟨128 + x.val, by omega⟩ = p x * (c : EReal)) (h1 : ∀ x : Fin 64, h ⟨128 + x.val, by omega⟩ = r x)
    (f2 : ∀ x : Fin 64, f ⟨192 + x.val, by omega⟩ = 0) :
    ∑ x, f x * h x = (((∑ x, (k x).toReal * (q x).toReal + ∑ x, (r x).toReal * (p x).toReal) * c : ℝ) : EReal) := by
  rw [sum_parts]
  simp only [f0, f1, f2, h0, h1, zero_mul, Finset.sum_const_zero, add_zero]
  rw [sum_scaled hq hk, sum_scaled hp hr, ← EReal.coe_add, add_mul]

end Cert.Row

end
-- ==== Proof.Consts.lean ====
/- The constants of the programs as extended reals, and the two scales that the programs compute from them. -/
module

public import proofs.«01_k».proof.Proof.Softmax
public import Idealize.ShloMosaic.Lib.IdealHost

@[expose] public section

noncomputable section

namespace Cert.Consts

open Idealize.ShloMosaic Cert.Softmax

theorem ofBits_least : Ideal.ofBits .f32 0xFF800000#32 = ⊥ := by simp [Ideal.ofBits, Ideal.ieee]

theorem ofBits_greatest : Ideal.ofBits .f32 0x7F800000#32 = ⊤ := by simp [Ideal.ofBits, Ideal.ieee]

theorem ofBits_two : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_192 : Ideal.ofBits .f32 0x43400000#32 = ((192 : ℝ) : EReal) := by
  simp [Ideal.ofBits, Ideal.ieee, -EReal.coe_mul]; norm_num

/-- The scale of a softmax over `D` features. -/
theorem scale (D : ℝ) (hD : 0 < D) : Ideal.div 1 (Ideal.sqrt (D : EReal)) = (((√D)⁻¹ : ℝ) : EReal) := by
  rw [Ideal.sqrt_coe, if_neg hD.le.not_gt, div_coe _ (Real.sqrt_pos.mpr hD).ne', one_mul]

/-- The scale of a softmax over `D` features whose exponentials are powers of two. -/
theorem scale_two (D : ℝ) (hD : 0 < D) :
    Ideal.div 1 (Ideal.log ((2 : ℝ) : EReal) * Ideal.sqrt (D : EReal)) = (((√D)⁻¹ / Real.log 2 : ℝ) : EReal) := by
  have hl : Ideal.log ((2 : ℝ) : EReal) = ((Real.log 2 : ℝ) : EReal) := by
    rw [Ideal.log_coe, if_neg (by norm_num)]
  have hs := (Real.sqrt_pos.mpr hD).ne'
  have h2 : Real.log 2 ≠ 0 := (Real.log_pos (by norm_num)).ne'
  rw [hl, Ideal.sqrt_coe, if_neg hD.le.not_gt, ← EReal.coe_mul, div_coe _ (mul_ne_zero h2 hs), one_mul]
  congr 1
  field_simp

end Cert.Consts

end
-- ==== Proof.GqaBlock.lean ====
/- What one grid step of the grouped-query attention leaves in its output block: every row is the attention of the same
   row of the query block, from the step's keys and values. -/
module

public import proofs.«01_k».proof.Proof.Gen.KernelIdeal.Value
public import proofs.«01_k».proof.Proof.Row
public import proofs.«01_k».proof.Proof.Consts
public import Idealize.ShloMosaic.Lib.Pointwise
public import Idealize.ShloMosaic.Lib.Pipeline.ValueKit.Tiles

@[expose] public section

set_option maxRecDepth 16384

noncomputable section

namespace Cert.KernelIdeal.Blk

open Cert.KernelIdeal Cert.KernelIdeal.Gen Idealize.ShloMosaic Idealize.ShloMosaic.TcCoe Idealize.SL.Sem
open Idealize.ShloMosaic.Tactic
open Cert.Scratch

variable (m : (ℓ : Loc nD τ sig) → Buf (Elt Ideal) ℓ)

/-- The weights of a chunk of 256 query rows. -/
def weights (q : Vec Ideal S256x128 .bf16) (kl : Vec Ideal S4096x128 .bf16) (kc : Vec Ideal S256x128 .bf16) : Vec Ideal S1x256x4352 .bf16 :=
  k0_pay6 (join (k0_pay4 q kl) (k0_pay5 q kc))

/-- A chunk of 256 query rows. -/
def chunk (q : Vec Ideal S256x128 .bf16) (kl : Vec Ideal S4096x128 .bf16) (kc : Vec Ideal S256x128 .bf16) (vl : Vec Ideal S4096x256 .bf16)
    (vc : Vec Ideal S256x256 .bf16) : Vec Ideal S256x128 .bf16 :=
  k0_pay8 (k0_pay7 (cols 0 4096 (by decide) (weights q kl kc))) vl (cols 4096 256 (by decide) (weights q kl kc)) vc

section
open Idealize.ShloMosaic.Pointwise

theorem lat_apply (q : Vec Ideal S256x128 .bf16) (kl : Vec Ideal S4096x128 .bf16) (r : Fin 256) (k : Fin 4096) :
    k0_pay4 (F := Ideal) q kl (ix3 0 r k) = ∑ x, q (ix2 r x) * kl (ix2 k x) := by
  pointwise [k0_pay4, k0_pay3]

theorem ctx_apply (q : Vec Ideal S256x128 .bf16) (kc : Vec Ideal S256x128 .bf16) (r : Fin 256) (k : Fin 256) :
    k0_pay5 (F := Ideal) q kc (ix3 0 r k) = ∑ x, q (ix2 r x) * kc (ix2 k x) := by
  pointwise [k0_pay5, k0_pay3]

theorem weigh_apply (S : Vec Ideal S1x256x4352 .f32) (r : Fin 256) (k : Fin 4352) :
    k0_pay6 (F := Ideal) S (ix3 0 r k) = Ideal.exp2 (S (ix3 0 r k) - Finset.univ.fold max (Ideal.ofBits .f32 0xFF800000#32) fun x => S (ix3 0 r x)) := by
  pointwise [k0_pay6]
  rfl

theorem sum_apply (P : Vec Ideal S1x256x4096 .bf16) (vl : Vec Ideal S4096x256 .bf16) (Q : Vec Ideal S1x256x256 .bf16)
    (vc : Vec Ideal S256x256 .bf16) (r : Fin 256) (j : Fin 128) :
    k0_pay8 (F := Ideal) (k0_pay7 P) vl Q vc (ix2 r j)
      = Ideal.div (∑ x, P (ix3 0 r x) * vl (ix2 x ⟨j.val, by omega⟩) + ∑ x, Q (ix3 0 r x) * vc (ix2 x ⟨j.val, by omega⟩))
          (∑ x, P (ix3 0 r x) * vl (ix2 x ⟨128 + j.val, by omega⟩) + ∑ x, Q (ix3 0 r x) * vc (ix2 x ⟨128 + j.val, by omega⟩)) := by
  pointwise [k0_pay8, k0_pay7]

end

theorem chunk_apply (q : Vec Ideal S256x128 .bf16) (kl : Vec Ideal S4096x128 .bf16) (kc : Vec Ideal S256x128 .bf16)
    (vl : Vec Ideal S4096x256 .bf16) (vc : Vec Ideal S256x256 .bf16) (r : Fin 256) (j : Fin 128) :
    chunk q kl kc vl vc (ix2 r j)
      = Row.out (fun x => q (ix2 r x)) (fun k x => kl (ix2 k x)) (fun k x => kc (ix2 k x)) (fun k x => vl (ix2 k x)) (fun k x => vc (ix2 k x)) j := by
  have hs : ∀ k, join (k0_pay4 q kl) (k0_pay5 q kc) (ix3 0 r k)
      = Row.score (fun x => q (ix2 r x)) (fun k x => kl (ix2 k x)) (fun k x => kc (ix2 k x)) k := fun k => by
    unfold Row.score
    split
    next h => rw [← lat_apply]; exact dif_pos h
    next h => rw [← ctx_apply]; exact dif_neg h
  have hw : ∀ k, weights q kl kc (ix3 0 r k)
      = Ideal.exp2 (Row.score (fun x => q (ix2 r x)) (fun k x => kl (ix2 k x)) (fun k x => kc (ix2 k x)) k
          - Row.top (fun x => q (ix2 r x)) (fun k x => kl (ix2 k x)) (fun k x => kc (ix2 k x))) := fun k => by
    unfold weights
    rw [weigh_apply, Consts.ofBits_least]
    simp only [hs]
    rfl
  have hl : ∀ k : Fin 4096, cols 0 4096 (by decide) (weights q kl kc) (ix3 0 r k) = _ := fun k => hw ⟨0 + k.val, by omega⟩
  have hc : ∀ k : Fin 256, cols 4096 256 (by decide) (weights q kl kc) (ix3 0 r k) = _ := fun k => hw ⟨4096 + k.val, by omega⟩
  unfold chunk
  rw [sum_apply]
  simp only [hl, hc]
  have sl : ∀ k : Fin 4096, Row.score (fun x => q (ix2 r x)) (fun k x => kl (ix2 k x)) (fun k x => kc (ix2 k x)) ⟨0 + k.val, by omega⟩
      = ∑ x, q (ix2 r x) * kl (ix2 k x) := fun k => by
    unfold Row.score
    rw [dif_pos (by simp)]
    simp
  have sc : ∀ k : Fin 256, Row.score (fun x => q (ix2 r x)) (fun k x => kl (ix2 k x)) (fun k x => kc (ix2 k x)) ⟨4096 + k.val, by omega⟩
      = ∑ x, q (ix2 r x) * kc (ix2 k x) := fun k => by
    unfold Row.score
    rw [dif_neg (by simp)]
    simp
  simp only [sl, sc]
  rfl

/-- A piece of the output block: the chunk of the rows from `o` on. -/
theorem piece (X : Vec Ideal S2048x128 .bf16) (kl : Vec Ideal S4096x128 .bf16) (kc : Vec Ideal S256x128 .bf16)
    (vl : Vec Ideal S4096x256 .bf16) (vc : Vec Ideal S256x256 .bf16) (o : ℕ)
    (h : ∀ a, (![o, 0] : Fin 2 → ℕ) a + (![256, 128] : Fin 2 → ℕ) a ≤ S2048x128.size a) (x : S256x128.Idx) (r : Fin 2048) (j : Fin 128)
    (hr : r.val = o + (x 0).val) (hj : j.val = (x 1).val) :
    chunk (View.ld X (Rect.unit ![o, 0] ![256, 128] h)) kl kc vl vc x
      = Row.out (fun x => X (ix2 r x)) (fun k x => kl (ix2 k x)) (fun k x => kc (ix2 k x)) (fun k x => vl (ix2 k x)) (fun k x => vc (ix2 k x)) j := by
  have e : j = x 1 := Fin.ext hj
  refine (congrArg (chunk _ kl kc vl vc) (eq_ix2 x)).trans ((chunk_apply _ kl kc vl vc (x 0) (x 1)).trans ?_)
  rw [e]
  congr 1
  funext d
  refine congrArg X (funext fun a => Fin.ext ?_)
  match a with
  | 0 => show o + 1 * (x 0).val = r.val; omega
  | 1 => show 0 + 1 * d.val = d.val; omega

set_option maxHeartbeats 4000000 in
theorem block_apply (c : Dev nD) (t : Fin cfg0.N) (r : Fin 2048) (j : Fin 128) :
    outsAt0 m c t (ix2 r j) = Row.out (fun x => iblk m c 0 t (ix2 r x)) (fun k x => X0_1 m c t (ix2 k x)) (fun k x => iblk m c 2 t (ix2 k x))
      (fun k x => X0_3 m c t (ix2 k x)) (fun k x => iblk m c 4 t (ix2 k x)) j := by
  unfold outsAt0 out0_A_5
  rw [View.read_writes_eq_canon _ _ _ (cover0_A_5 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread,
    read_join, read_cols _ _ 0 4096 _ _ (by decide), read_cols _ _ 4096 256 _ _ (by decide)]
  simp (disch := decide) only [View.ld_unit_lit']
  canon_tiles x h
  all_goals exact piece (iblk m c 0 t) (X0_1 m c t) (iblk m c 2 t) (X0_3 m c t) (iblk m c 4 t) _ _ x r j (h0.trans (by omega)) h1

end Cert.KernelIdeal.Blk

end
-- ==== Proof.GqaHost.lean ====
/- The matrices that the grouped-query attention's launch is given, at an entry, over the arguments: the scaled queries,
   the latent keys over the context's, and the values with a column of ones per value column. -/
module

public import proofs.«01_k».proof.Proof.Gen.KernelIdeal.Value
public import proofs.«01_k».proof.Proof.Consts
public import Idealize.ShloMosaic.Lib.Pointwise
public import Idealize.ShloMosaic.Lib.StableHlo.ReadAt
public import Idealize.ShloMosaic.Lib.Pipeline.ValueKit.Point

@[expose] public section

set_option maxRecDepth 16384

noncomputable section

namespace Cert.KernelIdeal.Host

open Cert.KernelIdeal Cert.KernelIdeal.Gen Idealize.ShloMosaic Idealize.ShloMosaic.TcCoe Idealize.SL.Sem
open Idealize.ShloMosaic.Tactic
open Idealize.ShloMosaic.Pointwise

variable (m : (ℓ : Loc nD τ sig) → Buf (Elt Ideal) ℓ) (c : Dev nD)

theorem q_apply (b : Fin 4) (n : Fin 4096) (g : Fin 2) (r : Fin 4) (x : Fin 128) (R : Fin 16384) (C : Fin 1024)
    (hR : R.val = b.val * 4096 + n.val) (hC : C.val = (g.val * 4 + r.val) * 128 + x.val) :
    V m c main_v7 (ix2 R C) = (show EReal from (m ((c : Thread nD τ).loc main_arg0) (ix5 b n g r x)) : EReal) * (((√128)⁻¹ / Real.log 2 : ℝ) : EReal) := by
  unfold V
  after_reads_at
  rw [Consts.ofBits_two, Consts.ofBits_128, Consts.scale_two _ (by norm_num)]
  refine congrArg (· * _) ?_
  blk_ext []

theorem k_apply (R : Fin 17408) (C : Fin 256) :
    V m c main_v11 (ix2 R C)
      = if h : R.val < 16384 then m ((c : Thread nD τ).loc main_arg1) (ix4 ⟨R.val / 4096, by omega⟩ ⟨R.val % 4096, by omega⟩ ⟨C.val / 128, by omega⟩ ⟨C.val % 128, by omega⟩)
        else m ((c : Thread nD τ).loc main_arg3) (ix4 ⟨(R.val - 16384) / 256, by omega⟩ ⟨(R.val - 16384) % 256, by omega⟩ ⟨C.val / 128, by omega⟩ ⟨C.val % 128, by omega⟩) := by
  unfold V
  after_reads_at
  after_reads_at

theorem k_lat (b : Fin 4) (n : Fin 4096) (g : Fin 2) (x : Fin 128) (R : Fin 17408) (C : Fin 256)
    (hR : R.val = b.val * 4096 + n.val) (hC : C.val = g.val * 128 + x.val) :
    V m c main_v11 (ix2 R C) = m ((c : Thread nD τ).loc main_arg1) (ix4 b n g x) := by
  rw [k_apply, dif_pos (by omega)]
  blk_ext []

theorem k_ctx (b : Fin 4) (n : Fin 256) (g : Fin 2) (x : Fin 128) (R : Fin 17408) (C : Fin 256)
    (hR : R.val = 16384 + b.val * 256 + n.val) (hC : C.val = g.val * 128 + x.val) :
    V m c main_v11 (ix2 R C) = m ((c : Thread nD τ).loc main_arg3) (ix4 b n g x) := by
  rw [k_apply, dif_neg (by omega)]
  blk_ext []

/-- The values of the latent positions over those of the context. -/
def rows (A : Vec Ideal S4x4096x2x128 .f32) (B : Vec Ideal S4x256x2x128 .f32) : Vec Ideal S17408x2x128 .f32 :=
  concatenate S17408x2x128 0
    [⟨S16384x2x128, shapeCast S16384x2x128 A shapeCasts_S4x4096x2x128_S16384x2x128⟩,
      ⟨S1024x2x128, shapeCast S1024x2x128 B shapeCasts_S4x256x2x128_S1024x2x128⟩]
    concatenates_S16384x2x128_S1024x2x128_S17408x2x128_d0

theorem rows_apply (A : Vec Ideal S4x4096x2x128 .f32) (B : Vec Ideal S4x256x2x128 .f32) (R : Fin 17408) (g : Fin 2) (d : Fin 128) :
    rows A B (ix3 R g d) = if h : R.val < 16384 then A (ix4 ⟨R.val / 4096, by omega⟩ ⟨R.val % 4096, by omega⟩ g d)
      else B (ix4 ⟨(R.val - 16384) / 256, by omega⟩ ⟨(R.val - 16384) % 256, by omega⟩ g d) := by
  pointwise [rows]

theorem v_apply (R : Fin 17408) (C : Fin 512) (h : C.val % 256 < 128) :
    V m c main_v18 (ix2 R C) = rows (m ((c : Thread nD τ).loc main_arg2)) (m ((c : Thread nD τ).loc main_arg4))
      (ix3 R ⟨C.val / 256, by omega⟩ ⟨C.val % 256, h⟩) := by
  unfold V
  after_reads_at
  rw [dif_pos h]
  after_reads_simp
  rfl

theorem v_ones (R : Fin 17408) (C : Fin 512) (h : 128 ≤ C.val % 256) : V m c main_v18 (ix2 R C) = (1 : EReal) := by
  unfold V
  after_reads_at
  rw [dif_neg (by omega)]
  after_reads_at

theorem v_lat (b : Fin 4) (n : Fin 4096) (g : Fin 2) (x : Fin 128) (R : Fin 17408) (C : Fin 512)
    (hR : R.val = b.val * 4096 + n.val) (hC : C.val = g.val * 256 + x.val) :
    V m c main_v18 (ix2 R C) = m ((c : Thread nD τ).loc main_arg2) (ix4 b n g x) := by
  rw [v_apply _ _ _ _ (by omega), rows_apply, dif_pos (by omega)]
  blk_ext []

theorem v_ctx (b : Fin 4) (n : Fin 256) (g : Fin 2) (x : Fin 128) (R : Fin 17408) (C : Fin 512)
    (hR : R.val = 16384 + b.val * 256 + n.val) (hC : C.val = g.val * 256 + x.val) :
    V m c main_v18 (ix2 R C) = m ((c : Thread nD τ).loc main_arg4) (ix4 b n g x) := by
  rw [v_apply _ _ _ _ (by omega), rows_apply, dif_neg (by omega)]
  blk_ext []

end Cert.KernelIdeal.Host

end
-- ==== Proof.GqaRef.lean ====
module

public import proofs.«01_k».proof.Proof.Gen.ReferenceIdeal.Read
public import proofs.«01_k».proof.Proof.Consts
public import proofs.«01_k».proof.Proof.Row
public import Idealize.ShloMosaic.Lib.Pointwise

@[expose] public section

noncomputable section

namespace Cert.ReferenceIdeal.Ref

open Cert.ReferenceIdeal Cert.ReferenceIdeal.Gen Cert.ReferenceIdeal.Read Idealize.ShloMosaic Idealize.ShloMosaic.TcCoe Idealize.SL.Sem
open Idealize.ShloMosaic.Pointwise
open Cert.Softmax

variable (q : (⟨S4x4096x2x4x128, .f32⟩ : BufTy).Contents (Elt Ideal)) (k v : (⟨S4x4096x2x128, .f32⟩ : BufTy).Contents (Elt Ideal))
  (kc vc : (⟨S4x256x2x128, .f32⟩ : BufTy).Contents (Elt Ideal))

/-- The score of a query and a latent key. -/
def lat (b : Fin 4) (g : Fin 2) (r : Fin 4) (n : Fin 4096) (x : Fin 4096) : ℝ :=
  (∑ d, (k (ix4 b x g d)).toReal * (q (ix5 b n g r d)).toReal) * (√128)⁻¹

/-- The score of a query and a context key. -/
def ctx (b : Fin 4) (g : Fin 2) (r : Fin 4) (n : Fin 4096) (x : Fin 256) : ℝ :=
  (∑ d, (kc (ix4 b x g d)).toReal * (q (ix5 b n g r d)).toReal) * (√128)⁻¹

theorem score_apply (b : Fin 4) (g : Fin 2) (r : Fin 4) (n : Fin 4096) (x : Fin 4352) :
    val_main_v7 (F := Ideal) q k kc (ix5 b g r n x)
      = (∑ d, (if h : x.val < 256 then kc (ix4 b ⟨x.val, h⟩ g d) else k (ix4 b ⟨x.val - 256, by omega⟩ g d)) * q (ix5 b n g r d))
        * Ideal.div 1 (Ideal.sqrt (Ideal.ofBits .f32 0x43000000#32)) := by
  pointwise [val_main_v7, val_main_v6, val_main_v5, val_main_v4, val_main_v3, val_main_v2, val_main_v0, val_main_cst, val_main_cst_0]

theorem score_lat (hq : ∀ i, IsReal (q i)) (hk : ∀ i, IsReal (k i)) (b : Fin 4) (g : Fin 2) (r : Fin 4) (n : Fin 4096) (x : Fin 4096) :
    val_main_v7 (F := Ideal) q k kc (ix5 b g r n ⟨256 + x.val, by omega⟩) = (lat q k b g r n x : EReal) := by
  have e : 256 + x.val - 256 = x.val := by omega
  rw [score_apply, Consts.ofBits_128, Consts.scale _ (by norm_num)]
  simp only [show ¬ 256 + x.val < 256 by omega, dite_false, e]
  rw [Row.sum_real (fun d => hq _) (fun d => hk _), ← EReal.coe_mul]
  rfl

theorem score_ctx (hq : ∀ i, IsReal (q i)) (hk : ∀ i, IsReal (kc i)) (b : Fin 4) (g : Fin 2) (r : Fin 4) (n : Fin 4096) (x : Fin 256) :
    val_main_v7 (F := Ideal) q k kc (ix5 b g r n ⟨x.val, by omega⟩) = (ctx q kc b g r n x : EReal) := by
  rw [score_apply, Consts.ofBits_128, Consts.scale _ (by norm_num)]
  simp only [x.isLt, dite_true]
  rw [Row.sum_real (fun d => hq _) (fun d => hk _), ← EReal.coe_mul]
  rfl

theorem score_real (hq : ∀ i, IsReal (q i)) (hk : ∀ i, IsReal (k i)) (hkc : ∀ i, IsReal (kc i)) (i : S4x2x4x4096x4352.Idx) :
    IsReal (val_main_v7 (F := Ideal) q k kc i) := by
  obtain ⟨b, g, r, n, x, rfl⟩ : ∃ b g r n x, i = ix5 b g r n x := ⟨i 0, i 1, i 2, i 3, i 4, eq_ix5 i⟩
  by_cases h : x.val < 256
  · exact (score_ctx q k kc hq hkc b g r n ⟨x.val, h⟩) ▸ fin_coe _
  · have e : x = ⟨256 + (x.val - 256), by omega⟩ := Fin.ext (by show x.val = 256 + (x.val - 256); omega)
    rw [e]
    exact (score_lat q k kc hq hk b g r n ⟨x.val - 256, by omega⟩) ▸ fin_coe _

theorem top_real (hq : ∀ i, IsReal (q i)) (hk : ∀ i, IsReal (k i)) (hkc : ∀ i, IsReal (kc i)) (i : S4x2x4x4096.Idx) :
    IsReal (val_main_v10 (F := Ideal) q k kc i) := by
  have h9 : val_main_v9 (F := Ideal) i = ⊥ := by
    obtain ⟨b, g, r, n, rfl⟩ : ∃ b g r n, i = ix4 b g r n := ⟨i 0, i 1, i 2, i 3, eq_ix4 i⟩
    pointwise [val_main_v9, val_main_cst_2]
    exact Consts.ofBits_least
  have h8 : IsReal (val_main_v8 (F := Ideal) q k kc i) := by
    unfold val_main_v8
    rw [Host.reduce_eq_fold_single _ _ _ _ (by decide)]
    have h0 : val_main_cst_1 (F := Ideal) (Shape.Idx.first h_S_) = ⊥ := Consts.ofBits_least
    rw [h0]
    exact fold_max_fin (by decide) _ fun x => score_real q k kc hq hk hkc _
  rw [val_main_v10_apply, h9]
  show IsReal (max ⊥ _)
  rwa [max_eq_right bot_le]

theorem sum_apply (b : Fin 4) (g : Fin 2) (r : Fin 4) (n : Fin 4096) (d : Fin 128) :
    val_main_v20 (F := Ideal) q k v kc vc (ix5 b n g r d)
      = ∑ x : Fin 256, vc (ix4 b x g d) * Ideal.div (Ideal.exp (val_main_v7 (F := Ideal) q k kc (ix5 b g r n ⟨x.val, by omega⟩) - val_main_v10 (F := Ideal) q k kc (ix4 b g r n)))
            (∑ x, Ideal.exp (val_main_v7 (F := Ideal) q k kc (ix5 b g r n x) - val_main_v10 (F := Ideal) q k kc (ix4 b g r n)))
        + ∑ x : Fin 4096, v (ix4 b x g d) * Ideal.div (Ideal.exp (val_main_v7 (F := Ideal) q k kc (ix5 b g r n ⟨256 + x.val, by omega⟩) - val_main_v10 (F := Ideal) q k kc (ix4 b g r n)))
            (∑ x, Ideal.exp (val_main_v7 (F := Ideal) q k kc (ix5 b g r n x) - val_main_v10 (F := Ideal) q k kc (ix4 b g r n))) := by
  unfold val_main_v20 val_main_v19 val_main_v18 val_main_v17 val_main_v16 val_main_v15 val_main_v14 val_main_v13 val_main_v12 val_main_v11
  generalize val_main_v7 (F := Ideal) q k kc = y
  generalize val_main_v10 (F := Ideal) q k kc = z
  pointwise [val_main_v1, val_main_cst_3]

theorem out_apply (hq : ∀ i, IsReal (q i)) (hk : ∀ i, IsReal (k i)) (hkc : ∀ i, IsReal (kc i))
    (b : Fin 4) (g : Fin 2) (r : Fin 4) (n : Fin 4096) (d : Fin 128) :
    val_main_v20 (F := Ideal) q k v kc vc (ix5 b n g r d)
      = Row.soft (lat q k b g r n) (ctx q kc b g r n) (val_main_v10 (F := Ideal) q k kc (ix4 b g r n))
          (fun x => v (ix4 b x g d)) (fun x => vc (ix4 b x g d)) := by
  rw [sum_apply]
  exact Row.soft_of_list (fun x => val_main_v7 (F := Ideal) q k kc (ix5 b g r n x)) _ _ _ _ _
    (fun x => score_ctx q k kc hq hkc b g r n x) (fun x => score_lat q k kc hq hk b g r n x)

end Cert.ReferenceIdeal.Ref

end
-- ==== Proof.GqaArr.lean ====
/- The array that the grouped-query attention kernel leaves: the reference's, entry by entry. -/
module

public import proofs.«01_k».proof.Proof.GqaBlock
public import proofs.«01_k».proof.Proof.GqaHost
public import proofs.«01_k».proof.Proof.GqaRef

@[expose] public section

set_option maxRecDepth 16384

noncomputable section

namespace Cert.KernelIdeal.Arr

open Cert.KernelIdeal Cert.KernelIdeal.Gen Idealize.ShloMosaic Idealize.ShloMosaic.TcCoe Idealize.SL.Sem
open Idealize.ShloMosaic.Tactic
open Cert.Softmax
open Cert.ReferenceIdeal.Ref (lat ctx)

variable (m : (ℓ : Loc nD τ sig) → Buf (Elt Ideal) ℓ) (c : Dev nD)

theorem idx : ∀ t : Fin cfg0.N, win0_0.index t = ![(grid0.coords t 0).val * 2 + (grid0.coords t 2).val, (grid0.coords t 1).val]
    ∧ win0_1.index t = ![(grid0.coords t 0).val, (grid0.coords t 1).val / 4]
    ∧ win0_2.index t = ![64 + (grid0.coords t 0).val, (grid0.coords t 1).val / 4]
    ∧ win0_3.index t = ![(grid0.coords t 0).val, (grid0.coords t 1).val / 4]
    ∧ win0_4.index t = ![64 + (grid0.coords t 0).val, (grid0.coords t 1).val / 4]
    ∧ win0_5.index t = ![(grid0.coords t 0).val * 2 + (grid0.coords t 2).val, (grid0.coords t 1).val] := by decide +kernel

theorem q_blk (t : Fin cfg0.N) (r : Fin 2048) (x : Fin 128) (R : Fin 16384) (C : Fin 1024)
    (hR : R.val = ((grid0.coords t 0).val * 2 + (grid0.coords t 2).val) * 2048 + r.val) (hC : C.val = (grid0.coords t 1).val * 128 + x.val) :
    iblk m c 0 t (ix2 r x) = V m c main_v7 (ix2 R C) := by
  blk_ext [iblk, (idx t).1]

theorem kl_blk (t : Fin cfg0.N) (r : Fin 4096) (x : Fin 128) (R : Fin 17408) (C : Fin 256)
    (hR : R.val = (grid0.coords t 0).val * 4096 + r.val) (hC : C.val = (grid0.coords t 1).val / 4 * 128 + x.val) :
    X0_1 m c t (ix2 r x) = V m c main_v11 (ix2 R C) := by
  unfold X0_1 Pipeline.Window.fill
  rw [dif_pos (moved0_1 t _)]
  blk_ext [iblk, (idx t).2.1]

theorem kc_blk (t : Fin cfg0.N) (r : Fin 256) (x : Fin 128) (R : Fin 17408) (C : Fin 256)
    (hR : R.val = (64 + (grid0.coords t 0).val) * 256 + r.val) (hC : C.val = (grid0.coords t 1).val / 4 * 128 + x.val) :
    iblk m c 2 t (ix2 r x) = V m c main_v11 (ix2 R C) := by
  blk_ext [iblk, (idx t).2.2.1]

theorem vl_blk (t : Fin cfg0.N) (r : Fin 4096) (x : Fin 256) (R : Fin 17408) (C : Fin 512)
    (hR : R.val = (grid0.coords t 0).val * 4096 + r.val) (hC : C.val = (grid0.coords t 1).val / 4 * 256 + x.val) :
    X0_3 m c t (ix2 r x) = V m c main_v18 (ix2 R C) := by
  unfold X0_3 Pipeline.Window.fill
  rw [dif_pos (moved0_3 t _)]
  blk_ext [iblk, (idx t).2.2.2.1]

theorem vc_blk (t : Fin cfg0.N) (r : Fin 256) (x : Fin 256) (R : Fin 17408) (C : Fin 512)
    (hR : R.val = (64 + (grid0.coords t 0).val) * 256 + r.val) (hC : C.val = (grid0.coords t 1).val / 4 * 256 + x.val) :
    iblk m c 4 t (ix2 r x) = V m c main_v18 (ix2 R C) := by
  blk_ext [iblk, (idx t).2.2.2.2.1]

/-- The reference's result on the kernel's arguments. -/
def G : FVec Ideal S16384x1024 .bf16 :=
  Cert.ReferenceIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem G_apply (w : S16384x1024.Idx) (b : Fin 4) (g : Fin 2) (r : Fin 4) (n : Fin 4096) (j : Fin 128)
    (e0 : (w 0).val = b.val * 4096 + n.val) (e1 : (w 1).val = (g.val * 4 + r.val) * 128 + j.val) :
    G m c w = Cert.ReferenceIdeal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix5 b n g r j) := by
  show Cert.ReferenceIdeal.Read.val_main_v21 (F := Ideal) _ _ _ _ _ w = _
  rw [Cert.ReferenceIdeal.Read.val_main_v21_apply]
  refine congrArg _ (funext fun a => Fin.ext ?_)
  match a with
  | 0 => show ((w 0).val * 1024 + (w 1).val) / 4194304 = b.val; rw [e0, e1]; omega
  | 1 => show ((w 0).val * 1024 + (w 1).val) / 1024 % 4096 = n.val; rw [e0, e1]; omega
  | 2 => show ((w 0).val * 1024 + (w 1).val) / 512 % 2 = g.val; rw [e0, e1]; omega
  | 3 => show ((w 0).val * 1024 + (w 1).val) / 128 % 4 = r.val; rw [e0, e1]; omega
  | 4 => show ((w 0).val * 1024 + (w 1).val) % 128 = j.val; rw [e0, e1]; omega

variable (hq : ∀ i, IsReal (m ((c : Thread nD τ).loc main_arg0) i)) (hk : ∀ i, IsReal (m ((c : Thread nD τ).loc main_arg1) i))
  (hkc : ∀ i, IsReal (m ((c : Thread nD τ).loc main_arg3) i))

include hq hk hkc

/-- One entry of a block against the reference: batch `b`, row `i` of query block `u`, head `g * 4 + r`, column `j`. -/
theorem entry_apply (t : Fin cfg0.N) (i : Fin 2048) (j : Fin 128) (b : Fin 4) (g : Fin 2) (r : Fin 4) (n : Fin 4096)
    (hb : (grid0.coords t 0).val = b.val) (hh : (grid0.coords t 1).val = g.val * 4 + r.val)
    (hn : n.val = (grid0.coords t 2).val * 2048 + i.val) :
    outsAt0 m c t (ix2 i j)
      = Cert.ReferenceIdeal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix5 b n g r j) := by
  have hg : (grid0.coords t 1).val / 4 = g.val := by omega
  have eq : ∀ x, iblk m c 0 t (ix2 i x) = _ := fun x =>
    (q_blk m c t i x ⟨b.val * 4096 + n.val, by omega⟩ ⟨(g.val * 4 + r.val) * 128 + x.val, by omega⟩ (by dsimp only; omega) (by dsimp only; omega)).trans
      (Host.q_apply m c b n g r x _ _ rfl rfl)
  have ekl : ∀ k x, X0_1 m c t (ix2 k x) = _ := fun k x =>
    (kl_blk m c t k x ⟨b.val * 4096 + k.val, by omega⟩ ⟨g.val * 128 + x.val, by omega⟩ (by dsimp only; omega) (by dsimp only; omega)).trans
      (Host.k_lat m c b k g x _ _ rfl rfl)
  have ekc : ∀ k x, iblk m c 2 t (ix2 k x) = _ := fun k x =>
    (kc_blk m c t k x ⟨16384 + b.val * 256 + k.val, by omega⟩ ⟨g.val * 128 + x.val, by omega⟩ (by dsimp only; omega) (by dsimp only; omega)).trans
      (Host.k_ctx m c b k g x _ _ rfl rfl)
  have evl : ∀ k, X0_3 m c t (ix2 k ⟨j.val, by omega⟩) = _ := fun k =>
    (vl_blk m c t k _ ⟨b.val * 4096 + k.val, by omega⟩ ⟨g.val * 256 + j.val, by omega⟩ (by dsimp only; omega) (by dsimp only; omega)).trans
      (Host.v_lat m c b k g j _ _ rfl rfl)
  have evc : ∀ k, iblk m c 4 t (ix2 k ⟨j.val, by omega⟩) = _ := fun k =>
    (vc_blk m c t k _ ⟨16384 + b.val * 256 + k.val, by omega⟩ ⟨g.val * 256 + j.val, by omega⟩ (by dsimp only; omega) (by dsimp only; omega)).trans
      (Host.v_ctx m c b k g j _ _ rfl rfl)
  have eol : ∀ k, X0_3 m c t (ix2 k ⟨128 + j.val, by omega⟩) = (1 : EReal) := fun k =>
    (vl_blk m c t k _ ⟨b.val * 4096 + k.val, by omega⟩ ⟨g.val * 256 + (128 + j.val), by omega⟩ (by dsimp only; omega) (by dsimp only; omega)).trans
      (Host.v_ones m c _ _ (by dsimp only; omega))
  have eoc : ∀ k, iblk m c 4 t (ix2 k ⟨128 + j.val, by omega⟩) = (1 : EReal) := fun k =>
    (vc_blk m c t k _ ⟨16384 + b.val * 256 + k.val, by omega⟩ ⟨g.val * 256 + (128 + j.val), by omega⟩ (by dsimp only; omega) (by dsimp only; omega)).trans
      (Host.v_ones m c _ _ (by dsimp only; omega))
  rw [Cert.ReferenceIdeal.Ref.out_apply _ _ _ _ _ hq hk hkc, Blk.block_apply,
    Row.out_eq_soft _ _ _ _ _ j (lat (m ((c : Thread nD τ).loc main_arg0)) (m ((c : Thread nD τ).loc main_arg1)) b g r n)
      (ctx (m ((c : Thread nD τ).loc main_arg0)) (m ((c : Thread nD τ).loc main_arg3)) b g r n) _ ?_ ?_
      (Cert.ReferenceIdeal.Ref.top_real _ _ _ hq hk hkc (ix4 b g r n)) eol eoc]
  · exact congrArg₂ (Row.soft _ _ _) (funext evl) (funext evc)
  · intro k
    refine (Finset.sum_congr rfl fun x _ => congrArg₂ (fun a b : EReal => a * b) (eq x) (ekl k x)).trans ?_
    refine (Row.sum_scaled (fun x => hq _) (fun x => hk _) _).trans ?_
    rw [lat, mul_div_assoc]
  · intro k
    refine (Finset.sum_congr rfl fun x _ => congrArg₂ (fun a b : EReal => a * b) (eq x) (ekc k x)).trans ?_
    refine (Row.sum_scaled (fun x => hq _) (fun x => hkc _) _).trans ?_
    rw [ctx, mul_div_assoc]

theorem out_eq : (Gen.dats m 0 c).arrAt 5 cfg0.N = G m c := by
  refine (dats m 0 c).arrAt_eq_of_covers 5 _ (by decide +kernel) fun t hf y => ?_
  rw [after0_5]
  blk_simp
  have b0 : (grid0.coords t 0).val < 4 := (grid0.coords t 0).isLt
  have b1 : (grid0.coords t 1).val < 8 := (grid0.coords t 1).isLt
  have b2 : (grid0.coords t 2).val < 2 := (grid0.coords t 2).isLt
  have y0 : (y 0).val < 2048 := (y 0).isLt
  have y1 : (y 1).val < 128 := (y 1).isLt
  have e0 : (((win0_5.blk t).view.emb y) 0).val = ((grid0.coords t 0).val * 2 + (grid0.coords t 2).val) * 2048 + (y 0).val := by
    blk_simp [(idx t).2.2.2.2.2]
  have e1 : (((win0_5.blk t).view.emb y) 1).val = (grid0.coords t 1).val * 128 + (y 1).val := by
    blk_simp [(idx t).2.2.2.2.2]
  refine (congrArg (outsAt0 m c t) (eq_ix2 y)).trans ((entry_apply m c hq hk hkc t ⟨(y 0).val, y0⟩ ⟨(y 1).val, y1⟩
    ⟨(grid0.coords t 0).val, b0⟩ ⟨(grid0.coords t 1).val / 4, by omega⟩ ⟨(grid0.coords t 1).val % 4, by omega⟩
    ⟨(grid0.coords t 2).val * 2048 + (y 0).val, by omega⟩ rfl (by dsimp only; omega) rfl).trans ?_)
  exact (G_apply m c _ _ _ _ _ _ (e0.trans (by dsimp only; omega)) (e1.trans (by dsimp only; omega))).symm

end Cert.KernelIdeal.Arr

end
-- ==== Proof.Finite.lean ====
/- What the preconditions say of an argument: where an entry's absolute value is below the greatest value, the entry is a
   real number. -/
module

public import proofs.«01_k».proof.Proof.Consts
public import proofs.«01_k».proof.Proof.Softmax
public import proofs.«01_k».proof.Proof.Gen.Pre_finite_gqa
public import proofs.«01_k».proof.Proof.Gen.Pre_finite_mla

@[expose] public section

noncomputable section

namespace Cert.Finite

open Idealize.ShloMosaic Cert.Softmax

theorem real_of_lt {x : EReal} (h : Ideal.cmp .olt (max x (-x)) (Ideal.ofBits .f32 0x7F800000#32) = 1#1) : IsReal x := by
  rw [Consts.ofBits_greatest] at h
  have h' : max x (-x) < ⊤ := by
    by_contra hn
    have : Ideal.cmp .olt (max x (-x)) ⊤ = 0#1 := by simp [Ideal.cmp, hn]
    rw [this] at h
    exact absurd h (by decide)
  refine ⟨fun e => ?_, fun e => ?_⟩ <;> · rw [e] at h'; simp at h'

/-- An array whose every flag of the comparison is set holds real numbers only. -/
theorem real_of_flags {S : Shape} {x : S.Idx → EReal} {p : S.Idx → BitVec 1}
    (e : ∀ i, p i = Ideal.cmp .olt (max (x i) (-x i)) (Ideal.ofBits .f32 0x7F800000#32)) (h : p = fun _ => 1#1) (i : S.Idx) : IsReal (x i) :=
  real_of_lt ((e i).symm.trans (congrFun h i))

end Cert.Finite

end
-- ==== Proof.Gqa.lean ====
/- The grouped-query attention: under the precondition, the kernel and the reference leave the same array. -/
module

public import proofs.«01_k».proof.Defs
public import proofs.«01_k».proof.Proof.GqaArr
public import proofs.«01_k».proof.Proof.Finite
public import proofs.«01_k».proof.Proof.Gen.ReferenceIdeal.Run

@[expose] public section

noncomputable section

namespace Cert.Gqa

open Idealize.ShloMosaic Idealize.ShloMosaic.TcCoe Idealize.SL.Sem Cert.Finite

theorem algebraic : Cert.algebraic_KernelIdeal_ReferenceIdeal_pre_finite_gqa := by
  intro m g m' g' hp ha
  refine ⟨fun c => KernelIdeal.Arr.G m c, ?_, ?_⟩
  · exact (θ_run _ _ _).mono (fun r h c => ⟨(h c).1.trans (KernelIdeal.Arr.out_eq m c
      (fun i => real_of_flags (fun _ => rfl) (hp c).1 i) (fun i => real_of_flags (fun _ => rfl) (hp c).2.1 i)
      (fun i => real_of_flags (fun _ => rfl) (hp c).2.2 i)), (h c).2⟩) (KernelIdeal.Value.run_blocks m g)
  · refine (θ_run _ _ _).mono (fun r h c => ⟨?_, (h c).2⟩) (ReferenceIdeal.Value.run m' g')
    refine ((h c).1.trans (ReferenceIdeal.Read.val_main_v22_eq ..)).trans ?_
    obtain ⟨h0, h1, h2, h3, h4⟩ := ha c
    rw [h0, h1, h2, h3, h4]
    rfl

end Cert.Gqa

end
-- ==== Proof.MlaBlock.lean ====
/- What one grid step of the multi-head latent attention leaves in its output block: every row is the attention of the same
   row of the query block, from the step's keys and values. -/
module

public import proofs.«01_k».proof.Proof.Gen.Kernel2Ideal.Value
public import proofs.«01_k».proof.Proof.GqaBlock
public import Idealize.ShloMosaic.Lib.Pointwise
public import Idealize.ShloMosaic.Lib.Pipeline.ValueKit.Tiles

@[expose] public section

set_option maxRecDepth 16384

noncomputable section

namespace Cert.Kernel2Ideal.Blk

open Cert.Kernel2Ideal Cert.Kernel2Ideal.Gen Idealize.ShloMosaic Idealize.ShloMosaic.TcCoe Idealize.SL.Sem
open Idealize.ShloMosaic.Tactic
open Cert.Scratch

variable (m : (ℓ : Loc nD τ sig) → Buf (Elt Ideal) ℓ)

/-- The weights of a chunk of 256 query rows. -/
def weights (q : Vec Ideal S256x256 .bf16) (kl : Vec Ideal S4096x256 .bf16) (kc : Vec Ideal S256x256 .bf16) : Vec Ideal S1x256x4352 .bf16 :=
  k0_pay6 (join (k0_pay4 q kl) (k0_pay5 q kc))

/-- A chunk of 256 query rows. -/
def chunk (q : Vec Ideal S256x256 .bf16) (kl : Vec Ideal S4096x256 .bf16) (kc : Vec Ideal S256x256 .bf16) (vl : Vec Ideal S4096x256 .bf16)
    (vc : Vec Ideal S256x256 .bf16) : Vec Ideal S256x128 .bf16 :=
  k0_pay8 (k0_pay7 (cols 0 4096 (by decide) (weights q kl kc))) vl (cols 4096 256 (by decide) (weights q kl kc)) vc

section
open Idealize.ShloMosaic.Pointwise

theorem lat_apply (q : Vec Ideal S256x256 .bf16) (kl : Vec Ideal S4096x256 .bf16) (r : Fin 256) (k : Fin 4096) :
    k0_pay4 (F := Ideal) q kl (ix3 0 r k) = ∑ x, q (ix2 r x) * kl (ix2 k x) := by
  pointwise [k0_pay4, k0_pay3]

theorem ctx_apply (q : Vec Ideal S256x256 .bf16) (kc : Vec Ideal S256x256 .bf16) (r : Fin 256) (k : Fin 256) :
    k0_pay5 (F := Ideal) q kc (ix3 0 r k) = ∑ x, q (ix2 r x) * kc (ix2 k x) := by
  pointwise [k0_pay5, k0_pay3]

theorem weigh_apply (S : Vec Ideal S1x256x4352 .f32) (r : Fin 256) (k : Fin 4352) :
    k0_pay6 (F := Ideal) S (ix3 0 r k) = Ideal.exp2 (S (ix3 0 r k) - Finset.univ.fold max (Ideal.ofBits .f32 0xFF800000#32) fun x => S (ix3 0 r x)) :=
  Cert.KernelIdeal.Blk.weigh_apply S r k

theorem sum_apply (P : Vec Ideal S1x256x4096 .bf16) (vl : Vec Ideal S4096x256 .bf16) (Q : Vec Ideal S1x256x256 .bf16)
    (vc : Vec Ideal S256x256 .bf16) (r : Fin 256) (j : Fin 128) :
    k0_pay8 (F := Ideal) (k0_pay7 P) vl Q vc (ix2 r j)
      = Ideal.div (∑ x, P (ix3 0 r x) * vl (ix2 x ⟨j.val, by omega⟩) + ∑ x, Q (ix3 0 r x) * vc (ix2 x ⟨j.val, by omega⟩))
          (∑ x, P (ix3 0 r x) * vl (ix2 x ⟨128 + j.val, by omega⟩) + ∑ x, Q (ix3 0 r x) * vc (ix2 x ⟨128 + j.val, by omega⟩)) :=
  Cert.KernelIdeal.Blk.sum_apply P vl Q vc r j

end

theorem chunk_apply (q : Vec Ideal S256x256 .bf16) (kl : Vec Ideal S4096x256 .bf16) (kc : Vec Ideal S256x256 .bf16)
    (vl : Vec Ideal S4096x256 .bf16) (vc : Vec Ideal S256x256 .bf16) (r : Fin 256) (j : Fin 128) :
    chunk q kl kc vl vc (ix2 r j)
      = Row.out (fun x => q (ix2 r x)) (fun k x => kl (ix2 k x)) (fun k x => kc (ix2 k x)) (fun k x => vl (ix2 k x)) (fun k x => vc (ix2 k x)) j := by
  have hs : ∀ k, join (k0_pay4 q kl) (k0_pay5 q kc) (ix3 0 r k)
      = Row.score (fun x => q (ix2 r x)) (fun k x => kl (ix2 k x)) (fun k x => kc (ix2 k x)) k := fun k => by
    unfold Row.score
    split
    next h => rw [← lat_apply]; exact dif_pos h
    next h => rw [← ctx_apply]; exact dif_neg h
  have hw : ∀ k, weights q kl kc (ix3 0 r k)
      = Ideal.exp2 (Row.score (fun x => q (ix2 r x)) (fun k x => kl (ix2 k x)) (fun k x => kc (ix2 k x)) k
          - Row.top (fun x => q (ix2 r x)) (fun k x => kl (ix2 k x)) (fun k x => kc (ix2 k x))) := fun k => by
    unfold weights
    rw [weigh_apply, Consts.ofBits_least]
    simp only [hs]
    rfl
  have hl : ∀ k : Fin 4096, cols 0 4096 (by decide) (weights q kl kc) (ix3 0 r k) = _ := fun k => hw ⟨0 + k.val, by omega⟩
  have hc : ∀ k : Fin 256, cols 4096 256 (by decide) (weights q kl kc) (ix3 0 r k) = _ := fun k => hw ⟨4096 + k.val, by omega⟩
  unfold chunk
  rw [sum_apply]
  simp only [hl, hc]
  have sl : ∀ k : Fin 4096, Row.score (fun x => q (ix2 r x)) (fun k x => kl (ix2 k x)) (fun k x => kc (ix2 k x)) ⟨0 + k.val, by omega⟩
      = ∑ x, q (ix2 r x) * kl (ix2 k x) := fun k => by
    unfold Row.score
    rw [dif_pos (by simp)]
    simp
  have sc : ∀ k : Fin 256, Row.score (fun x => q (ix2 r x)) (fun k x => kl (ix2 k x)) (fun k x => kc (ix2 k x)) ⟨4096 + k.val, by omega⟩
      = ∑ x, q (ix2 r x) * kc (ix2 k x) := fun k => by
    unfold Row.score
    rw [dif_neg (by simp)]
    simp
  simp only [sl, sc]
  rfl

/-- A piece of the output block: the chunk of the rows from `o` on. -/
theorem piece (X : Vec Ideal S2048x256 .bf16) (kl : Vec Ideal S4096x256 .bf16) (kc : Vec Ideal S256x256 .bf16)
    (vl : Vec Ideal S4096x256 .bf16) (vc : Vec Ideal S256x256 .bf16) (o : ℕ)
    (h : ∀ a, (![o, 0] : Fin 2 → ℕ) a + (![256, 256] : Fin 2 → ℕ) a ≤ S2048x256.size a) (x : S256x128.Idx) (r : Fin 2048) (j : Fin 128)
    (hr : r.val = o + (x 0).val) (hj : j.val = (x 1).val) :
    chunk (View.ld X (Rect.unit ![o, 0] ![256, 256] h)) kl kc vl vc x
      = Row.out (fun x => X (ix2 r x)) (fun k x => kl (ix2 k x)) (fun k x => kc (ix2 k x)) (fun k x => vl (ix2 k x)) (fun k x => vc (ix2 k x)) j := by
  have e : j = x 1 := Fin.ext hj
  refine (congrArg (chunk _ kl kc vl vc) (eq_ix2 x)).trans ((chunk_apply _ kl kc vl vc (x 0) (x 1)).trans ?_)
  rw [e]
  congr 1
  funext d
  refine congrArg X (funext fun a => Fin.ext ?_)
  match a with
  | 0 => show o + 1 * (x 0).val = r.val; omega
  | 1 => show 0 + 1 * d.val = d.val; omega

set_option maxHeartbeats 4000000 in
theorem block_apply (c : Dev nD) (t : Fin cfg0.N) (r : Fin 2048) (j : Fin 128) :
    outsAt0 m c t (ix2 r j) = Row.out (fun x => iblk m c 0 t (ix2 r x)) (fun k x => X0_1 m c t (ix2 k x)) (fun k x => iblk m c 2 t (ix2 k x))
      (fun k x => X0_3 m c t (ix2 k x)) (fun k x => iblk m c 4 t (ix2 k x)) j := by
  unfold outsAt0 out0_A_5
  rw [View.read_writes_eq_canon _ _ _ (cover0_A_5 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread,
    read_join, read_cols _ _ 0 4096 _ _ (by decide), read_cols _ _ 4096 256 _ _ (by decide)]
  simp (disch := decide) only [View.ld_unit_lit']
  canon_tiles x h
  all_goals exact piece (iblk m c 0 t) (X0_1 m c t) (iblk m c 2 t) (X0_3 m c t) (iblk m c 4 t) _ _ x r j (h0.trans (by omega)) h1

end Cert.Kernel2Ideal.Blk

end
-- ==== Proof.MlaHost.lean ====
/- The matrices that the multi-head latent attention's launch is given, at an entry, over the arguments: per head 128
   features of their own, 64 rotated ones and 64 zeros of the scaled queries and of the keys, and the values with a column
   of ones per value column. -/
module

public import proofs.«01_k».proof.Proof.Gen.Kernel2Ideal.Value
public import proofs.«01_k».proof.Proof.Consts
public import Idealize.ShloMosaic.Lib.Pointwise
public import Idealize.ShloMosaic.Lib.StableHlo.ReadAt
public import Idealize.ShloMosaic.Lib.Pipeline.ValueKit.Point

@[expose] public section

set_option maxRecDepth 16384

noncomputable section

namespace Cert.Kernel2Ideal.Host

open Cert.Kernel2Ideal Cert.Kernel2Ideal.Gen Idealize.ShloMosaic Idealize.ShloMosaic.TcCoe Idealize.SL.Sem
open Idealize.ShloMosaic.Tactic
open Idealize.ShloMosaic.Pointwise

variable (m : (ℓ : Loc nD τ sig) → Buf (Elt Ideal) ℓ) (c : Dev nD)

theorem q_own (b : Fin 4) (n : Fin 4096) (h : Fin 8) (x : Fin 128) (R : Fin 16384) (C : Fin 2048)
    (hR : R.val = b.val * 4096 + n.val) (hC : C.val = h.val * 256 + x.val) :
    V m c main_v11 (ix2 R C) = (show EReal from (m ((c : Thread nD τ).loc main_arg0) (ix4 b n h x)) : EReal) * (((√192)⁻¹ / Real.log 2 : ℝ) : EReal) := by
  unfold V
  after_reads_at
  rw [dif_pos (by omega)]
  after_reads_at
  rw [Consts.ofBits_two, Consts.ofBits_192, Consts.scale_two _ (by norm_num)]
  refine congrArg (· * _) ?_
  blk_ext []

theorem q_rot (b : Fin 4) (n : Fin 4096) (h : Fin 8) (x : Fin 64) (R : Fin 16384) (C : Fin 2048)
    (hR : R.val = b.val * 4096 + n.val) (hC : C.val = h.val * 256 + (128 + x.val)) :
    V m c main_v11 (ix2 R C) = (show EReal from (m ((c : Thread nD τ).loc main_arg1) (ix4 b n h x)) : EReal) * (((√192)⁻¹ / Real.log 2 : ℝ) : EReal) := by
  unfold V
  after_reads_at
  rw [dif_neg (by omega), dif_pos (by omega)]
  after_reads_at
  rw [Consts.ofBits_two, Consts.ofBits_192, Consts.scale_two _ (by norm_num)]
  refine congrArg (· * _) ?_
  blk_ext []

theorem q_zero (h : Fin 8) (x : Fin 64) (R : Fin 16384) (C : Fin 2048) (hC : C.val = h.val * 256 + (192 + x.val)) :
    V m c main_v11 (ix2 R C) = (0 : EReal) := by
  unfold V
  after_reads_at
  rw [dif_neg (by omega), dif_neg (by omega)]
  after_reads_at

/-- Keys or values of the latent positions over those of the context. -/
def rows (A : Vec Ideal S4x4096x8x128 .f32) (B : Vec Ideal S4x256x8x128 .f32) : Vec Ideal S17408x8x128 .f32 :=
  concatenate S17408x8x128 0
    [⟨S16384x8x128, shapeCast S16384x8x128 A shapeCasts_S4x4096x8x128_S16384x8x128⟩,
      ⟨S1024x8x128, shapeCast S1024x8x128 B shapeCasts_S4x256x8x128_S1024x8x128⟩]
    concatenates_S16384x8x128_S1024x8x128_S17408x8x128_d0

theorem rows_apply (A : Vec Ideal S4x4096x8x128 .f32) (B : Vec Ideal S4x256x8x128 .f32) (R : Fin 17408) (g : Fin 8) (d : Fin 128) :
    rows A B (ix3 R g d) = if h : R.val < 16384 then A (ix4 ⟨R.val / 4096, by omega⟩ ⟨R.val % 4096, by omega⟩ g d)
      else B (ix4 ⟨(R.val - 16384) / 256, by omega⟩ ⟨(R.val - 16384) % 256, by omega⟩ g d) := by
  pointwise [rows]

theorem rows_lat (A : Vec Ideal S4x4096x8x128 .f32) (B : Vec Ideal S4x256x8x128 .f32) (b : Fin 4) (n : Fin 4096) (R : Fin 17408)
    (g g' : Fin 8) (d d' : Fin 128) (hR : R.val = b.val * 4096 + n.val) (hg : g' = g) (hd : d' = d) : rows A B (ix3 R g' d') = A (ix4 b n g d) := by
  rw [rows_apply, dif_pos (by omega), hg, hd]
  blk_ext []

theorem rows_ctx (A : Vec Ideal S4x4096x8x128 .f32) (B : Vec Ideal S4x256x8x128 .f32) (b : Fin 4) (n : Fin 256) (R : Fin 17408)
    (g g' : Fin 8) (d d' : Fin 128) (hR : R.val = 16384 + b.val * 256 + n.val) (hg : g' = g) (hd : d' = d) :
    rows A B (ix3 R g' d') = B (ix4 b n g d) := by
  rw [rows_apply, dif_neg (by omega), hg, hd]
  blk_ext []

/-- The rotated keys of the latent positions over those of the context. -/
def rot (A : Vec Ideal S4x4096x64 .f32) (B : Vec Ideal S4x256x64 .f32) : Vec Ideal S17408x64 .f32 :=
  concatenate S17408x64 0
    [⟨S16384x64, shapeCast S16384x64 A shapeCasts_S4x4096x64_S16384x64⟩, ⟨S1024x64, shapeCast S1024x64 B shapeCasts_S4x256x64_S1024x64⟩]
    concatenates_S16384x64_S1024x64_S17408x64_d0

theorem rot_apply (A : Vec Ideal S4x4096x64 .f32) (B : Vec Ideal S4x256x64 .f32) (R : Fin 17408) (d : Fin 64) :
    rot A B (ix2 R d) = if h : R.val < 16384 then A (ix3 ⟨R.val / 4096, by omega⟩ ⟨R.val % 4096, by omega⟩ d)
      else B (ix3 ⟨(R.val - 16384) / 256, by omega⟩ ⟨(R.val - 16384) % 256, by omega⟩ d) := by
  pointwise [rot]

theorem k_own (R : Fin 17408) (C : Fin 2048) (h : C.val % 256 < 128) :
    V m c main_v23 (ix2 R C) = rows (m ((c : Thread nD τ).loc main_arg2)) (m ((c : Thread nD τ).loc main_arg5))
      (ix3 R ⟨C.val / 256, by omega⟩ ⟨C.val % 256, h⟩) := by
  unfold V
  after_reads_at
  rw [dif_pos h]
  after_reads_simp
  rfl

theorem k_rot (R : Fin 17408) (C : Fin 2048) (x : Fin 64) (hC : C.val % 256 = 128 + x.val) :
    V m c main_v23 (ix2 R C) = rot (m ((c : Thread nD τ).loc main_arg3)) (m ((c : Thread nD τ).loc main_arg6)) (ix2 R x) := by
  unfold V
  after_reads_at
  rw [dif_neg (by omega), dif_pos (by omega), rot_apply]
  after_reads_at
  simp only [hC, Nat.add_sub_cancel_left]
  split <;> after_reads_at

theorem k_rot_lat (b : Fin 4) (n : Fin 4096) (x : Fin 64) (R : Fin 17408) (C : Fin 2048)
    (hR : R.val = b.val * 4096 + n.val) (hC : C.val % 256 = 128 + x.val) :
    V m c main_v23 (ix2 R C) = m ((c : Thread nD τ).loc main_arg3) (ix3 b n x) := by
  rw [k_rot _ _ _ _ x hC, rot_apply, dif_pos (by omega)]
  blk_ext []

theorem k_rot_ctx (b : Fin 4) (n : Fin 256) (x : Fin 64) (R : Fin 17408) (C : Fin 2048)
    (hR : R.val = 16384 + b.val * 256 + n.val) (hC : C.val % 256 = 128 + x.val) :
    V m c main_v23 (ix2 R C) = m ((c : Thread nD τ).loc main_arg6) (ix3 b n x) := by
  rw [k_rot _ _ _ _ x hC, rot_apply, dif_neg (by omega)]
  blk_ext []

theorem v_apply (R : Fin 17408) (C : Fin 2048) (h : C.val % 256 < 128) :
    V m c main_v30 (ix2 R C) = rows (m ((c : Thread nD τ).loc main_arg4)) (m ((c : Thread nD τ).loc main_arg7))
      (ix3 R ⟨C.val / 256, by omega⟩ ⟨C.val % 256, h⟩) := by
  unfold V
  after_reads_at
  rw [dif_pos h]
  after_reads_simp
  rfl

theorem v_ones (R : Fin 17408) (C : Fin 2048) (h : 128 ≤ C.val % 256) : V m c main_v30 (ix2 R C) = (1 : EReal) := by
  unfold V
  after_reads_at
  rw [dif_neg (by omega)]
  after_reads_at

section

variable (b : Fin 4) (g : Fin 8) (x : Fin 128) (R : Fin 17408) (C : Fin 2048) (hC : C.val = g.val * 256 + x.val)
include hC

theorem k_own_lat (n : Fin 4096) (hR : R.val = b.val * 4096 + n.val) :
    V m c main_v23 (ix2 R C) = m ((c : Thread nD τ).loc main_arg2) (ix4 b n g x) :=
  (k_own m c R C (by omega)).trans (rows_lat _ _ b n R g _ x _ hR (Fin.ext (by dsimp only; omega)) (Fin.ext (by dsimp only; omega)))

theorem k_own_ctx (n : Fin 256) (hR : R.val = 16384 + b.val * 256 + n.val) :
    V m c main_v23 (ix2 R C) = m ((c : Thread nD τ).loc main_arg5) (ix4 b n g x) :=
  (k_own m c R C (by omega)).trans (rows_ctx _ _ b n R g _ x _ hR (Fin.ext (by dsimp only; omega)) (Fin.ext (by dsimp only; omega)))

theorem v_lat (n : Fin 4096) (hR : R.val = b.val * 4096 + n.val) :
    V m c main_v30 (ix2 R C) = m ((c : Thread nD τ).loc main_arg4) (ix4 b n g x) :=
  (v_apply m c R C (by omega)).trans (rows_lat _ _ b n R g _ x _ hR (Fin.ext (by dsimp only; omega)) (Fin.ext (by dsimp only; omega)))

theorem v_ctx (n : Fin 256) (hR : R.val = 16384 + b.val * 256 + n.val) :
    V m c main_v30 (ix2 R C) = m ((c : Thread nD τ).loc main_arg7) (ix4 b n g x) :=
  (v_apply m c R C (by omega)).trans (rows_ctx _ _ b n R g _ x _ hR (Fin.ext (by dsimp only; omega)) (Fin.ext (by dsimp only; omega)))

end

end Cert.Kernel2Ideal.Host

end
-- ==== Proof.MlaRef.lean ====
/- The multi-head latent attention of reference.py at an entry: a softmax of the scaled products, summed against the
   values. -/
module

public import proofs.«01_k».proof.Proof.Gen.Reference2Ideal.Read
public import proofs.«01_k».proof.Proof.Consts
public import proofs.«01_k».proof.Proof.Row
public import Idealize.ShloMosaic.Lib.Pointwise

@[expose] public section

noncomputable section

namespace Cert.Reference2Ideal.Ref

open Cert.Reference2Ideal Cert.Reference2Ideal.Gen Cert.Reference2Ideal.Read Idealize.ShloMosaic Idealize.ShloMosaic.TcCoe Idealize.SL.Sem
open Idealize.ShloMosaic.Pointwise
open Cert.Softmax

variable (q : (⟨S4x4096x8x128, .f32⟩ : BufTy).Contents (Elt Ideal)) (p : (⟨S4x4096x8x64, .f32⟩ : BufTy).Contents (Elt Ideal))
  (k : (⟨S4x4096x8x128, .f32⟩ : BufTy).Contents (Elt Ideal)) (r : (⟨S4x4096x64, .f32⟩ : BufTy).Contents (Elt Ideal))
  (v : (⟨S4x4096x8x128, .f32⟩ : BufTy).Contents (Elt Ideal))
  (kc : (⟨S4x256x8x128, .f32⟩ : BufTy).Contents (Elt Ideal)) (rc : (⟨S4x256x64, .f32⟩ : BufTy).Contents (Elt Ideal))
  (vc : (⟨S4x256x8x128, .f32⟩ : BufTy).Contents (Elt Ideal))

/-- The score of a query and a latent key: their own features' product and the rotated ones'. -/
def lat (b : Fin 4) (h : Fin 8) (n : Fin 4096) (x : Fin 4096) : ℝ :=
  (∑ d, (k (ix4 b x h d)).toReal * (q (ix4 b n h d)).toReal + ∑ d, (r (ix3 b x d)).toReal * (p (ix4 b n h d)).toReal) * (√192)⁻¹

/-- The score of a query and a context key. -/
def ctx (b : Fin 4) (h : Fin 8) (n : Fin 4096) (x : Fin 256) : ℝ :=
  (∑ d, (kc (ix4 b x h d)).toReal * (q (ix4 b n h d)).toReal + ∑ d, (rc (ix3 b x d)).toReal * (p (ix4 b n h d)).toReal) * (√192)⁻¹

theorem score_apply (b : Fin 4) (h : Fin 8) (n : Fin 4096) (x : Fin 4352) :
    val_main_v10 (F := Ideal) q p k r kc rc (ix4 b h n x)
      = (∑ d, q (ix4 b n h d) * (if h' : x.val < 256 then kc (ix4 b ⟨x.val, h'⟩ h d) else k (ix4 b ⟨x.val - 256, by omega⟩ h d))
          + ∑ d, (if h' : x.val < 256 then rc (ix3 b ⟨x.val, h'⟩ d) else r (ix3 b ⟨x.val - 256, by omega⟩ d)) * p (ix4 b n h d))
        * Ideal.div 1 (Ideal.sqrt (Ideal.ofBits .f32 0x43400000#32)) := by
  pointwise [val_main_v10, val_main_v9, val_main_v8, val_main_v7, val_main_v6, val_main_v5, val_main_v4, val_main_v3, val_main_v1, val_main_v0,
    val_main_cst, val_main_cst_0]

theorem swap {n : ℕ} {f g : Fin n → EReal} (hf : ∀ x, IsReal (f x)) (hg : ∀ x, IsReal (g x)) :
    ∑ x, f x * g x = ((∑ x, (g x).toReal * (f x).toReal : ℝ) : EReal) :=
  (Finset.sum_congr rfl fun x _ => mul_comm _ _).trans (Row.sum_real hf hg)

section

variable (hq : ∀ i, IsReal (q i)) (hp : ∀ i, IsReal (p i))
include hq hp

theorem score_lat (hk : ∀ i, IsReal (k i)) (hr : ∀ i, IsReal (r i)) (b : Fin 4) (h : Fin 8) (n : Fin 4096) (x : Fin 4096) :
    val_main_v10 (F := Ideal) q p k r kc rc (ix4 b h n ⟨256 + x.val, by omega⟩) = (lat q p k r b h n x : EReal) := by
  have e : 256 + x.val - 256 = x.val := by omega
  rw [score_apply, Consts.ofBits_192, Consts.scale _ (by norm_num)]
  simp only [show ¬ 256 + x.val < 256 by omega, dite_false, e]
  rw [swap (fun d => hq _) (fun d => hk _), Row.sum_real (fun d => hp _) (fun d => hr _), ← EReal.coe_add, ← EReal.coe_mul]
  rfl

theorem score_ctx (hk : ∀ i, IsReal (kc i)) (hr : ∀ i, IsReal (rc i)) (b : Fin 4) (h : Fin 8) (n : Fin 4096) (x : Fin 256) :
    val_main_v10 (F := Ideal) q p k r kc rc (ix4 b h n ⟨x.val, by omega⟩) = (ctx q p kc rc b h n x : EReal) := by
  rw [score_apply, Consts.ofBits_192, Consts.scale _ (by norm_num)]
  simp only [x.isLt, dite_true]
  rw [swap (fun d => hq _) (fun d => hk _), Row.sum_real (fun d => hp _) (fun d => hr _), ← EReal.coe_add, ← EReal.coe_mul]
  rfl

variable (hk : ∀ i, IsReal (k i)) (hr : ∀ i, IsReal (r i)) (hkc : ∀ i, IsReal (kc i)) (hrc : ∀ i, IsReal (rc i))
include hk hr hkc hrc

theorem score_real (i : S4x8x4096x4352.Idx) : IsReal (val_main_v10 (F := Ideal) q p k r kc rc i) := by
  obtain ⟨b, h, n, x, rfl⟩ : ∃ b h n x, i = ix4 b h n x := ⟨i 0, i 1, i 2, i 3, eq_ix4 i⟩
  by_cases hx : x.val < 256
  · exact (score_ctx q p k r kc rc hq hp hkc hrc b h n ⟨x.val, hx⟩) ▸ fin_coe _
  · have e : x = ⟨256 + (x.val - 256), by omega⟩ := Fin.ext (by show x.val = 256 + (x.val - 256); omega)
    rw [e]
    exact (score_lat q p k r kc rc hq hp hk hr b h n ⟨x.val - 256, by omega⟩) ▸ fin_coe _

theorem top_real (i : S4x8x4096.Idx) : IsReal (val_main_v13 (F := Ideal) q p k r kc rc i) := by
  have h12 : val_main_v12 (F := Ideal) i = ⊥ := by
    obtain ⟨b, h, n, rfl⟩ : ∃ b h n, i = ix3 b h n := ⟨i 0, i 1, i 2, eq_ix3 i⟩
    pointwise [val_main_v12, val_main_cst_2]
    exact Consts.ofBits_least
  have h11 : IsReal (val_main_v11 (F := Ideal) q p k r kc rc i) := by
    unfold val_main_v11
    rw [Host.reduce_eq_fold_single _ _ _ _ (by decide)]
    have h0 : val_main_cst_1 (F := Ideal) (Shape.Idx.first h_S_) = ⊥ := Consts.ofBits_least
    rw [h0]
    exact fold_max_fin (by decide) _ fun x => score_real q p k r kc rc hq hp hk hr hkc hrc _
  rw [val_main_v13_apply, h12]
  show IsReal (max ⊥ _)
  rwa [max_eq_right bot_le]

end

theorem sum_apply (b : Fin 4) (h : Fin 8) (n : Fin 4096) (d : Fin 128) :
    val_main_v23 (F := Ideal) q p k r v kc rc vc (ix4 b n h d)
      = ∑ x : Fin 256, vc (ix4 b x h d) * Ideal.div (Ideal.exp (val_main_v10 (F := Ideal) q p k r kc rc (ix4 b h n ⟨x.val, by omega⟩) - val_main_v13 (F := Ideal) q p k r kc rc (ix3 b h n)))
            (∑ x, Ideal.exp (val_main_v10 (F := Ideal) q p k r kc rc (ix4 b h n x) - val_main_v13 (F := Ideal) q p k r kc rc (ix3 b h n)))
        + ∑ x : Fin 4096, v (ix4 b x h d) * Ideal.div (Ideal.exp (val_main_v10 (F := Ideal) q p k r kc rc (ix4 b h n ⟨256 + x.val, by omega⟩) - val_main_v13 (F := Ideal) q p k r kc rc (ix3 b h n)))
            (∑ x, Ideal.exp (val_main_v10 (F := Ideal) q p k r kc rc (ix4 b h n x) - val_main_v13 (F := Ideal) q p k r kc rc (ix3 b h n))) := by
  unfold val_main_v23 val_main_v22 val_main_v21 val_main_v20 val_main_v19 val_main_v18 val_main_v17 val_main_v16 val_main_v15 val_main_v14
  generalize val_main_v10 (F := Ideal) q p k r kc rc = y
  generalize val_main_v13 (F := Ideal) q p k r kc rc = z
  pointwise [val_main_v2, val_main_cst_3]

theorem out_apply (hq : ∀ i, IsReal (q i)) (hp : ∀ i, IsReal (p i)) (hk : ∀ i, IsReal (k i)) (hr : ∀ i, IsReal (r i))
    (hkc : ∀ i, IsReal (kc i)) (hrc : ∀ i, IsReal (rc i)) (b : Fin 4) (h : Fin 8) (n : Fin 4096) (d : Fin 128) :
    val_main_v23 (F := Ideal) q p k r v kc rc vc (ix4 b n h d)
      = Row.soft (lat q p k r b h n) (ctx q p kc rc b h n) (val_main_v13 (F := Ideal) q p k r kc rc (ix3 b h n))
          (fun x => v (ix4 b x h d)) (fun x => vc (ix4 b x h d)) := by
  rw [sum_apply]
  exact Row.soft_of_list (fun x => val_main_v10 (F := Ideal) q p k r kc rc (ix4 b h n x)) _ _ _ _ _
    (fun x => score_ctx q p k r kc rc hq hp hkc hrc b h n x) (fun x => score_lat q p k r kc rc hq hp hk hr b h n x)

end Cert.Reference2Ideal.Ref

end
-- ==== Proof.MlaArr.lean ====
/- The array that the multi-head latent attention kernel leaves: the reference's, entry by entry. -/
module

public import proofs.«01_k».proof.Proof.MlaBlock
public import proofs.«01_k».proof.Proof.MlaHost
public import proofs.«01_k».proof.Proof.MlaRef

@[expose] public section

set_option maxRecDepth 16384

noncomputable section

namespace Cert.Kernel2Ideal.Arr

open Cert.Kernel2Ideal Cert.Kernel2Ideal.Gen Idealize.ShloMosaic Idealize.ShloMosaic.TcCoe Idealize.SL.Sem
open Idealize.ShloMosaic.Tactic
open Cert.Softmax
open Cert.Reference2Ideal.Ref (lat ctx)

variable (m : (ℓ : Loc nD τ sig) → Buf (Elt Ideal) ℓ) (c : Dev nD)

theorem idx : ∀ t : Fin cfg0.N, win0_0.index t = ![(grid0.coords t 0).val * 2 + (grid0.coords t 2).val, (grid0.coords t 1).val]
    ∧ win0_1.index t = ![(grid0.coords t 0).val, (grid0.coords t 1).val]
    ∧ win0_2.index t = ![64 + (grid0.coords t 0).val, (grid0.coords t 1).val]
    ∧ win0_3.index t = ![(grid0.coords t 0).val, (grid0.coords t 1).val]
    ∧ win0_4.index t = ![64 + (grid0.coords t 0).val, (grid0.coords t 1).val]
    ∧ win0_5.index t = ![(grid0.coords t 0).val * 2 + (grid0.coords t 2).val, (grid0.coords t 1).val] := by decide +kernel

theorem q_blk (t : Fin cfg0.N) (r : Fin 2048) (x : Fin 256) (R : Fin 16384) (C : Fin 2048)
    (hR : R.val = ((grid0.coords t 0).val * 2 + (grid0.coords t 2).val) * 2048 + r.val) (hC : C.val = (grid0.coords t 1).val * 256 + x.val) :
    iblk m c 0 t (ix2 r x) = V m c main_v11 (ix2 R C) := by
  blk_ext [iblk, (idx t).1]

theorem kl_blk (t : Fin cfg0.N) (r : Fin 4096) (x : Fin 256) (R : Fin 17408) (C : Fin 2048)
    (hR : R.val = (grid0.coords t 0).val * 4096 + r.val) (hC : C.val = (grid0.coords t 1).val * 256 + x.val) :
    X0_1 m c t (ix2 r x) = V m c main_v23 (ix2 R C) := by
  unfold X0_1 Pipeline.Window.fill
  rw [dif_pos (moved0_1 t _)]
  blk_ext [iblk, (idx t).2.1]

theorem kc_blk (t : Fin cfg0.N) (r : Fin 256) (x : Fin 256) (R : Fin 17408) (C : Fin 2048)
    (hR : R.val = (64 + (grid0.coords t 0).val) * 256 + r.val) (hC : C.val = (grid0.coords t 1).val * 256 + x.val) :
    iblk m c 2 t (ix2 r x) = V m c main_v23 (ix2 R C) := by
  blk_ext [iblk, (idx t).2.2.1]

theorem vl_blk (t : Fin cfg0.N) (r : Fin 4096) (x : Fin 256) (R : Fin 17408) (C : Fin 2048)
    (hR : R.val = (grid0.coords t 0).val * 4096 + r.val) (hC : C.val = (grid0.coords t 1).val * 256 + x.val) :
    X0_3 m c t (ix2 r x) = V m c main_v30 (ix2 R C) := by
  unfold X0_3 Pipeline.Window.fill
  rw [dif_pos (moved0_3 t _)]
  blk_ext [iblk, (idx t).2.2.2.1]

theorem vc_blk (t : Fin cfg0.N) (r : Fin 256) (x : Fin 256) (R : Fin 17408) (C : Fin 2048)
    (hR : R.val = (64 + (grid0.coords t 0).val) * 256 + r.val) (hC : C.val = (grid0.coords t 1).val * 256 + x.val) :
    iblk m c 4 t (ix2 r x) = V m c main_v30 (ix2 R C) := by
  blk_ext [iblk, (idx t).2.2.2.2.1]

/-- The reference's result on the kernel's arguments. -/
def G : FVec Ideal S16384x1024 .bf16 :=
  Cert.Reference2Ideal.Read.val_main_v25 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem G_apply (w : S16384x1024.Idx) (b : Fin 4) (h : Fin 8) (n : Fin 4096) (j : Fin 128)
    (e0 : (w 0).val = b.val * 4096 + n.val) (e1 : (w 1).val = h.val * 128 + j.val) :
    G m c w = Cert.Reference2Ideal.Read.val_main_v23 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (ix4 b n h j) := by
  show Cert.Reference2Ideal.Read.val_main_v24 (F := Ideal) _ _ _ _ _ _ _ _ w = _
  rw [Cert.Reference2Ideal.Read.val_main_v24_apply]
  refine congrArg _ (funext fun a => Fin.ext ?_)
  match a with
  | 0 => show ((w 0).val * 1024 + (w 1).val) / 4194304 = b.val; rw [e0, e1]; omega
  | 1 => show ((w 0).val * 1024 + (w 1).val) / 1024 % 4096 = n.val; rw [e0, e1]; omega
  | 2 => show ((w 0).val * 1024 + (w 1).val) / 128 % 8 = h.val; rw [e0, e1]; omega
  | 3 => show ((w 0).val * 1024 + (w 1).val) % 128 = j.val; rw [e0, e1]; omega

variable (hq : ∀ i, IsReal (m ((c : Thread nD τ).loc main_arg0) i)) (hp : ∀ i, IsReal (m ((c : Thread nD τ).loc main_arg1) i))
  (hk : ∀ i, IsReal (m ((c : Thread nD τ).loc main_arg2) i)) (hr : ∀ i, IsReal (m ((c : Thread nD τ).loc main_arg3) i))
  (hkc : ∀ i, IsReal (m ((c : Thread nD τ).loc main_arg5) i)) (hrc : ∀ i, IsReal (m ((c : Thread nD τ).loc main_arg6) i))

include hq hp hk hr hkc hrc

set_option maxHeartbeats 2000000 in
/-- One entry of a block against the reference: batch `b`, row `i` of query block `u`, head `h`, column `j`. -/
theorem entry_apply (t : Fin cfg0.N) (i : Fin 2048) (j : Fin 128) (b : Fin 4) (h : Fin 8) (n : Fin 4096)
    (hb : (grid0.coords t 0).val = b.val) (hh : (grid0.coords t 1).val = h.val)
    (hn : n.val = (grid0.coords t 2).val * 2048 + i.val) :
    outsAt0 m c t (ix2 i j)
      = Cert.Reference2Ideal.Read.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (ix4 b n h j) := by
  have eq : ∀ x, iblk m c 0 t (ix2 i x) = _ := fun x =>
    q_blk m c t i x ⟨b.val * 4096 + n.val, by omega⟩ ⟨h.val * 256 + x.val, by omega⟩ (by dsimp only; omega) (by dsimp only; omega)
  have ekl : ∀ k x, X0_1 m c t (ix2 k x) = _ := fun k x =>
    kl_blk m c t k x ⟨b.val * 4096 + k.val, by omega⟩ ⟨h.val * 256 + x.val, by omega⟩ (by dsimp only; omega) (by dsimp only; omega)
  have ekc : ∀ k x, iblk m c 2 t (ix2 k x) = _ := fun k x =>
    kc_blk m c t k x ⟨16384 + b.val * 256 + k.val, by omega⟩ ⟨h.val * 256 + x.val, by omega⟩ (by dsimp only; omega) (by dsimp only; omega)
  have evl : ∀ k x, X0_3 m c t (ix2 k x) = _ := fun k x =>
    vl_blk m c t k x ⟨b.val * 4096 + k.val, by omega⟩ ⟨h.val * 256 + x.val, by omega⟩ (by dsimp only; omega) (by dsimp only; omega)
  have evc : ∀ k x, iblk m c 4 t (ix2 k x) = _ := fun k x =>
    vc_blk m c t k x ⟨16384 + b.val * 256 + k.val, by omega⟩ ⟨h.val * 256 + x.val, by omega⟩ (by dsimp only; omega) (by dsimp only; omega)
  rw [Cert.Reference2Ideal.Ref.out_apply _ _ _ _ _ _ _ _ hq hp hk hr hkc hrc, Blk.block_apply,
    Row.out_eq_soft _ _ _ _ _ j
      (lat (m ((c : Thread nD τ).loc main_arg0)) (m ((c : Thread nD τ).loc main_arg1)) (m ((c : Thread nD τ).loc main_arg2)) (m ((c : Thread nD τ).loc main_arg3)) b h n)
      (ctx (m ((c : Thread nD τ).loc main_arg0)) (m ((c : Thread nD τ).loc main_arg1)) (m ((c : Thread nD τ).loc main_arg5)) (m ((c : Thread nD τ).loc main_arg6)) b h n)
      _ ?_ ?_ (Cert.Reference2Ideal.Ref.top_real _ _ _ _ _ _ hq hp hk hr hkc hrc (ix3 b h n))
      (fun k => (evl k _).trans (Host.v_ones m c _ _ (by dsimp only; omega))) (fun k => (evc k _).trans (Host.v_ones m c _ _ (by dsimp only; omega)))]
  · exact congrArg₂ (Row.soft _ _ _) (funext fun k => (evl k _).trans (Host.v_lat m c b h j _ _ rfl k rfl))
      (funext fun k => (evc k _).trans (Host.v_ctx m c b h j _ _ rfl k rfl))
  · intro k
    refine (Row.sum_padded _ _ _ (fun x => hq _) (fun x => hk _) (fun x => hp _) (fun x => hr _)
      (fun x => (eq _).trans (Host.q_own m c b n h x _ _ rfl rfl)) (fun x => (ekl k _).trans (Host.k_own_lat m c b h x _ _ rfl k rfl))
      (fun x => (eq _).trans (Host.q_rot m c b n h x _ _ rfl rfl)) (fun x => (ekl k _).trans (Host.k_rot_lat m c b k x _ _ rfl (by dsimp only; omega)))
      (fun x => (eq _).trans (Host.q_zero m c h x _ _ rfl))).trans ?_
    rw [lat, mul_div_assoc]
  · intro k
    refine (Row.sum_padded _ _ _ (fun x => hq _) (fun x => hkc _) (fun x => hp _) (fun x => hrc _)
      (fun x => (eq _).trans (Host.q_own m c b n h x _ _ rfl rfl)) (fun x => (ekc k _).trans (Host.k_own_ctx m c b h x _ _ rfl k rfl))
      (fun x => (eq _).trans (Host.q_rot m c b n h x _ _ rfl rfl)) (fun x => (ekc k _).trans (Host.k_rot_ctx m c b k x _ _ rfl (by dsimp only; omega)))
      (fun x => (eq _).trans (Host.q_zero m c h x _ _ rfl))).trans ?_
    rw [ctx, mul_div_assoc]

theorem out_eq : (Gen.dats m 0 c).arrAt 5 cfg0.N = G m c := by
  refine (dats m 0 c).arrAt_eq_of_covers 5 _ (by decide +kernel) fun t hf y => ?_
  rw [after0_5]
  blk_simp
  have b0 : (grid0.coords t 0).val < 4 := (grid0.coords t 0).isLt
  have b1 : (grid0.coords t 1).val < 8 := (grid0.coords t 1).isLt
  have b2 : (grid0.coords t 2).val < 2 := (grid0.coords t 2).isLt
  have y0 : (y 0).val < 2048 := (y 0).isLt
  have y1 : (y 1).val < 128 := (y 1).isLt
  have e0 : (((win0_5.blk t).view.emb y) 0).val = ((grid0.coords t 0).val * 2 + (grid0.coords t 2).val) * 2048 + (y 0).val := by
    blk_simp [(idx t).2.2.2.2.2]
  have e1 : (((win0_5.blk t).view.emb y) 1).val = (grid0.coords t 1).val * 128 + (y 1).val := by
    blk_simp [(idx t).2.2.2.2.2]
  refine (congrArg (outsAt0 m c t) (eq_ix2 y)).trans ((entry_apply m c hq hp hk hr hkc hrc t ⟨(y 0).val, y0⟩ ⟨(y 1).val, y1⟩
    ⟨(grid0.coords t 0).val, b0⟩ ⟨(grid0.coords t 1).val, b1⟩
    ⟨(grid0.coords t 2).val * 2048 + (y 0).val, by omega⟩ rfl rfl rfl).trans ?_)
  exact (G_apply m c _ _ _ _ _ (e0.trans (by dsimp only; omega)) (e1.trans (by dsimp only))).symm

end Cert.Kernel2Ideal.Arr

end
-- ==== Proof.Mla.lean ====
/- The multi-head latent attention: under the precondition, the kernel and the reference leave the same array. -/
module

public import proofs.«01_k».proof.Defs
public import proofs.«01_k».proof.Proof.MlaArr
public import proofs.«01_k».proof.Proof.Finite
public import proofs.«01_k».proof.Proof.Gen.Reference2Ideal.Run

@[expose] public section

noncomputable section

namespace Cert.Mla

open Idealize.ShloMosaic Idealize.ShloMosaic.TcCoe Idealize.SL.Sem Cert.Finite

theorem algebraic : Cert.algebraic_Kernel2Ideal_Reference2Ideal_pre_finite_mla := by
  intro m g m' g' hp ha
  refine ⟨fun c => Kernel2Ideal.Arr.G m c, ?_, ?_⟩
  · exact (θ_run _ _ _).mono (fun r h c => ⟨(h c).1.trans (Kernel2Ideal.Arr.out_eq m c
      (fun i => real_of_flags (fun _ => rfl) (hp c).1 i) (fun i => real_of_flags (fun _ => rfl) (hp c).2.1 i)
      (fun i => real_of_flags (fun _ => rfl) (hp c).2.2.1 i) (fun i => real_of_flags (fun _ => rfl) (hp c).2.2.2.1 i)
      (fun i => real_of_flags (fun _ => rfl) (hp c).2.2.2.2.1 i) (fun i => real_of_flags (fun _ => rfl) (hp c).2.2.2.2.2 i)), (h c).2⟩)
      (Kernel2Ideal.Value.run_blocks m g)
  · refine (θ_run _ _ _).mono (fun r h c => ⟨?_, (h c).2⟩) (Reference2Ideal.Value.run m' g')
    refine ((h c).1.trans (Reference2Ideal.Read.val_main_v25_eq m' c)).trans ?_
    obtain ⟨h0, h1, h2, h3, h4, h5, h6, h7⟩ := ha c
    rw [h0, h1, h2, h3, h4, h5, h6, h7]
    rfl

end Cert.Mla

end
-- ==== Proof.Token.lean ====
/- What the row kernels compute for one token: a gated residual, a root-mean-square norm with a gain, and a modulation. -/
module

public import Idealize.ShloMosaic.PureOps.Ideal

@[expose] public section

noncomputable section

namespace Cert.Token

open Idealize.ShloMosaic

variable {n k : ℕ}

/-- A row times a matrix. -/
def times (a : Fin n → EReal) (w : Fin n → Fin k → EReal) (j : Fin k) : EReal := ∑ i, a i * w i j

/-- The norm of a row over its root mean square, `N` being the number of its entries, times the gain. -/
def normed (N : EReal) (v g : Fin n → EReal) (j : Fin n) : EReal :=
  v j * Ideal.rsqrt (Ideal.div (∑ i, v i * v i) N + Ideal.ofBits .f32 0x358637BD#32) * g j

/-- The residual of a row: the attention's row times the output weights, gated and added. -/
def resid (a : Fin n → EReal) (w : Fin n → Fin k → EReal) (x g : Fin k → EReal) (j : Fin k) : EReal := x j + g j * times a w j

/-- A row scaled and shifted. -/
def modulated (v sh sc : Fin n → EReal) (j : Fin n) : EReal := v j * (1 + sc j) + sh j

/-- The row that the channel mixer is given: the residual, normed and modulated. -/
def mixed (a : Fin n → EReal) (w : Fin n → Fin 1024 → EReal) (x g m sh sc : Fin 1024 → EReal) : Fin 1024 → EReal :=
  modulated (normed (Ideal.ofBits .f32 0x44800000#32) (resid a w x g) m) sh sc

/-- The score of one key against the 128 entries of a query row from `o` on. -/
def score (K : Fin 128 → EReal) (q : Fin 2048 → EReal) (o : ℕ) (ho : o + 128 ≤ 2048) : EReal := ∑ d : Fin 128, K d * q ⟨o + d.val, by omega⟩

end Cert.Token

end
-- ==== Proof.PostBlock.lean ====
/- What one grid step of the call after the attention leaves in its output blocks, row by row. -/
module

public import proofs.«01_k».proof.Proof.Gen.Kernel3Ideal.Value
public import proofs.«01_k».proof.Proof.Token
public import Idealize.ShloMosaic.Lib.Pointwise
public import Idealize.ShloMosaic.Lib.Pipeline.ValueKit.Tiles

@[expose] public section

set_option maxRecDepth 16384

noncomputable section

namespace Cert.Kernel3Ideal.Blk

open Cert.Kernel3Ideal Cert.Kernel3Ideal.Gen Idealize.ShloMosaic Idealize.ShloMosaic.TcCoe Idealize.SL.Sem
open Idealize.ShloMosaic.Tactic
open Cert.Token

/-- The block of attention rows that a step takes: of the latent tokens, or of the context's from step 32 on. -/
def pick (i : grid0.Coords) (u v : Vec Ideal S512x1024 .bf16) : Vec Ideal S512x1024 .bf16 :=
  Scalar.select (Scalar.cmpi .sge (BitVec.ofNat 32 (i 0).val) 32#32) v u

section
open Idealize.ShloMosaic.Pointwise

theorem resid_apply (i : grid0.Coords) (u v : Vec Ideal S512x1024 .bf16) (w : Vec Ideal S1024x1024 .bf16) (x : Vec Ideal S512x1024 .f32)
    (g : Vec Ideal S1x1x1x1024 .f32) (r : Fin 512) (j : Fin 1024) :
    k0_pay3 (F := Ideal) i u v w x g (ix2 r j)
      = resid (fun k => pick i u v (ix2 r k)) (fun k j => w (ix2 k j)) (fun j => x (ix2 r j)) (fun j => g (ix4 0 0 0 j)) j := by
  unfold resid times pick k0_pay3
  generalize Scalar.select _ v u = p
  pointwise []

theorem normed_apply (i : grid0.Coords) (u v : Vec Ideal S512x1024 .bf16) (w : Vec Ideal S1024x1024 .bf16) (x : Vec Ideal S512x1024 .f32)
    (g : Vec Ideal S1x1x1x1024 .f32) (n : Vec Ideal S1x1024 .f32) (r : Fin 512) (j : Fin 1024) :
    k0_pay4 (F := Ideal) i u v w x g n (ix2 r j)
      = normed (Ideal.ofBits .f32 0x44800000#32) (fun j => k0_pay3 (F := Ideal) i u v w x g (ix2 r j)) (fun j => n (ix2 0 j)) j := by
  unfold k0_pay4
  generalize k0_pay3 (F := Ideal) i u v w x g = y
  unfold normed
  pointwise []

theorem modulated_apply (y : FVec Ideal S512x1024 .f32) (sc sh : Vec Ideal S1x1x1x1024 .f32) (r : Fin 512) (j : Fin 1024) :
    k0_pay7 (F := Ideal) y (k0_pay5 sc) k0_pay6 sh (ix2 r j)
      = modulated (fun j => y (ix2 r j)) (fun j => sh (ix4 0 0 0 j)) (fun j => sc (ix4 0 0 0 j)) j := by
  unfold modulated
  pointwise [k0_pay7, k0_pay5, k0_pay6]

theorem query_apply (y : FVec Ideal S512x1024 .f32) (sc sh : Vec Ideal S1x1x1x1024 .f32) (w : Vec Ideal S1024x2048 .bf16) (r : Fin 512) (j : Fin 2048) :
    k0_pay8 (F := Ideal) y (k0_pay5 sc) k0_pay6 sh w (ix2 r j)
      = times (fun k => k0_pay7 (F := Ideal) y (k0_pay5 sc) k0_pay6 sh (ix2 r k)) (fun k j => w (ix2 k j)) j := by
  unfold k0_pay8
  generalize k0_pay7 (F := Ideal) y (k0_pay5 sc) k0_pay6 sh = z
  unfold times
  pointwise []

/-- The scores of one head's keys against 128 columns of the queries. -/
def head (o : ℕ) (h : S512x2048.Slices ![0, o] S512x128) (K : Vec Ideal S1x128x128 .bf16) (Q : FVec Ideal S512x2048 .bf16) : FVec Ideal S1x128x512 .f32 :=
  shapeCast S1x128x512 (matmul (φ₁ := .bf16) (φ₂ := .bf16) dot_S128x128_S512x128_S128x512_1_1_0_0_n_n none (shapeCast S128x128 K shapeCasts_S1x128x128_S128x128)
    (extractStridedSlice S512x128 ![0, o] Q h) (constant S128x512 .f32 0x00000000#32)) shapeCasts_S128x512_S1x128x512

theorem head_apply (o : ℕ) (h : S512x2048.Slices ![0, o] S512x128) (ho : o + 128 ≤ 2048) (K : Vec Ideal S1x128x128 .bf16) (Q : FVec Ideal S512x2048 .bf16)
    (k : Fin 128) (r : Fin 512) :
    head o h K Q (ix3 0 k r) = score (fun d => K (ix3 0 k d)) (fun j => Q (ix2 r j)) o ho := by
  unfold head score
  pointwise []

end

/-- A piece of a block of scores: the keys of head `n`. -/
theorem piece (o n : ℕ) (h : S512x2048.Slices ![0, o] S512x128) (ho : o + 128 ≤ 2048) (K : Vec Ideal S8x128x128 .bf16) (Q : FVec Ideal S512x2048 .bf16)
    (hn : ∀ a, (![n, 0, 0] : Fin 3 → ℕ) a + (![1, 128, 128] : Fin 3 → ℕ) a ≤ S8x128x128.size a) (x : S1x128x512.Idx)
    (H : Fin 8) (k : Fin 128) (r : Fin 512) (hH : H.val = n + (x 0).val) (hk : k.val = (x 1).val) (hr : r.val = (x 2).val) :
    head o h (View.ld K (Rect.unit ![n, 0, 0] ![1, 128, 128] hn)) Q x = score (fun d => K (ix3 H k d)) (fun j => Q (ix2 r j)) o ho := by
  have x0 : x 0 = (0 : Fin 1) := Fin.ext (by have : (x 0).val < 1 := (x 0).isLt; show (x 0).val = 0; omega)
  have ek : x 1 = k := Fin.ext hk.symm
  have er : x 2 = r := Fin.ext hr.symm
  have ex : x = ix3 (0 : Fin 1) k r := by rw [← x0, ← ek, ← er]; exact eq_ix3 x
  refine (congrArg (head o h _ Q) ex).trans ((head_apply o h ho _ Q k r).trans ?_)
  refine congrArg (fun f => score f _ o ho) (funext fun d => congrArg K (funext fun a => Fin.ext ?_))
  have hx : (x 0).val = 0 := congrArg Fin.val x0
  match a with
  | 0 => show n + 1 * 0 = H.val; omega
  | 1 => show 0 + 1 * k.val = k.val; omega
  | 2 => show 0 + 1 * d.val = d.val; omega

variable (i : grid0.Coords) (x0 x1 : Vec Ideal S512x1024 .bf16) (x2 : Vec Ideal S512x1024 .f32) (x3 : Vec Ideal S1x6x1x1024 .f32)
  (x4 : Vec Ideal S1024x1024 .bf16) (x5 : Vec Ideal S1x1024 .f32) (x6 : Vec Ideal S1024x2048 .bf16) (x7 x8 : Vec Ideal S8x128x128 .bf16)

/-- Row `r` of the residual. -/
def resRow (r : Fin 512) : Fin 1024 → EReal :=
  resid (fun k => pick i x0 x1 (ix2 r k)) (fun k j => x4 (ix2 k j)) (fun j => x2 (ix2 r j)) (fun j => x3 (ix4 0 2 0 j))

/-- Row `r` of the mixer's input. -/
def mixRow (r : Fin 512) : Fin 1024 → EReal :=
  mixed (fun k => pick i x0 x1 (ix2 r k)) (fun k j => x4 (ix2 k j)) (fun j => x2 (ix2 r j)) (fun j => x3 (ix4 0 2 0 j)) (fun j => x5 (ix2 0 j))
    (fun j => x3 (ix4 0 3 0 j)) (fun j => x3 (ix4 0 4 0 j))

theorem mod_ld (n : ℕ) (hn : n < 6) (h : ∀ a, (![0, n, 0, 0] : Fin 4 → ℕ) a + (![1, 1, 1, 1024] : Fin 4 → ℕ) a ≤ S1x6x1x1024.size a) (j : Fin 1024) :
    View.ld x3 (Rect.unit ![0, n, 0, 0] ![1, 1, 1, 1024] h) (ix4 0 0 0 j) = x3 (ix4 0 ⟨n, hn⟩ 0 j) := by
  refine congrArg x3 (funext fun a => Fin.ext ?_)
  match a with
  | 0 => rfl
  | 1 => rfl
  | 2 => rfl
  | 3 => show 0 + 1 * j.val = j.val; omega

theorem pay3_row (r : Fin 512) :
    (fun j => k0_pay3 (F := Ideal) i x0 x1 x4 x2 (View.ld x3 r0_2) (ix2 r j)) = resRow i x0 x1 x2 x3 x4 r := by
  funext j
  rw [resid_apply]
  exact congrArg (fun f => resid _ _ _ f j) (funext fun j => mod_ld x3 2 (by decide) _ j)

theorem pay7_row (r : Fin 512) :
    (fun j => k0_pay7 (F := Ideal) (k0_pay4 i x0 x1 x4 x2 (View.ld x3 r0_2) x5) (k0_pay5 (View.ld x3 r0_4)) k0_pay6 (View.ld x3 r0_5) (ix2 r j))
      = mixRow i x0 x1 x2 x3 x4 x5 r := by
  funext j
  rw [modulated_apply]
  have e : (fun j => k0_pay4 (F := Ideal) i x0 x1 x4 x2 (View.ld x3 r0_2) x5 (ix2 r j))
      = normed (Ideal.ofBits .f32 0x44800000#32) (resRow i x0 x1 x2 x3 x4 r) (fun j => x5 (ix2 0 j)) := by
    funext j
    rw [normed_apply, pay3_row]
  rw [e]
  have e3 : (fun j => View.ld x3 r0_5 (ix4 0 0 0 j)) = fun j => x3 (ix4 0 3 0 j) := funext fun j => mod_ld x3 3 (by decide) _ j
  have e4 : (fun j => View.ld x3 r0_4 (ix4 0 0 0 j)) = fun j => x3 (ix4 0 4 0 j) := funext fun j => mod_ld x3 4 (by decide) _ j
  rw [e3, e4]
  rfl

theorem out9_apply (r : Fin 512) (j : Fin 1024) : out0_9 i x0 x1 x2 x3 x4 x5 x6 x7 x8 (ix2 r j) = resRow i x0 x1 x2 x3 x4 r j := by
  unfold_out out0_9
  simp (disch := decide) only [View.ld_unit_lit', View.canon_unit_zero]
  exact congrFun (pay3_row i x0 x1 x2 x3 x4 r) j

theorem out10_apply (r : Fin 512) (j : Fin 1024) : out0_10 i x0 x1 x2 x3 x4 x5 x6 x7 x8 (ix2 r j) = mixRow i x0 x1 x2 x3 x4 x5 r j := by
  unfold_out out0_10
  simp (disch := decide) only [View.ld_unit_lit', View.canon_unit_zero]
  exact congrFun (pay7_row i x0 x1 x2 x3 x4 x5 r) j

/-- Row `r` of the queries. -/
def queryRow (r : Fin 512) : Fin 2048 → EReal := times (mixRow i x0 x1 x2 x3 x4 x5 r) (fun k j => x6 (ix2 k j))

theorem pay8_row (r : Fin 512) :
    (fun j => k0_pay8 (F := Ideal) (k0_pay4 i x0 x1 x4 x2 (View.ld x3 r0_2) x5) (k0_pay5 (View.ld x3 r0_4)) k0_pay6 (View.ld x3 r0_5) x6 (ix2 r j))
      = queryRow i x0 x1 x2 x3 x4 x5 x6 r := by
  funext j
  rw [query_apply, pay7_row]
  rfl

theorem score_congr {K : Fin 128 → EReal} {q q' : Fin 2048 → EReal} {o o' : ℕ} {ho : o + 128 ≤ 2048} {ho' : o' + 128 ≤ 2048}
    (eq : q = q') (e : o = o') : score K q o ho = score K q' o' ho' := by
  subst eq e
  rfl

set_option maxHeartbeats 4000000 in
theorem out11_apply (h : Fin 8) (k : Fin 128) (r : Fin 512) :
    out0_11 i x0 x1 x2 x3 x4 x5 x6 x7 x8 (ix3 h k r)
      = score (fun d => x7 (ix3 h k d)) (queryRow i x0 x1 x2 x3 x4 x5 x6 r) (h.val * 256) (by omega) := by
  unfold_out out0_11
  simp (disch := decide) only [View.ld_unit_lit']
  canon_tiles x hh
  all_goals
    refine (piece _ _ ?_ ?_ x7 _ _ x h k r ?_ hh1 hh2).trans (score_congr (pay8_row i x0 x1 x2 x3 x4 x5 x6 r) ?_)
    all_goals first | decide | exact hh0.trans (by omega) | (have e : h.val = _ := hh0; omega)

set_option maxHeartbeats 4000000 in
theorem out12_apply (h : Fin 8) (k : Fin 128) (r : Fin 512) :
    out0_12 i x0 x1 x2 x3 x4 x5 x6 x7 x8 (ix3 h k r)
      = score (fun d => x8 (ix3 h k d)) (queryRow i x0 x1 x2 x3 x4 x5 x6 r) (h.val * 256 + 128) (by omega) := by
  unfold_out out0_12
  simp (disch := decide) only [View.ld_unit_lit']
  canon_tiles x hh
  all_goals
    refine (piece _ _ ?_ ?_ x8 _ _ x h k r ?_ hh1 hh2).trans (score_congr (pay8_row i x0 x1 x2 x3 x4 x5 x6 r) ?_)
    all_goals first | decide | exact hh0.trans (by omega) | (have e : h.val = _ := hh0; omega)

end Cert.Kernel3Ideal.Blk

end
-- ==== Proof.PostHost.lean ====
/- The matrices that the launch after the attention is given, at an entry, over the arguments: the latent rows over the
   context's, the table of shifts, scales and gates, and the weights. -/
module

public import proofs.«01_k».proof.Proof.Gen.Kernel3Ideal.Value
public import Idealize.ShloMosaic.Lib.Pointwise
public import Idealize.ShloMosaic.Lib.StableHlo.ReadAt
public import Idealize.ShloMosaic.Lib.Pipeline.ValueKit.Point

@[expose] public section

set_option maxRecDepth 16384

noncomputable section

namespace Cert.Kernel3Ideal.Host

open Cert.Kernel3Ideal Cert.Kernel3Ideal.Gen Idealize.ShloMosaic Idealize.ShloMosaic.TcCoe Idealize.SL.Sem
open Idealize.ShloMosaic.Tactic
open Idealize.ShloMosaic.Pointwise

variable (m : (ℓ : Loc nD τ sig) → Buf (Elt Ideal) ℓ) (c : Dev nD)

/-- The latent rows over those of the context. -/
def rows (A : Vec Ideal S4x4096x1024 .f32) (B : Vec Ideal S4x256x1024 .f32) : Vec Ideal S17408x1024 .f32 :=
  concatenate S17408x1024 0
    [⟨S16384x1024, shapeCast S16384x1024 A shapeCasts_S4x4096x1024_S16384x1024⟩,
      ⟨S1024x1024, shapeCast S1024x1024 B shapeCasts_S4x256x1024_S1024x1024⟩]
    concatenates_S16384x1024_S1024x1024_S17408x1024_d0

theorem rows_apply (A : Vec Ideal S4x4096x1024 .f32) (B : Vec Ideal S4x256x1024 .f32) (R : Fin 17408) (j : Fin 1024) :
    rows A B (ix2 R j) = if h : R.val < 16384 then A (ix3 ⟨R.val / 4096, by omega⟩ ⟨R.val % 4096, by omega⟩ j)
      else B (ix3 ⟨(R.val - 16384) / 256, by omega⟩ ⟨(R.val - 16384) % 256, by omega⟩ j) := by
  pointwise [rows]

theorem x_eq : V m c main_v2 = rows (m ((c : Thread nD τ).loc main_arg2)) (m ((c : Thread nD τ).loc main_arg3)) := by
  unfold V
  after_reads_simp
  rfl

/-- The samples' rows of shifts, scales and gates, the context's row, and three rows that no step reads. -/
def table (A : Vec Ideal S4x6144 .f32) (B : Vec Ideal S6144 .f32) : Vec Ideal S8x6144 .f32 :=
  concatenate S8x6144 0 [⟨S4x6144, A⟩, ⟨S1x6144, broadcastInDim S1x6144 ![1] bcast_S6144_S1x6144_1 B⟩,
      ⟨S3x6144, broadcastInDim S3x6144 ![] bcast_S_S3x6144 (constant (F := Ideal) S_ .f32 0x00000000#32)⟩]
    concatenates_S4x6144_S1x6144_S3x6144_S8x6144_d0

theorem table_lat (A : Vec Ideal S4x6144 .f32) (B : Vec Ideal S6144 .f32) (r : Fin 8) (h : r.val < 4) (C : Fin 6144) :
    table A B (ix2 r C) = A (ix2 ⟨r.val, h⟩ C) := by
  pointwise [table]
  rw [dif_pos h]

theorem table_ctx (A : Vec Ideal S4x6144 .f32) (B : Vec Ideal S6144 .f32) (C : Fin 6144) :
    table A B (ix2 4 C) = B (ix1 C) := by
  pointwise [table]

theorem mod_eq : V m c main_v6
    = shapeCast S8x6x1x1024 (table (m ((c : Thread nD τ).loc main_arg4)) (m ((c : Thread nD τ).loc main_arg5))) shapeCasts_S8x6144_S8x6x1x1024 := by
  unfold V
  after_reads_simp
  funext i
  refine congrArg (fun T => shapeCast S8x6x1x1024 T shapeCasts_S8x6144_S8x6x1x1024 i) ?_
  show concatenate S8x6144 0 [⟨S4x6144, StableHlo.upto hostOps0 (fun b => m (c, b)) 6 (Proc.tc.devRef main_arg4)⟩,
      ⟨S1x6144, StableHlo.upto hostOps0 (fun b => m (c, b)) 6 (Proc.tc.devRef main_v4)⟩,
      ⟨S3x6144, StableHlo.upto hostOps0 (fun b => m (c, b)) 6 (Proc.tc.devRef main_v3)⟩]
    concatenates_S4x6144_S1x6144_S3x6144_S8x6144_d0 = _
  rfl

theorem mod_apply (r : Fin 8) (n : Fin 6) (j : Fin 1024) : V m c main_v6 (ix4 r n 0 j)
    = table (m ((c : Thread nD τ).loc main_arg4)) (m ((c : Thread nD τ).loc main_arg5)) (ix2 r ⟨n.val * 1024 + j.val, by omega⟩) := by
  rw [mod_eq]
  generalize table _ _ = T
  pointwise []

theorem wo_eq : V m c main_v7 = m ((c : Thread nD τ).loc main_arg6) := by
  unfold V
  after_reads_simp
  rfl

theorem wq_eq : V m c main_v8 = m ((c : Thread nD τ).loc main_arg8) := by
  unfold V
  after_reads_simp
  rfl

theorem k1_eq : V m c main_v9 = m ((c : Thread nD τ).loc main_arg9) := by
  unfold V
  after_reads_simp
  rfl

theorem k2_eq : V m c main_v10 = m ((c : Thread nD τ).loc main_arg10) := by
  unfold V
  after_reads_simp
  rfl

theorem gain_apply (j : Fin 1024) : V m c main_v11 (ix2 0 j) = m ((c : Thread nD τ).loc main_arg7) (ix1 j) := by
  unfold V
  after_reads_at

end Cert.Kernel3Ideal.Host

end
-- ==== Proof.PostRef.lean ====
module

public import proofs.«01_k».proof.Proof.Gen.Reference3Ideal.Read
public import proofs.«01_k».proof.Proof.Token
public import Idealize.ShloMosaic.Lib.Pointwise

@[expose] public section

noncomputable section

namespace Cert.Reference3Ideal.Ref

open Cert.Reference3Ideal Cert.Reference3Ideal.Gen Cert.Reference3Ideal.Read Idealize.ShloMosaic Idealize.ShloMosaic.TcCoe Idealize.SL.Sem
open Idealize.ShloMosaic.Pointwise
open Cert.Token

variable (x0 : (⟨S16384x1024, .bf16⟩ : BufTy).Contents (Elt Ideal)) (x1 : (⟨S1024x1024, .bf16⟩ : BufTy).Contents (Elt Ideal))
  (x2 : (⟨S4x4096x1024, .f32⟩ : BufTy).Contents (Elt Ideal)) (x3 : (⟨S4x256x1024, .f32⟩ : BufTy).Contents (Elt Ideal))
  (x4 : (⟨S4x6144, .f32⟩ : BufTy).Contents (Elt Ideal)) (x5 : (⟨S6144, .f32⟩ : BufTy).Contents (Elt Ideal))
  (x6 : (⟨S1024x1024, .f32⟩ : BufTy).Contents (Elt Ideal)) (x7 : (⟨S1024, .f32⟩ : BufTy).Contents (Elt Ideal))
  (x8 : (⟨S1024x2048, .f32⟩ : BufTy).Contents (Elt Ideal)) (x9 x10 : (⟨S8x128x128, .f32⟩ : BufTy).Contents (Elt Ideal))

/-- The residual of latent token `n` of sample `b`. -/
def latRes (b : Fin 4) (n : Fin 4096) : Fin 1024 → EReal :=
  resid (fun k : Fin 1024 => x0 (ix2 ⟨b.val * 4096 + n.val, by omega⟩ k)) (fun k j => x6 (ix2 k j)) (fun j => x2 (ix3 b n j))
    (fun j => x4 (ix2 b ⟨2048 + j.val, by omega⟩))

/-- The mixer's input of latent token `n` of sample `b`. -/
def latMix (b : Fin 4) (n : Fin 4096) : Fin 1024 → EReal :=
  mixed (fun k : Fin 1024 => x0 (ix2 ⟨b.val * 4096 + n.val, by omega⟩ k)) (fun k j => x6 (ix2 k j)) (fun j => x2 (ix3 b n j))
    (fun j => x4 (ix2 b ⟨2048 + j.val, by omega⟩)) (fun j => x7 (ix1 j))
    (fun j => x4 (ix2 b ⟨3072 + j.val, by omega⟩)) (fun j => x4 (ix2 b ⟨4096 + j.val, by omega⟩))

theorem latRes_apply (b : Fin 4) (n : Fin 4096) (j : Fin 1024) :
    val_main_v23 (F := Ideal) x0 x2 x4 x6 (ix3 b n j) = latRes x0 x2 x4 x6 b n j := by
  unfold latRes resid times
  pointwise [val_main_v23, val_main_v22, val_main_v21, val_main_v20, val_main_v19, val_main_v18, val_main_v8, val_main_v2]

theorem latNorm_apply (b : Fin 4) (n : Fin 4096) (j : Fin 1024) :
    val_main_v36 (F := Ideal) x0 x2 x4 x6 x7 (ix3 b n j)
      = normed (Ideal.ofBits .f32 0x44800000#32) (latRes x0 x2 x4 x6 b n) (fun j => x7 (ix1 j)) j := by
  have e : latRes x0 x2 x4 x6 b n = fun j => val_main_v23 (F := Ideal) x0 x2 x4 x6 (ix3 b n j) := funext fun j => (latRes_apply ..).symm
  rw [e]
  unfold normed val_main_v36 val_main_v35 val_main_v34 val_main_v33 val_main_v32 val_main_v31 val_main_v30 val_main_v29 val_main_v28 val_main_v27
    val_main_v26 val_main_v25 val_main_v24
  generalize val_main_v23 (F := Ideal) x0 x2 x4 x6 = y
  pointwise [val_main_cst, val_main_cst_0, val_main_cst_1]

theorem latMix_apply (b : Fin 4) (n : Fin 4096) (j : Fin 1024) :
    val_main_v42 (F := Ideal) x0 x2 x4 x6 x7 (ix3 b n j) = latMix x0 x2 x4 x6 x7 b n j := by
  unfold latMix mixed
  have e : normed (Ideal.ofBits .f32 0x44800000#32) (latRes x0 x2 x4 x6 b n) (fun j => x7 (ix1 j))
      = fun j => val_main_v36 (F := Ideal) x0 x2 x4 x6 x7 (ix3 b n j) := funext fun j => (latNorm_apply ..).symm
  refine Eq.trans ?_ (congrArg (fun f => modulated f _ _ j) e.symm)
  unfold modulated val_main_v42 val_main_v41 val_main_v40
  generalize val_main_v36 (F := Ideal) x0 x2 x4 x6 x7 = y
  pointwise [val_main_v39, val_main_v38, val_main_v37, val_main_v10, val_main_v9, val_main_v4, val_main_v3, val_main_cst_2]

theorem latQuery_apply (b : Fin 4) (n : Fin 4096) (j : Fin 2048) :
    val_main_v44 (F := Ideal) x0 x2 x4 x6 x7 x8 (ix2 ⟨b.val * 4096 + n.val, by omega⟩ j) = times (latMix x0 x2 x4 x6 x7 b n) (fun k j => x8 (ix2 k j)) j := by
  have e : latMix x0 x2 x4 x6 x7 b n = fun j => val_main_v42 (F := Ideal) x0 x2 x4 x6 x7 (ix3 b n j) := funext fun j => (latMix_apply ..).symm
  rw [e]
  unfold times val_main_v44 val_main_v43
  generalize val_main_v42 (F := Ideal) x0 x2 x4 x6 x7 = y
  pointwise []

theorem latScore1_apply (R : Fin 16384) (h : Fin 8) (k : Fin 128) :
    val_main_v49 (F := Ideal) x0 x2 x4 x6 x7 x8 x9 (ix3 R h k)
      = score (fun d => x9 (ix3 h k d)) (fun j => val_main_v44 (F := Ideal) x0 x2 x4 x6 x7 x8 (ix2 R j)) (h.val * 256) (by omega) := by
  unfold score val_main_v49 val_main_v48 val_main_v47 val_main_v46 val_main_v45
  generalize val_main_v44 (F := Ideal) x0 x2 x4 x6 x7 x8 = y
  pointwise []

theorem latScore2_apply (R : Fin 16384) (h : Fin 8) (k : Fin 128) :
    val_main_v53 (F := Ideal) x0 x2 x4 x6 x7 x8 x10 (ix3 R h k)
      = score (fun d => x10 (ix3 h k d)) (fun j => val_main_v44 (F := Ideal) x0 x2 x4 x6 x7 x8 (ix2 R j)) (h.val * 256 + 128) (by omega) := by
  unfold score val_main_v53 val_main_v52 val_main_v51 val_main_v50 val_main_v45
  generalize val_main_v44 (F := Ideal) x0 x2 x4 x6 x7 x8 = y
  pointwise []

/-- The residual of context token `n` of sample `b`. -/
def ctxRes (b : Fin 4) (n : Fin 256) : Fin 1024 → EReal :=
  resid (fun k : Fin 1024 => x1 (ix2 ⟨b.val * 256 + n.val, by omega⟩ k)) (fun k j => x6 (ix2 k j)) (fun j => x3 (ix3 b n j))
    (fun j => x5 (ix1 ⟨2048 + j.val, by omega⟩))

/-- The mixer's input of context token `n` of sample `b`. -/
def ctxMix (b : Fin 4) (n : Fin 256) : Fin 1024 → EReal :=
  mixed (fun k : Fin 1024 => x1 (ix2 ⟨b.val * 256 + n.val, by omega⟩ k)) (fun k j => x6 (ix2 k j)) (fun j => x3 (ix3 b n j))
    (fun j => x5 (ix1 ⟨2048 + j.val, by omega⟩)) (fun j => x7 (ix1 j))
    (fun j => x5 (ix1 ⟨3072 + j.val, by omega⟩)) (fun j => x5 (ix1 ⟨4096 + j.val, by omega⟩))

theorem ctxRes_apply (b : Fin 4) (n : Fin 256) (j : Fin 1024) :
    val_main_v62 (F := Ideal) x1 x3 x5 x6 (ix3 b n j) = ctxRes x1 x3 x5 x6 b n j := by
  unfold ctxRes resid times
  pointwise [val_main_v62, val_main_v61, val_main_v60, val_main_v59, val_main_v58, val_main_v57, val_main_v56, val_main_v14]

theorem ctxNorm_apply (b : Fin 4) (n : Fin 256) (j : Fin 1024) :
    val_main_v75 (F := Ideal) x1 x3 x5 x6 x7 (ix3 b n j)
      = normed (Ideal.ofBits .f32 0x44800000#32) (ctxRes x1 x3 x5 x6 b n) (fun j => x7 (ix1 j)) j := by
  have e : ctxRes x1 x3 x5 x6 b n = fun j => val_main_v62 (F := Ideal) x1 x3 x5 x6 (ix3 b n j) := funext fun j => (ctxRes_apply ..).symm
  rw [e]
  unfold normed val_main_v75 val_main_v74 val_main_v73 val_main_v72 val_main_v71 val_main_v70 val_main_v69 val_main_v68 val_main_v67 val_main_v66
    val_main_v65 val_main_v64 val_main_v63
  generalize val_main_v62 (F := Ideal) x1 x3 x5 x6 = y
  pointwise [val_main_cst_3, val_main_cst_4, val_main_cst_5]

theorem ctxMix_apply (b : Fin 4) (n : Fin 256) (j : Fin 1024) :
    val_main_v83 (F := Ideal) x1 x3 x5 x6 x7 (ix3 b n j) = ctxMix x1 x3 x5 x6 x7 b n j := by
  unfold ctxMix mixed
  have e : normed (Ideal.ofBits .f32 0x44800000#32) (ctxRes x1 x3 x5 x6 b n) (fun j => x7 (ix1 j))
      = fun j => val_main_v75 (F := Ideal) x1 x3 x5 x6 x7 (ix3 b n j) := funext fun j => (ctxNorm_apply ..).symm
  refine Eq.trans ?_ (congrArg (fun f => modulated f _ _ j) e.symm)
  unfold modulated val_main_v83 val_main_v80
  generalize val_main_v75 (F := Ideal) x1 x3 x5 x6 x7 = y
  pointwise [val_main_v82, val_main_v81, val_main_v79, val_main_v78, val_main_v77, val_main_v76, val_main_v16, val_main_v15, val_main_cst_6]

theorem ctxQuery_apply (b : Fin 4) (n : Fin 256) (j : Fin 2048) :
    val_main_v85 (F := Ideal) x1 x3 x5 x6 x7 x8 (ix2 ⟨b.val * 256 + n.val, by omega⟩ j)
      = times (ctxMix x1 x3 x5 x6 x7 b n) (fun k j => x8 (ix2 k j)) j := by
  have e : ctxMix x1 x3 x5 x6 x7 b n = fun j => val_main_v83 (F := Ideal) x1 x3 x5 x6 x7 (ix3 b n j) := funext fun j => (ctxMix_apply ..).symm
  rw [e]
  unfold times val_main_v85 val_main_v84
  generalize val_main_v83 (F := Ideal) x1 x3 x5 x6 x7 = y
  pointwise []

theorem ctxScore1_apply (R : Fin 1024) (h : Fin 8) (k : Fin 128) :
    val_main_v90 (F := Ideal) x1 x3 x5 x6 x7 x8 x9 (ix3 R h k)
      = score (fun d => x9 (ix3 h k d)) (fun j => val_main_v85 (F := Ideal) x1 x3 x5 x6 x7 x8 (ix2 R j)) (h.val * 256) (by omega) := by
  unfold score val_main_v90 val_main_v89 val_main_v88 val_main_v87 val_main_v86
  generalize val_main_v85 (F := Ideal) x1 x3 x5 x6 x7 x8 = y
  pointwise []

theorem ctxScore2_apply (R : Fin 1024) (h : Fin 8) (k : Fin 128) :
    val_main_v94 (F := Ideal) x1 x3 x5 x6 x7 x8 x10 (ix3 R h k)
      = score (fun d => x10 (ix3 h k d)) (fun j => val_main_v85 (F := Ideal) x1 x3 x5 x6 x7 x8 (ix2 R j)) (h.val * 256 + 128) (by omega) := by
  unfold score val_main_v94 val_main_v93 val_main_v92 val_main_v91 val_main_v86
  generalize val_main_v85 (F := Ideal) x1 x3 x5 x6 x7 x8 = y
  pointwise []

/-- The four results, for a latent row and for a row of the context. -/
theorem res_lat (R : Fin 17408) (j : Fin 1024) (b : Fin 4) (n : Fin 4096) (hR : R.val = b.val * 4096 + n.val) :
    val_main_v97 (F := Ideal) x0 x1 x2 x3 x4 x5 x6 (ix2 R j) = latRes x0 x2 x4 x6 b n j := by
  rw [← latRes_apply]
  unfold val_main_v97 val_main_v54
  generalize val_main_v95 (F := Ideal) x1 x3 x5 x6 = z
  generalize val_main_v23 (F := Ideal) x0 x2 x4 x6 = y
  pointwise []
  rw [dif_pos (by omega)]
  exact congrArg y (congrArg₂ (fun b n => ix3 b n j) (Fin.ext (by dsimp only; omega)) (Fin.ext (by dsimp only; omega)))

theorem res_ctx (R : Fin 17408) (j : Fin 1024) (b : Fin 4) (n : Fin 256) (hR : R.val = 16384 + b.val * 256 + n.val) :
    val_main_v97 (F := Ideal) x0 x1 x2 x3 x4 x5 x6 (ix2 R j) = ctxRes x1 x3 x5 x6 b n j := by
  rw [← ctxRes_apply]
  unfold val_main_v97 val_main_v95
  generalize val_main_v54 (F := Ideal) x0 x2 x4 x6 = z
  generalize val_main_v62 (F := Ideal) x1 x3 x5 x6 = y
  pointwise []
  rw [dif_neg (by omega)]
  exact congrArg y (congrArg₂ (fun b n => ix3 b n j) (Fin.ext (by dsimp only; omega)) (Fin.ext (by dsimp only; omega)))

theorem mix_lat (R : Fin 17408) (j : Fin 1024) (b : Fin 4) (n : Fin 4096) (hR : R.val = b.val * 4096 + n.val) :
    val_main_v99 (F := Ideal) x0 x1 x2 x3 x4 x5 x6 x7 (ix2 R j) = latMix x0 x2 x4 x6 x7 b n j := by
  rw [← latMix_apply]
  unfold val_main_v99 val_main_v98 val_main_v55
  generalize val_main_v96 (F := Ideal) x1 x3 x5 x6 x7 = z
  generalize val_main_v42 (F := Ideal) x0 x2 x4 x6 x7 = y
  pointwise []
  rw [dif_pos (by omega)]
  exact congrArg y (congrArg₂ (fun b n => ix3 b n j) (Fin.ext (by dsimp only; omega)) (Fin.ext (by dsimp only; omega)))

theorem mix_ctx (R : Fin 17408) (j : Fin 1024) (b : Fin 4) (n : Fin 256) (hR : R.val = 16384 + b.val * 256 + n.val) :
    val_main_v99 (F := Ideal) x0 x1 x2 x3 x4 x5 x6 x7 (ix2 R j) = ctxMix x1 x3 x5 x6 x7 b n j := by
  rw [← ctxMix_apply]
  unfold val_main_v99 val_main_v98 val_main_v96
  generalize val_main_v55 (F := Ideal) x0 x2 x4 x6 x7 = z
  generalize val_main_v83 (F := Ideal) x1 x3 x5 x6 x7 = y
  pointwise []
  rw [dif_neg (by omega)]
  exact congrArg y (congrArg₂ (fun b n => ix3 b n j) (Fin.ext (by dsimp only; omega)) (Fin.ext (by dsimp only; omega)))

theorem score1_lat (R : Fin 17408) (h : Fin 8) (k : Fin 128) (b : Fin 4) (n : Fin 4096) (hR : R.val = b.val * 4096 + n.val) :
    val_main_v101 (F := Ideal) x0 x1 x2 x3 x4 x5 x6 x7 x8 x9 (ix3 h k R)
      = score (fun d => x9 (ix3 h k d)) (times (latMix x0 x2 x4 x6 x7 b n) (fun k j => x8 (ix2 k j))) (h.val * 256) (by omega) := by
  have e := latScore1_apply x0 x2 x4 x6 x7 x8 x9 ⟨b.val * 4096 + n.val, by omega⟩ h k
  rw [funext (latQuery_apply x0 x2 x4 x6 x7 x8 b n)] at e
  rw [← e]
  unfold val_main_v101 val_main_v100
  generalize val_main_v90 (F := Ideal) x1 x3 x5 x6 x7 x8 x9 = z
  generalize val_main_v49 (F := Ideal) x0 x2 x4 x6 x7 x8 x9 = y
  pointwise []
  rw [dif_pos (by omega)]
  exact congrArg y (congrArg (fun r => ix3 r h k) (Fin.ext hR))

theorem score1_ctx (R : Fin 17408) (h : Fin 8) (k : Fin 128) (b : Fin 4) (n : Fin 256) (hR : R.val = 16384 + b.val * 256 + n.val) :
    val_main_v101 (F := Ideal) x0 x1 x2 x3 x4 x5 x6 x7 x8 x9 (ix3 h k R)
      = score (fun d => x9 (ix3 h k d)) (times (ctxMix x1 x3 x5 x6 x7 b n) (fun k j => x8 (ix2 k j))) (h.val * 256) (by omega) := by
  have e := ctxScore1_apply x1 x3 x5 x6 x7 x8 x9 ⟨b.val * 256 + n.val, by omega⟩ h k
  rw [funext (ctxQuery_apply x1 x3 x5 x6 x7 x8 b n)] at e
  rw [← e]
  unfold val_main_v101 val_main_v100
  generalize val_main_v49 (F := Ideal) x0 x2 x4 x6 x7 x8 x9 = z
  generalize val_main_v90 (F := Ideal) x1 x3 x5 x6 x7 x8 x9 = y
  pointwise []
  rw [dif_neg (by omega)]
  exact congrArg y (congrArg (fun r => ix3 r h k) (Fin.ext (by dsimp only; omega)))

theorem score2_lat (R : Fin 17408) (h : Fin 8) (k : Fin 128) (b : Fin 4) (n : Fin 4096) (hR : R.val = b.val * 4096 + n.val) :
    val_main_v103 (F := Ideal) x0 x1 x2 x3 x4 x5 x6 x7 x8 x10 (ix3 h k R)
      = score (fun d => x10 (ix3 h k d)) (times (latMix x0 x2 x4 x6 x7 b n) (fun k j => x8 (ix2 k j))) (h.val * 256 + 128) (by omega) := by
  have e := latScore2_apply x0 x2 x4 x6 x7 x8 x10 ⟨b.val * 4096 + n.val, by omega⟩ h k
  rw [funext (latQuery_apply x0 x2 x4 x6 x7 x8 b n)] at e
  rw [← e]
  unfold val_main_v103 val_main_v102
  generalize val_main_v94 (F := Ideal) x1 x3 x5 x6 x7 x8 x10 = z
  generalize val_main_v53 (F := Ideal) x0 x2 x4 x6 x7 x8 x10 = y
  pointwise []
  rw [dif_pos (by omega)]
  exact congrArg y (congrArg (fun r => ix3 r h k) (Fin.ext hR))

theorem score2_ctx (R : Fin 17408) (h : Fin 8) (k : Fin 128) (b : Fin 4) (n : Fin 256) (hR : R.val = 16384 + b.val * 256 + n.val) :
    val_main_v103 (F := Ideal) x0 x1 x2 x3 x4 x5 x6 x7 x8 x10 (ix3 h k R)
      = score (fun d => x10 (ix3 h k d)) (times (ctxMix x1 x3 x5 x6 x7 b n) (fun k j => x8 (ix2 k j))) (h.val * 256 + 128) (by omega) := by
  have e := ctxScore2_apply x1 x3 x5 x6 x7 x8 x10 ⟨b.val * 256 + n.val, by omega⟩ h k
  rw [funext (ctxQuery_apply x1 x3 x5 x6 x7 x8 b n)] at e
  rw [← e]
  unfold val_main_v103 val_main_v102
  generalize val_main_v53 (F := Ideal) x0 x2 x4 x6 x7 x8 x10 = z
  generalize val_main_v94 (F := Ideal) x1 x3 x5 x6 x7 x8 x10 = y
  pointwise []
  rw [dif_neg (by omega)]
  exact congrArg y (congrArg (fun r => ix3 r h k) (Fin.ext (by dsimp only; omega)))

end Cert.Reference3Ideal.Ref

end
-- ==== Proof.PostArr.lean ====
/- The four arrays that the kernel after the attention leaves: the reference's, entry by entry. -/
module

public import proofs.«01_k».proof.Proof.PostBlock
public import proofs.«01_k».proof.Proof.PostHost
public import proofs.«01_k».proof.Proof.PostRef

@[expose] public section

set_option maxRecDepth 16384

noncomputable section

namespace Cert.Kernel3Ideal.Arr

open Cert.Kernel3Ideal Cert.Kernel3Ideal.Gen Idealize.ShloMosaic Idealize.ShloMosaic.TcCoe Idealize.SL.Sem
open Idealize.ShloMosaic.Tactic
open Cert.Token Cert.Kernel3Ideal.Blk
open Cert.Reference3Ideal.Ref (latRes latMix ctxRes ctxMix)

variable (m : (ℓ : Loc nD τ sig) → Buf (Elt Ideal) ℓ) (c : Dev nD)

theorem idx : ∀ t : Fin cfg0.N, win0_0.index t = ![min (grid0.coords t 0).val 31, 0]
    ∧ win0_1.index t = ![(grid0.coords t 0).val - 32, 0]
    ∧ win0_2.index t = ![(grid0.coords t 0).val, 0]
    ∧ win0_3.index t = ![min ((grid0.coords t 0).val / 8) 4, 0, 0, 0]
    ∧ win0_4.index t = ![0, 0] ∧ win0_5.index t = ![0, 0] ∧ win0_6.index t = ![0, 0]
    ∧ win0_7.index t = ![0, 0, 0] ∧ win0_8.index t = ![0, 0, 0]
    ∧ win0_9.index t = ![(grid0.coords t 0).val, 0] ∧ win0_10.index t = ![(grid0.coords t 0).val, 0]
    ∧ win0_11.index t = ![0, 0, (grid0.coords t 0).val] ∧ win0_12.index t = ![0, 0, (grid0.coords t 0).val] := by decide +kernel

theorem step_flag : ∀ t : Fin cfg0.N,
    Scalar.cmpi .sge (BitVec.ofNat 32 (grid0.coords t 0).val) 32#32 = if (grid0.coords t 0).val < 32 then 0#1 else 1#1 := by decide +kernel

theorem pick_lat (t : Fin cfg0.N) (h : (grid0.coords t 0).val < 32) (u v : Vec Ideal S512x1024 .bf16) : pick (grid0.coords t) u v = u := by
  unfold pick
  rw [step_flag, if_pos h]
  rfl

theorem pick_ctx (t : Fin cfg0.N) (h : 32 ≤ (grid0.coords t 0).val) (u v : Vec Ideal S512x1024 .bf16) : pick (grid0.coords t) u v = v := by
  unfold pick
  rw [step_flag, if_neg (by omega)]
  rfl

theorem lat_blk (t : Fin cfg0.N) (h : (grid0.coords t 0).val < 32) (r : Fin 512) (k : Fin 1024) (R : Fin 16384)
    (hR : R.val = (grid0.coords t 0).val * 512 + r.val) : iblk m c 0 t (ix2 r k) = m ((c : Thread nD τ).loc main_arg0) (ix2 R k) := by
  have e : iblk m c 0 t (ix2 r k) = V m c main_arg0 (ix2 R k) := by
    blk_ext [iblk, (idx t).1]
  exact e

theorem ctx_blk (t : Fin cfg0.N) (h : 32 ≤ (grid0.coords t 0).val) (r : Fin 512) (k : Fin 1024) (R : Fin 1024)
    (hR : R.val = ((grid0.coords t 0).val - 32) * 512 + r.val) : iblk m c 1 t (ix2 r k) = m ((c : Thread nD τ).loc main_arg1) (ix2 R k) := by
  have e : iblk m c 1 t (ix2 r k) = V m c main_arg1 (ix2 R k) := by
    blk_ext [iblk, (idx t).2.1]
  exact e

theorem x_blk (t : Fin cfg0.N) (r : Fin 512) (j : Fin 1024) (R : Fin 17408) (hR : R.val = (grid0.coords t 0).val * 512 + r.val) :
    iblk m c 2 t (ix2 r j) = V m c main_v2 (ix2 R j) := by
  blk_ext [iblk, (idx t).2.2.1]

theorem mod_blk (t : Fin cfg0.N) (n : Fin 6) (j : Fin 1024) (r : Fin 8) (hr : r.val = min ((grid0.coords t 0).val / 8) 4) :
    iblk m c 3 t (ix4 0 n 0 j) = V m c main_v6 (ix4 r n 0 j) := by
  blk_ext [iblk, (idx t).2.2.2.1]

theorem wo_blk (t : Fin cfg0.N) (k j : Fin 1024) : iblk m c 4 t (ix2 k j) = m ((c : Thread nD τ).loc main_arg6) (ix2 k j) := by
  refine Eq.trans ?_ (congrFun (Host.wo_eq m c) (ix2 k j))
  blk_ext [iblk, (idx t).2.2.2.2.1]

theorem gain_blk (t : Fin cfg0.N) (j : Fin 1024) : iblk m c 5 t (ix2 0 j) = m ((c : Thread nD τ).loc main_arg7) (ix1 j) := by
  refine Eq.trans ?_ (Host.gain_apply m c j)
  blk_ext [iblk, (idx t).2.2.2.2.2.1]

theorem wq_blk (t : Fin cfg0.N) (k : Fin 1024) (j : Fin 2048) : iblk m c 6 t (ix2 k j) = m ((c : Thread nD τ).loc main_arg8) (ix2 k j) := by
  refine Eq.trans ?_ (congrFun (Host.wq_eq m c) (ix2 k j))
  blk_ext [iblk, (idx t).2.2.2.2.2.2.1]

theorem k1_blk (t : Fin cfg0.N) (h : Fin 8) (k d : Fin 128) : iblk m c 7 t (ix3 h k d) = m ((c : Thread nD τ).loc main_arg9) (ix3 h k d) := by
  refine Eq.trans ?_ (congrFun (Host.k1_eq m c) (ix3 h k d))
  blk_ext [iblk, (idx t).2.2.2.2.2.2.2.1]

theorem k2_blk (t : Fin cfg0.N) (h : Fin 8) (k d : Fin 128) : iblk m c 8 t (ix3 h k d) = m ((c : Thread nD τ).loc main_arg10) (ix3 h k d) := by
  refine Eq.trans ?_ (congrFun (Host.k2_eq m c) (ix3 h k d))
  blk_ext [iblk, (idx t).2.2.2.2.2.2.2.2.1]

section lat

variable (t : Fin cfg0.N) (h : (grid0.coords t 0).val < 32) (r : Fin 512) (b : Fin 4) (n : Fin 4096)
  (hR : b.val * 4096 + n.val = (grid0.coords t 0).val * 512 + r.val)

include h hR

theorem attn_lat : (fun k => pick (grid0.coords t) (iblk m c 0 t) (iblk m c 1 t) (ix2 r k))
    = fun k => m ((c : Thread nD τ).loc main_arg0) (ix2 ⟨b.val * 4096 + n.val, by omega⟩ k) := by
  rw [pick_lat t h]
  exact funext fun k => lat_blk m c t h r k _ hR

theorem x_lat : (fun j => iblk m c 2 t (ix2 r j)) = fun j => m ((c : Thread nD τ).loc main_arg2) (ix3 b n j) := by
  funext j
  rw [x_blk m c t r j ⟨b.val * 4096 + n.val, by omega⟩ hR, Host.x_eq, Host.rows_apply, dif_pos (by dsimp only; omega)]
  blk_ext []

theorem mod_lat (k : Fin 6) (o : ℕ) (ho : o = k.val * 1024) :
    (fun j => iblk m c 3 t (ix4 0 k 0 j)) = fun j : Fin 1024 => m ((c : Thread nD τ).loc main_arg4) (ix2 b ⟨o + j.val, by omega⟩) := by
  subst ho
  funext j
  rw [mod_blk m c t k j ⟨b.val, by omega⟩ (by dsimp only; omega), Host.mod_apply, Host.table_lat _ _ _ b.isLt]

theorem resRow_lat : resRow (grid0.coords t) (iblk m c 0 t) (iblk m c 1 t) (iblk m c 2 t) (iblk m c 3 t) (iblk m c 4 t) r
    = latRes (m ((c : Thread nD τ).loc main_arg0)) (m ((c : Thread nD τ).loc main_arg2)) (m ((c : Thread nD τ).loc main_arg4))
        (m ((c : Thread nD τ).loc main_arg6)) b n := by
  unfold resRow latRes
  rw [attn_lat m c t h r b n hR, x_lat m c t h r b n hR, mod_lat m c t h r b n hR 2 2048 rfl, funext fun k => funext fun j => wo_blk m c t k j]

theorem mixRow_lat : mixRow (grid0.coords t) (iblk m c 0 t) (iblk m c 1 t) (iblk m c 2 t) (iblk m c 3 t) (iblk m c 4 t) (iblk m c 5 t) r
    = latMix (m ((c : Thread nD τ).loc main_arg0)) (m ((c : Thread nD τ).loc main_arg2)) (m ((c : Thread nD τ).loc main_arg4))
        (m ((c : Thread nD τ).loc main_arg6)) (m ((c : Thread nD τ).loc main_arg7)) b n := by
  unfold mixRow latMix
  rw [attn_lat m c t h r b n hR, x_lat m c t h r b n hR, mod_lat m c t h r b n hR 2 2048 rfl, mod_lat m c t h r b n hR 3 3072 rfl,
    mod_lat m c t h r b n hR 4 4096 rfl, funext fun k => funext fun j => wo_blk m c t k j, funext fun j => gain_blk m c t j]

end lat

theorem mod_ctx (t : Fin cfg0.N) (h : 32 ≤ (grid0.coords t 0).val) (k : Fin 6) (o : ℕ) (ho : o = k.val * 1024) :
    (fun j => iblk m c 3 t (ix4 0 k 0 j)) = fun j : Fin 1024 => m ((c : Thread nD τ).loc main_arg5) (ix1 ⟨o + j.val, by omega⟩) := by
  subst ho
  funext j
  rw [mod_blk m c t k j 4 (by show 4 = _; omega), Host.mod_apply, Host.table_ctx]

section ctx

variable (t : Fin cfg0.N) (h : 32 ≤ (grid0.coords t 0).val) (r : Fin 512) (b : Fin 4) (n : Fin 256)
  (hR : b.val * 256 + n.val = ((grid0.coords t 0).val - 32) * 512 + r.val)

include h hR

theorem attn_ctx : (fun k => pick (grid0.coords t) (iblk m c 0 t) (iblk m c 1 t) (ix2 r k))
    = fun k => m ((c : Thread nD τ).loc main_arg1) (ix2 ⟨b.val * 256 + n.val, by omega⟩ k) := by
  rw [pick_ctx t h]
  exact funext fun k => ctx_blk m c t h r k _ hR

theorem x_ctx : (fun j => iblk m c 2 t (ix2 r j)) = fun j => m ((c : Thread nD τ).loc main_arg3) (ix3 b n j) := by
  funext j
  rw [x_blk m c t r j ⟨16384 + (b.val * 256 + n.val), by omega⟩ (by dsimp only; omega), Host.x_eq, Host.rows_apply, dif_neg (by dsimp only; omega)]
  blk_ext []

theorem resRow_ctx : resRow (grid0.coords t) (iblk m c 0 t) (iblk m c 1 t) (iblk m c 2 t) (iblk m c 3 t) (iblk m c 4 t) r
    = ctxRes (m ((c : Thread nD τ).loc main_arg1)) (m ((c : Thread nD τ).loc main_arg3)) (m ((c : Thread nD τ).loc main_arg5))
        (m ((c : Thread nD τ).loc main_arg6)) b n := by
  unfold resRow ctxRes
  rw [attn_ctx m c t h r b n hR, x_ctx m c t h r b n hR, mod_ctx m c t h 2 2048 rfl, funext fun k => funext fun j => wo_blk m c t k j]

theorem mixRow_ctx : mixRow (grid0.coords t) (iblk m c 0 t) (iblk m c 1 t) (iblk m c 2 t) (iblk m c 3 t) (iblk m c 4 t) (iblk m c 5 t) r
    = ctxMix (m ((c : Thread nD τ).loc main_arg1)) (m ((c : Thread nD τ).loc main_arg3)) (m ((c : Thread nD τ).loc main_arg5))
        (m ((c : Thread nD τ).loc main_arg6)) (m ((c : Thread nD τ).loc main_arg7)) b n := by
  unfold mixRow ctxMix
  rw [attn_ctx m c t h r b n hR, x_ctx m c t h r b n hR, mod_ctx m c t h 2 2048 rfl, mod_ctx m c t h 3 3072 rfl,
    mod_ctx m c t h 4 4096 rfl, funext fun k => funext fun j => wo_blk m c t k j, funext fun j => gain_blk m c t j]

end ctx

/-- The reference's residual, mixer input and scores on the kernel's arguments. -/
def GX : FVec Ideal S17408x1024 .f32 :=
  Cert.Reference3Ideal.Read.val_main_v97 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

@[inherit_doc GX]
def GH : FVec Ideal S17408x1024 .bf16 :=
  Cert.Reference3Ideal.Read.val_main_v99 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

@[inherit_doc GX]
def GS1 : FVec Ideal S8x128x17408 .f32 :=
  Cert.Reference3Ideal.Read.val_main_v101 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

@[inherit_doc GX]
def GS2 : FVec Ideal S8x128x17408 .f32 :=
  Cert.Reference3Ideal.Read.val_main_v103 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg10))

section entry

variable (t : Fin cfg0.N) (r : Fin 512) (R : Fin 17408) (hR : R.val = (grid0.coords t 0).val * 512 + r.val)

include hR

theorem res_entry (j : Fin 1024) :
    resRow (grid0.coords t) (iblk m c 0 t) (iblk m c 1 t) (iblk m c 2 t) (iblk m c 3 t) (iblk m c 4 t) r j = GX m c (ix2 R j) := by
  unfold GX
  by_cases h : (grid0.coords t 0).val < 32
  · rw [resRow_lat m c t h r ⟨R.val / 4096, by omega⟩ ⟨R.val % 4096, by omega⟩ (by dsimp only; omega),
      Cert.Reference3Ideal.Ref.res_lat _ _ _ _ _ _ _ R j ⟨R.val / 4096, by omega⟩ ⟨R.val % 4096, by omega⟩ (by dsimp only; omega)]
  · rw [resRow_ctx m c t (by omega) r ⟨(R.val - 16384) / 256, by omega⟩ ⟨(R.val - 16384) % 256, by omega⟩ (by dsimp only; omega),
      Cert.Reference3Ideal.Ref.res_ctx _ _ _ _ _ _ _ R j ⟨(R.val - 16384) / 256, by omega⟩ ⟨(R.val - 16384) % 256, by omega⟩ (by dsimp only; omega)]

theorem mix_entry (j : Fin 1024) :
    mixRow (grid0.coords t) (iblk m c 0 t) (iblk m c 1 t) (iblk m c 2 t) (iblk m c 3 t) (iblk m c 4 t) (iblk m c 5 t) r j = GH m c (ix2 R j) := by
  unfold GH
  by_cases h : (grid0.coords t 0).val < 32
  · rw [mixRow_lat m c t h r ⟨R.val / 4096, by omega⟩ ⟨R.val % 4096, by omega⟩ (by dsimp only; omega),
      Cert.Reference3Ideal.Ref.mix_lat _ _ _ _ _ _ _ _ R j ⟨R.val / 4096, by omega⟩ ⟨R.val % 4096, by omega⟩ (by dsimp only; omega)]
  · rw [mixRow_ctx m c t (by omega) r ⟨(R.val - 16384) / 256, by omega⟩ ⟨(R.val - 16384) % 256, by omega⟩ (by dsimp only; omega),
      Cert.Reference3Ideal.Ref.mix_ctx _ _ _ _ _ _ _ _ R j ⟨(R.val - 16384) / 256, by omega⟩ ⟨(R.val - 16384) % 256, by omega⟩ (by dsimp only; omega)]

theorem score1_entry (h : Fin 8) (k : Fin 128) :
    score (fun d => iblk m c 7 t (ix3 h k d)) (queryRow (grid0.coords t) (iblk m c 0 t) (iblk m c 1 t) (iblk m c 2 t) (iblk m c 3 t) (iblk m c 4 t)
      (iblk m c 5 t) (iblk m c 6 t) r) (h.val * 256) (by omega) = GS1 m c (ix3 h k R) := by
  unfold GS1 queryRow
  rw [funext fun k => funext fun j => wq_blk m c t k j, funext fun d => k1_blk m c t h k d]
  by_cases hs : (grid0.coords t 0).val < 32
  · rw [mixRow_lat m c t hs r ⟨R.val / 4096, by omega⟩ ⟨R.val % 4096, by omega⟩ (by dsimp only; omega),
      Cert.Reference3Ideal.Ref.score1_lat _ _ _ _ _ _ _ _ _ _ R h k ⟨R.val / 4096, by omega⟩ ⟨R.val % 4096, by omega⟩ (by dsimp only; omega)]
  · rw [mixRow_ctx m c t (by omega) r ⟨(R.val - 16384) / 256, by omega⟩ ⟨(R.val - 16384) % 256, by omega⟩ (by dsimp only; omega),
      Cert.Reference3Ideal.Ref.score1_ctx _ _ _ _ _ _ _ _ _ _ R h k ⟨(R.val - 16384) / 256, by omega⟩ ⟨(R.val - 16384) % 256, by omega⟩
        (by dsimp only; omega)]

theorem score2_entry (h : Fin 8) (k : Fin 128) :
    score (fun d => iblk m c 8 t (ix3 h k d)) (queryRow (grid0.coords t) (iblk m c 0 t) (iblk m c 1 t) (iblk m c 2 t) (iblk m c 3 t) (iblk m c 4 t)
      (iblk m c 5 t) (iblk m c 6 t) r) (h.val * 256 + 128) (by omega) = GS2 m c (ix3 h k R) := by
  unfold GS2 queryRow
  rw [funext fun k => funext fun j => wq_blk m c t k j, funext fun d => k2_blk m c t h k d]
  by_cases hs : (grid0.coords t 0).val < 32
  · rw [mixRow_lat m c t hs r ⟨R.val / 4096, by omega⟩ ⟨R.val % 4096, by omega⟩ (by dsimp only; omega),
      Cert.Reference3Ideal.Ref.score2_lat _ _ _ _ _ _ _ _ _ _ R h k ⟨R.val / 4096, by omega⟩ ⟨R.val % 4096, by omega⟩ (by dsimp only; omega)]
  · rw [mixRow_ctx m c t (by omega) r ⟨(R.val - 16384) / 256, by omega⟩ ⟨(R.val - 16384) % 256, by omega⟩ (by dsimp only; omega),
      Cert.Reference3Ideal.Ref.score2_ctx _ _ _ _ _ _ _ _ _ _ R h k ⟨(R.val - 16384) / 256, by omega⟩ ⟨(R.val - 16384) % 256, by omega⟩
        (by dsimp only; omega)]

end entry

theorem x_eq : (Gen.dats m 0 c).arrAt 9 cfg0.N = GX m c := by
  refine (dats m 0 c).arrAt_eq_of_covers 9 _ (by decide +kernel) fun t hf y => ?_
  rw [after0_9]
  blk_simp
  have b0 : (grid0.coords t 0).val < 34 := (grid0.coords t 0).isLt
  have y0 : (y 0).val < 512 := (y 0).isLt
  have y1 : (y 1).val < 1024 := (y 1).isLt
  have e0 : (((win0_9.blk t).view.emb y) 0).val = (grid0.coords t 0).val * 512 + (y 0).val := by
    blk_simp [(idx t).2.2.2.2.2.2.2.2.2.1]
  have e1 : (((win0_9.blk t).view.emb y) 1).val = (y 1).val := by
    blk_simp [(idx t).2.2.2.2.2.2.2.2.2.1]
  refine (congrArg _ (eq_ix2 y)).trans ((out9_apply _ _ _ _ _ _ _ _ _ _ ⟨(y 0).val, y0⟩ ⟨(y 1).val, y1⟩).trans
    ((res_entry m c t _ ⟨(grid0.coords t 0).val * 512 + (y 0).val, by omega⟩ rfl _).trans ?_))
  refine congrArg (GX m c) (funext fun a => Fin.ext ?_)
  match a with
  | 0 => exact e0.symm
  | 1 => exact e1.symm

theorem h_eq : (Gen.dats m 0 c).arrAt 10 cfg0.N = GH m c := by
  refine (dats m 0 c).arrAt_eq_of_covers 10 _ (by decide +kernel) fun t hf y => ?_
  rw [after0_10]
  blk_simp
  have b0 : (grid0.coords t 0).val < 34 := (grid0.coords t 0).isLt
  have y0 : (y 0).val < 512 := (y 0).isLt
  have y1 : (y 1).val < 1024 := (y 1).isLt
  have e0 : (((win0_10.blk t).view.emb y) 0).val = (grid0.coords t 0).val * 512 + (y 0).val := by
    blk_simp [(idx t).2.2.2.2.2.2.2.2.2.2.1]
  have e1 : (((win0_10.blk t).view.emb y) 1).val = (y 1).val := by
    blk_simp [(idx t).2.2.2.2.2.2.2.2.2.2.1]
  refine (congrArg _ (eq_ix2 y)).trans ((out10_apply _ _ _ _ _ _ _ _ _ _ ⟨(y 0).val, y0⟩ ⟨(y 1).val, y1⟩).trans
    ((mix_entry m c t _ ⟨(grid0.coords t 0).val * 512 + (y 0).val, by omega⟩ rfl _).trans ?_))
  refine congrArg (GH m c) (funext fun a => Fin.ext ?_)
  match a with
  | 0 => exact e0.symm
  | 1 => exact e1.symm

theorem s1_eq : (Gen.dats m 0 c).arrAt 11 cfg0.N = GS1 m c := by
  refine (dats m 0 c).arrAt_eq_of_covers 11 _ (by decide +kernel) fun t hf y => ?_
  rw [after0_11]
  blk_simp
  have b0 : (grid0.coords t 0).val < 34 := (grid0.coords t 0).isLt
  have y0 : (y 0).val < 8 := (y 0).isLt
  have y1 : (y 1).val < 128 := (y 1).isLt
  have y2 : (y 2).val < 512 := (y 2).isLt
  have e0 : (((win0_11.blk t).view.emb y) 0).val = (y 0).val := by
    blk_simp [(idx t).2.2.2.2.2.2.2.2.2.2.2.1]
  have e1 : (((win0_11.blk t).view.emb y) 1).val = (y 1).val := by
    blk_simp [(idx t).2.2.2.2.2.2.2.2.2.2.2.1]
  have e2 : (((win0_11.blk t).view.emb y) 2).val = (grid0.coords t 0).val * 512 + (y 2).val := by
    blk_simp [(idx t).2.2.2.2.2.2.2.2.2.2.2.1]
  refine (congrArg _ (eq_ix3 y)).trans ((out11_apply _ _ _ _ _ _ _ _ _ _ ⟨(y 0).val, y0⟩ ⟨(y 1).val, y1⟩ ⟨(y 2).val, y2⟩).trans
    ((score1_entry m c t _ ⟨(grid0.coords t 0).val * 512 + (y 2).val, by omega⟩ rfl _ _).trans ?_))
  refine congrArg (GS1 m c) (funext fun a => Fin.ext ?_)
  match a with
  | 0 => exact e0.symm
  | 1 => exact e1.symm
  | 2 => exact e2.symm

theorem s2_eq : (Gen.dats m 0 c).arrAt 12 cfg0.N = GS2 m c := by
  refine (dats m 0 c).arrAt_eq_of_covers 12 _ (by decide +kernel) fun t hf y => ?_
  rw [after0_12]
  blk_simp
  have b0 : (grid0.coords t 0).val < 34 := (grid0.coords t 0).isLt
  have y0 : (y 0).val < 8 := (y 0).isLt
  have y1 : (y 1).val < 128 := (y 1).isLt
  have y2 : (y 2).val < 512 := (y 2).isLt
  have e0 : (((win0_12.blk t).view.emb y) 0).val = (y 0).val := by
    blk_simp [(idx t).2.2.2.2.2.2.2.2.2.2.2.2]
  have e1 : (((win0_12.blk t).view.emb y) 1).val = (y 1).val := by
    blk_simp [(idx t).2.2.2.2.2.2.2.2.2.2.2.2]
  have e2 : (((win0_12.blk t).view.emb y) 2).val = (grid0.coords t 0).val * 512 + (y 2).val := by
    blk_simp [(idx t).2.2.2.2.2.2.2.2.2.2.2.2]
  refine (congrArg _ (eq_ix3 y)).trans ((out12_apply _ _ _ _ _ _ _ _ _ _ ⟨(y 0).val, y0⟩ ⟨(y 1).val, y1⟩ ⟨(y 2).val, y2⟩).trans
    ((score2_entry m c t _ ⟨(grid0.coords t 0).val * 512 + (y 2).val, by omega⟩ rfl _ _).trans ?_))
  refine congrArg (GS2 m c) (funext fun a => Fin.ext ?_)
  match a with
  | 0 => exact e0.symm
  | 1 => exact e1.symm
  | 2 => exact e2.symm

end Cert.Kernel3Ideal.Arr

end
-- ==== Proof.Post.lean ====
/- The call after the attention: the kernel and the reference leave the same four arrays. -/
module

public import proofs.«01_k».proof.Defs
public import proofs.«01_k».proof.Proof.PostArr
public import proofs.«01_k».proof.Proof.Gen.Reference3Ideal.Run

@[expose] public section

noncomputable section

namespace Cert.Post

open Idealize.ShloMosaic Idealize.ShloMosaic.TcCoe Idealize.SL.Sem

theorem algebraic : Cert.algebraic_Kernel3Ideal_Reference3Ideal := by
  intro m g m' g' _ ha
  refine ⟨fun c => Kernel3Ideal.Arr.GX m c, fun c => Kernel3Ideal.Arr.GH m c, fun c => Kernel3Ideal.Arr.GS1 m c,
    fun c => Kernel3Ideal.Arr.GS2 m c, ?_, ?_⟩
  · exact (θ_run _ _ _).mono (fun r h c => ⟨(h c).1.trans (Kernel3Ideal.Arr.x_eq m c), (h c).2.1.trans (Kernel3Ideal.Arr.h_eq m c),
      (h c).2.2.1.trans (Kernel3Ideal.Arr.s1_eq m c), (h c).2.2.2.1.trans (Kernel3Ideal.Arr.s2_eq m c), (h c).2.2.2.2⟩)
      (Kernel3Ideal.Value.run_blocks m g)
  · refine (θ_run _ _ _).mono (fun r h c => ?_) (Reference3Ideal.Value.run m' g')
    obtain ⟨h0, h1, h2, h3, h4, h5, h6, h7, h8, h9, h10⟩ := ha c
    refine ⟨((h c).1.trans (Reference3Ideal.Read.val_main_v97_eq ..)).trans ?_, ((h c).2.1.trans (Reference3Ideal.Read.val_main_v99_eq ..)).trans ?_,
      ((h c).2.2.1.trans (Reference3Ideal.Read.val_main_v101_eq ..)).trans ?_,
      ((h c).2.2.2.1.trans (Reference3Ideal.Read.val_main_v103_eq ..)).trans ?_, (h c).2.2.2.2⟩
    · rw [h0, h1, h2, h3, h4, h5, h6]
      rfl
    · rw [h0, h1, h2, h3, h4, h5, h6, h7]
      rfl
    · rw [h0, h1, h2, h3, h4, h5, h6, h7, h8, h9]
      rfl
    · rw [h0, h1, h2, h3, h4, h5, h6, h7, h8, h10]
      rfl

end Cert.Post

end
-- ==== Proof.LastBlock.lean ====
/- The call after the attention of the last layer has the latent rows alone: a step of it leaves what a step of the first
   layer's call leaves at a latent step. -/
module

public import proofs.«01_k».proof.Proof.Gen.Kernel4Ideal.Value
public import proofs.«01_k».proof.Proof.PostArr

@[expose] public section

set_option maxRecDepth 16384

noncomputable section

namespace Cert.Kernel4Ideal.Blk

open Cert.Kernel4Ideal Cert.Kernel4Ideal.Gen Idealize.ShloMosaic Idealize.ShloMosaic.TcCoe Idealize.SL.Sem
open Cert.Token
open Cert.Kernel3Ideal.Blk (resRow mixRow queryRow)

/-- A step of the first layer's call that works on latent rows. -/
def lat : Cert.Kernel3Ideal.grid0.Coords := Cert.Kernel3Ideal.grid0.coords ⟨0, by decide⟩

variable (x0 : Vec Ideal S512x1024 .bf16) (x1 : Vec Ideal S512x1024 .f32) (x2 : Vec Ideal S1x6x1x1024 .f32)
  (x3 : Vec Ideal S1024x1024 .bf16) (x4 : Vec Ideal S1x1024 .f32) (x5 : Vec Ideal S1024x2048 .bf16) (x6 x7 : Vec Ideal S8x128x128 .bf16)

theorem pick_lat (u : Vec Ideal S512x1024 .bf16) : Cert.Kernel3Ideal.Blk.pick lat u u = u :=
  Cert.Kernel3Ideal.Arr.pick_lat _ (by decide +kernel) u u

theorem pay3_eq (w : Vec Ideal S1024x1024 .bf16) (g : Vec Ideal S1x1x1x1024 .f32) :
    k0_pay3 (F := Ideal) x0 w x1 g = Cert.Kernel3Ideal.Gen.k0_pay3 (F := Ideal) lat x0 x0 w x1 g := by
  unfold k0_pay3 Cert.Kernel3Ideal.Gen.k0_pay3
  have e := pick_lat x0
  unfold Cert.Kernel3Ideal.Blk.pick at e
  dsimp only
  rw [e]
  rfl

/-- The modulated rows: the two programs cut the same formula at different places. -/
theorem modulated_eq (w : Vec Ideal S1024x1024 .bf16) (g a b : Vec Ideal S1x1x1x1024 .f32)
    (n : Vec Ideal S1x1024 .f32) :
    k0_pay5 (F := Ideal) (k0_pay4 (F := Ideal) x0 w x1 g n a) b
      = Cert.Kernel3Ideal.Gen.k0_pay7 (F := Ideal) (Cert.Kernel3Ideal.Gen.k0_pay4 (F := Ideal) lat x0 x0 w x1 g n)
          (Cert.Kernel3Ideal.Gen.k0_pay5 (F := Ideal) a) (Cert.Kernel3Ideal.Gen.k0_pay6 (F := Ideal)) b := by
  unfold k0_pay5 k0_pay4 Cert.Kernel3Ideal.Gen.k0_pay7 Cert.Kernel3Ideal.Gen.k0_pay4
    Cert.Kernel3Ideal.Gen.k0_pay5 Cert.Kernel3Ideal.Gen.k0_pay6
  rw [pay3_eq]

/-- The queries of the modulated rows. -/
theorem query_eq (w : Vec Ideal S1024x1024 .bf16) (g a b : Vec Ideal S1x1x1x1024 .f32)
    (n : Vec Ideal S1x1024 .f32) (q : Vec Ideal S1024x2048 .bf16) :
    k0_pay6 (F := Ideal) (k0_pay4 (F := Ideal) x0 w x1 g n a) b q
      = Cert.Kernel3Ideal.Gen.k0_pay8 (F := Ideal) (Cert.Kernel3Ideal.Gen.k0_pay4 (F := Ideal) lat x0 x0 w x1 g n)
          (Cert.Kernel3Ideal.Gen.k0_pay5 (F := Ideal) a) (Cert.Kernel3Ideal.Gen.k0_pay6 (F := Ideal)) b q := by
  unfold k0_pay6 Cert.Kernel3Ideal.Gen.k0_pay8
  rw [modulated_eq]
  rfl

theorem out8_eq : out0_8 x0 x1 x2 x3 x4 x5 x6 x7 = Cert.Kernel3Ideal.Gen.out0_9 lat x0 x0 x1 x2 x3 x4 x5 x6 x7 := by
  unfold out0_8 Cert.Kernel3Ideal.Gen.out0_9
  rw [pay3_eq]

theorem out9_eq : out0_9 x0 x1 x2 x3 x4 x5 x6 x7 = Cert.Kernel3Ideal.Gen.out0_10 lat x0 x0 x1 x2 x3 x4 x5 x6 x7 := by
  unfold_out out0_9
  rw [modulated_eq]
  rfl

theorem out10_eq : out0_10 x0 x1 x2 x3 x4 x5 x6 x7 = Cert.Kernel3Ideal.Gen.out0_11 lat x0 x0 x1 x2 x3 x4 x5 x6 x7 := by
  unfold_out out0_10
  unfold k0_pay7 k0_pay9
  rw [query_eq]
  rfl

theorem out11_eq : out0_11 x0 x1 x2 x3 x4 x5 x6 x7 = Cert.Kernel3Ideal.Gen.out0_12 lat x0 x0 x1 x2 x3 x4 x5 x6 x7 := by
  unfold_out out0_11
  unfold k0_pay8
  rw [query_eq]
  rfl

end Cert.Kernel4Ideal.Blk

end
-- ==== Proof.LastRef.lean ====
/- The reference of the call after the last layer's attention: its latent tokens are those of the first layer's call. -/
module

public import proofs.«01_k».proof.Proof.PostRef
public import proofs.«01_k».proof.Proof.Gen.Reference4Ideal.Read

@[expose] public section

set_option maxRecDepth 16384

noncomputable section

namespace Cert.Reference4Ideal.Ref

open Cert.Reference4Ideal Cert.Reference4Ideal.Read Idealize.ShloMosaic Idealize.ShloMosaic.TcCoe Idealize.SL.Sem
open Idealize.ShloMosaic.Pointwise
open Cert.Token
open Cert.Reference3Ideal.Ref (latRes latMix latRes_apply latMix_apply latQuery_apply latScore1_apply latScore2_apply)

variable (x0 : Vec Ideal S16384x1024 .bf16) (x1 : Vec Ideal S4x4096x1024 .f32) (x3 : Vec Ideal S4x6144 .f32)
  (x5 : Vec Ideal S1024x1024 .f32) (x6 : Vec Ideal S1024 .f32) (x7 : Vec Ideal S1024x2048 .f32) (x8 x9 : Vec Ideal S8x128x128 .f32)

theorem stage_res : val_main_v17 (F := Ideal) x0 x1 x3 x5 = Cert.Reference3Ideal.Read.val_main_v23 (F := Ideal) x0 x1 x3 x5 := rfl

theorem stage_mix : val_main_v36 (F := Ideal) x0 x1 x3 x5 x6 = Cert.Reference3Ideal.Read.val_main_v42 (F := Ideal) x0 x1 x3 x5 x6 := rfl

theorem stage_query : val_main_v38 (F := Ideal) x0 x1 x3 x5 x6 x7
    = Cert.Reference3Ideal.Read.val_main_v44 (F := Ideal) x0 x1 x3 x5 x6 x7 := rfl

theorem stage_score1 : val_main_v43 (F := Ideal) x0 x1 x3 x5 x6 x7 x8
    = Cert.Reference3Ideal.Read.val_main_v49 (F := Ideal) x0 x1 x3 x5 x6 x7 x8 := rfl

theorem stage_score2 : val_main_v47 (F := Ideal) x0 x1 x3 x5 x6 x7 x9
    = Cert.Reference3Ideal.Read.val_main_v53 (F := Ideal) x0 x1 x3 x5 x6 x7 x9 := rfl

theorem res (b : Fin 4) (n : Fin 4096) (j : Fin 1024) :
    val_main_v48 (F := Ideal) x0 x1 x3 x5 (ix2 ⟨b.val * 4096 + n.val, by omega⟩ j) = latRes x0 x1 x3 x5 b n j := by
  rw [← latRes_apply, ← stage_res]
  unfold val_main_v48
  generalize val_main_v17 (F := Ideal) x0 x1 x3 x5 = y
  pointwise []

theorem mix (b : Fin 4) (n : Fin 4096) (j : Fin 1024) :
    val_main_v50 (F := Ideal) x0 x1 x3 x5 x6 (ix2 ⟨b.val * 4096 + n.val, by omega⟩ j) = latMix x0 x1 x3 x5 x6 b n j := by
  rw [← latMix_apply, ← stage_mix]
  unfold val_main_v50 val_main_v49
  generalize val_main_v36 (F := Ideal) x0 x1 x3 x5 x6 = y
  pointwise []

theorem score1 (h : Fin 8) (k : Fin 128) (b : Fin 4) (n : Fin 4096) :
    val_main_v51 (F := Ideal) x0 x1 x3 x5 x6 x7 x8 (ix3 h k ⟨b.val * 4096 + n.val, by omega⟩)
      = score (fun d => x8 (ix3 h k d)) (times (latMix x0 x1 x3 x5 x6 b n) (fun k j => x7 (ix2 k j))) (h.val * 256) (by omega) := by
  have e := latScore1_apply x0 x1 x3 x5 x6 x7 x8 ⟨b.val * 4096 + n.val, by omega⟩ h k
  rw [funext (latQuery_apply x0 x1 x3 x5 x6 x7 b n)] at e
  rw [← e, ← stage_score1]
  unfold val_main_v51
  generalize val_main_v43 (F := Ideal) x0 x1 x3 x5 x6 x7 x8 = y
  pointwise []

theorem score2 (h : Fin 8) (k : Fin 128) (b : Fin 4) (n : Fin 4096) :
    val_main_v52 (F := Ideal) x0 x1 x3 x5 x6 x7 x9 (ix3 h k ⟨b.val * 4096 + n.val, by omega⟩)
      = score (fun d => x9 (ix3 h k d)) (times (latMix x0 x1 x3 x5 x6 b n) (fun k j => x7 (ix2 k j))) (h.val * 256 + 128) (by omega) := by
  have e := latScore2_apply x0 x1 x3 x5 x6 x7 x9 ⟨b.val * 4096 + n.val, by omega⟩ h k
  rw [funext (latQuery_apply x0 x1 x3 x5 x6 x7 b n)] at e
  rw [← e, ← stage_score2]
  unfold val_main_v52
  generalize val_main_v47 (F := Ideal) x0 x1 x3 x5 x6 x7 x9 = y
  pointwise []

end Cert.Reference4Ideal.Ref

end
-- ==== Proof.LastArr.lean ====
/- The four arrays that the kernel after the last layer's attention leaves: the reference's, entry by entry. -/
module

public import proofs.«01_k».proof.Proof.LastBlock
public import proofs.«01_k».proof.Proof.LastRef

@[expose] public section

set_option maxRecDepth 16384

noncomputable section

namespace Cert.Kernel4Ideal.Arr

open Cert.Kernel4Ideal Cert.Kernel4Ideal.Gen Idealize.ShloMosaic Idealize.ShloMosaic.TcCoe Idealize.SL.Sem
open Idealize.ShloMosaic.Tactic
open Cert.Token Cert.Kernel4Ideal.Blk
open Cert.Kernel3Ideal.Blk (resRow mixRow queryRow out9_apply out10_apply out11_apply out12_apply)
open Cert.Kernel3Ideal.Host (rows rows_apply table table_lat)
open Cert.Reference3Ideal.Ref (latRes latMix)

variable (m : (ℓ : Loc nD τ sig) → Buf (Elt Ideal) ℓ) (c : Dev nD)

theorem idx : ∀ t : Fin cfg0.N, win0_0.index t = ![(grid0.coords t 0).val, 0]
    ∧ win0_1.index t = ![(grid0.coords t 0).val, 0]
    ∧ win0_2.index t = ![(grid0.coords t 0).val / 8, 0, 0, 0]
    ∧ win0_3.index t = ![0, 0] ∧ win0_4.index t = ![0, 0] ∧ win0_5.index t = ![0, 0]
    ∧ win0_6.index t = ![0, 0, 0] ∧ win0_7.index t = ![0, 0, 0]
    ∧ win0_8.index t = ![(grid0.coords t 0).val, 0] ∧ win0_9.index t = ![(grid0.coords t 0).val, 0]
    ∧ win0_10.index t = ![0, 0, (grid0.coords t 0).val] ∧ win0_11.index t = ![0, 0, (grid0.coords t 0).val] := by decide +kernel

/-! ## What the launch is given -/

theorem rows_eq : V m c main_v2 = rows (m ((c : Thread nD τ).loc main_arg1)) (m ((c : Thread nD τ).loc main_arg2)) := by
  unfold V
  after_reads_simp
  rfl

theorem table_eq : V m c main_v6
    = shapeCast S8x6x1x1024 (table (m ((c : Thread nD τ).loc main_arg3)) (m ((c : Thread nD τ).loc main_arg4))) shapeCasts_S8x6144_S8x6x1x1024 := by
  unfold V
  after_reads_simp
  funext i
  refine congrArg (fun T => shapeCast S8x6x1x1024 T shapeCasts_S8x6144_S8x6x1x1024 i) ?_
  show concatenate S8x6144 0 [⟨S4x6144, StableHlo.upto hostOps0 (fun b => m (c, b)) 6 (Proc.tc.devRef main_arg3)⟩,
      ⟨S1x6144, StableHlo.upto hostOps0 (fun b => m (c, b)) 6 (Proc.tc.devRef main_v4)⟩,
      ⟨S3x6144, StableHlo.upto hostOps0 (fun b => m (c, b)) 6 (Proc.tc.devRef main_v3)⟩]
    concatenates_S4x6144_S1x6144_S3x6144_S8x6144_d0 = _
  rfl

theorem table_apply (r : Fin 8) (n : Fin 6) (j : Fin 1024) : V m c main_v6 (ix4 r n 0 j)
    = table (m ((c : Thread nD τ).loc main_arg3)) (m ((c : Thread nD τ).loc main_arg4)) (ix2 r ⟨n.val * 1024 + j.val, by omega⟩) := by
  rw [table_eq]
  generalize table _ _ = T
  open Idealize.ShloMosaic.Pointwise in pointwise []

theorem wo_eq : V m c main_v7 = m ((c : Thread nD τ).loc main_arg5) := by
  unfold V
  after_reads_simp
  rfl

theorem wq_eq : V m c main_v8 = m ((c : Thread nD τ).loc main_arg7) := by
  unfold V
  after_reads_simp
  rfl

theorem k1_eq : V m c main_v9 = m ((c : Thread nD τ).loc main_arg8) := by
  unfold V
  after_reads_simp
  rfl

theorem k2_eq : V m c main_v10 = m ((c : Thread nD τ).loc main_arg9) := by
  unfold V
  after_reads_simp
  rfl

theorem gain_apply (j : Fin 1024) : V m c main_v11 (ix2 0 j) = m ((c : Thread nD τ).loc main_arg6) (ix1 j) := by
  unfold V
  after_reads_at

/-! ## The blocks of a step -/

theorem wo_blk (t : Fin cfg0.N) : (fun k j => iblk m c 3 t (ix2 k j)) = fun k j : Fin 1024 => m ((c : Thread nD τ).loc main_arg5) (ix2 k j) := by
  funext k j
  refine Eq.trans ?_ (congrFun (wo_eq m c) (ix2 k j))
  blk_ext [iblk, (idx t).2.2.2.1]

theorem gain_blk (t : Fin cfg0.N) : (fun j => iblk m c 4 t (ix2 0 j)) = fun j : Fin 1024 => m ((c : Thread nD τ).loc main_arg6) (ix1 j) := by
  funext j
  refine Eq.trans ?_ (gain_apply m c j)
  blk_ext [iblk, (idx t).2.2.2.2.1]

theorem wq_blk (t : Fin cfg0.N) :
    (fun k j => iblk m c 5 t (ix2 k j)) = fun (k : Fin 1024) (j : Fin 2048) => m ((c : Thread nD τ).loc main_arg7) (ix2 k j) := by
  funext k j
  refine Eq.trans ?_ (congrFun (wq_eq m c) (ix2 k j))
  blk_ext [iblk, (idx t).2.2.2.2.2.1]

theorem k1_blk (t : Fin cfg0.N) (h : Fin 8) (k : Fin 128) :
    (fun d => iblk m c 6 t (ix3 h k d)) = fun d : Fin 128 => m ((c : Thread nD τ).loc main_arg8) (ix3 h k d) := by
  funext d
  refine Eq.trans ?_ (congrFun (k1_eq m c) (ix3 h k d))
  blk_ext [iblk, (idx t).2.2.2.2.2.2.1]

theorem k2_blk (t : Fin cfg0.N) (h : Fin 8) (k : Fin 128) :
    (fun d => iblk m c 7 t (ix3 h k d)) = fun d : Fin 128 => m ((c : Thread nD τ).loc main_arg9) (ix3 h k d) := by
  funext d
  refine Eq.trans ?_ (congrFun (k2_eq m c) (ix3 h k d))
  blk_ext [iblk, (idx t).2.2.2.2.2.2.2.1]

section row

variable (t : Fin cfg0.N) (r : Fin 512) (b : Fin 4) (n : Fin 4096) (hR : b.val * 4096 + n.val = (grid0.coords t 0).val * 512 + r.val)

include hR

theorem attn_blk : (fun k => iblk m c 0 t (ix2 r k)) = fun k => m ((c : Thread nD τ).loc main_arg0) (ix2 ⟨b.val * 4096 + n.val, by omega⟩ k) := by
  funext k
  have e : iblk m c 0 t (ix2 r k) = V m c main_arg0 (ix2 ⟨b.val * 4096 + n.val, by omega⟩ k) := by
    blk_ext [iblk, (idx t).1]
  exact e

theorem x_blk : (fun j => iblk m c 1 t (ix2 r j)) = fun j => m ((c : Thread nD τ).loc main_arg1) (ix3 b n j) := by
  funext j
  have e : iblk m c 1 t (ix2 r j) = V m c main_v2 (ix2 ⟨b.val * 4096 + n.val, by omega⟩ j) := by
    blk_ext [iblk, (idx t).2.1]
  rw [e, rows_eq, rows_apply, dif_pos (by dsimp only; omega)]
  blk_ext []

theorem mod_blk (k : Fin 6) (o : ℕ) (ho : o = k.val * 1024) :
    (fun j => iblk m c 2 t (ix4 0 k 0 j)) = fun j : Fin 1024 => m ((c : Thread nD τ).loc main_arg3) (ix2 b ⟨o + j.val, by omega⟩) := by
  subst ho
  funext j
  have e : iblk m c 2 t (ix4 0 k 0 j) = V m c main_v6 (ix4 ⟨b.val, by omega⟩ k 0 j) := by
    blk_ext [iblk, (idx t).2.2.1]
  rw [e, table_apply, table_lat _ _ _ b.isLt]

theorem resRow_eq : resRow lat (iblk m c 0 t) (iblk m c 0 t) (iblk m c 1 t) (iblk m c 2 t) (iblk m c 3 t) r
    = latRes (m ((c : Thread nD τ).loc main_arg0)) (m ((c : Thread nD τ).loc main_arg1)) (m ((c : Thread nD τ).loc main_arg3))
        (m ((c : Thread nD τ).loc main_arg5)) b n := by
  unfold resRow latRes
  rw [pick_lat, attn_blk m c t r b n hR, x_blk m c t r b n hR, mod_blk m c t r b n hR 2 2048 rfl, wo_blk m c t]

theorem mixRow_eq : mixRow lat (iblk m c 0 t) (iblk m c 0 t) (iblk m c 1 t) (iblk m c 2 t) (iblk m c 3 t) (iblk m c 4 t) r
    = latMix (m ((c : Thread nD τ).loc main_arg0)) (m ((c : Thread nD τ).loc main_arg1)) (m ((c : Thread nD τ).loc main_arg3))
        (m ((c : Thread nD τ).loc main_arg5)) (m ((c : Thread nD τ).loc main_arg6)) b n := by
  unfold mixRow latMix
  rw [pick_lat, attn_blk m c t r b n hR, x_blk m c t r b n hR, mod_blk m c t r b n hR 2 2048 rfl, mod_blk m c t r b n hR 3 3072 rfl,
    mod_blk m c t r b n hR 4 4096 rfl, wo_blk m c t, gain_blk m c t]

end row

/-! ## The arrays -/

/-- The reference's residual, mixer input and scores on the kernel's arguments. -/
def GX : FVec Ideal S16384x1024 .f32 :=
  Cert.Reference4Ideal.Read.val_main_v48 (F := Ideal) (m ((c : Thread nD τ).loc main_arg0)) (m ((c : Thread nD τ).loc main_arg1))
    (m ((c : Thread nD τ).loc main_arg3)) (m ((c : Thread nD τ).loc main_arg5))

@[inherit_doc GX]
def GH : FVec Ideal S16384x1024 .bf16 :=
  Cert.Reference4Ideal.Read.val_main_v50 (F := Ideal) (m ((c : Thread nD τ).loc main_arg0)) (m ((c : Thread nD τ).loc main_arg1))
    (m ((c : Thread nD τ).loc main_arg3)) (m ((c : Thread nD τ).loc main_arg5)) (m ((c : Thread nD τ).loc main_arg6))

@[inherit_doc GX]
def GS1 : FVec Ideal S8x128x16384 .f32 :=
  Cert.Reference4Ideal.Read.val_main_v51 (F := Ideal) (m ((c : Thread nD τ).loc main_arg0)) (m ((c : Thread nD τ).loc main_arg1))
    (m ((c : Thread nD τ).loc main_arg3)) (m ((c : Thread nD τ).loc main_arg5)) (m ((c : Thread nD τ).loc main_arg6))
    (m ((c : Thread nD τ).loc main_arg7)) (m ((c : Thread nD τ).loc main_arg8))

@[inherit_doc GX]
def GS2 : FVec Ideal S8x128x16384 .f32 :=
  Cert.Reference4Ideal.Read.val_main_v52 (F := Ideal) (m ((c : Thread nD τ).loc main_arg0)) (m ((c : Thread nD τ).loc main_arg1))
    (m ((c : Thread nD τ).loc main_arg3)) (m ((c : Thread nD τ).loc main_arg5)) (m ((c : Thread nD τ).loc main_arg6))
    (m ((c : Thread nD τ).loc main_arg7)) (m ((c : Thread nD τ).loc main_arg9))

theorem x_eq : (Gen.dats m 0 c).arrAt 8 cfg0.N = GX m c := by
  refine (dats m 0 c).arrAt_eq_of_covers 8 _ (by decide +kernel) fun t hf y => ?_
  rw [after0_8]
  blk_simp
  rw [out8_eq]
  have b0 : (grid0.coords t 0).val < 32 := (grid0.coords t 0).isLt
  have y0 : (y 0).val < 512 := (y 0).isLt
  have y1 : (y 1).val < 1024 := (y 1).isLt
  have e0 : (((win0_8.blk t).view.emb y) 0).val = (grid0.coords t 0).val * 512 + (y 0).val := by
    blk_simp [(idx t).2.2.2.2.2.2.2.2.1]
  have e1 : (((win0_8.blk t).view.emb y) 1).val = (y 1).val := by
    blk_simp [(idx t).2.2.2.2.2.2.2.2.1]
  refine (congrArg _ (eq_ix2 y)).trans ((out9_apply _ _ _ _ _ _ _ _ _ _ ⟨(y 0).val, y0⟩ ⟨(y 1).val, y1⟩).trans ?_)
  rw [resRow_eq m c t _ ⟨((grid0.coords t 0).val * 512 + (y 0).val) / 4096, by omega⟩ ⟨((grid0.coords t 0).val * 512 + (y 0).val) % 4096, by omega⟩
    (by dsimp only; omega)]
  refine (Cert.Reference4Ideal.Ref.res ..).symm.trans (congrArg (GX m c) (funext fun a => Fin.ext ?_))
  match a with
  | 0 => refine Eq.trans ?_ e0.symm
         show _ / 4096 * 4096 + _ % 4096 = _
         omega
  | 1 => exact e1.symm

theorem h_eq : (Gen.dats m 0 c).arrAt 9 cfg0.N = GH m c := by
  refine (dats m 0 c).arrAt_eq_of_covers 9 _ (by decide +kernel) fun t hf y => ?_
  rw [after0_9]
  blk_simp
  rw [out9_eq]
  have b0 : (grid0.coords t 0).val < 32 := (grid0.coords t 0).isLt
  have y0 : (y 0).val < 512 := (y 0).isLt
  have y1 : (y 1).val < 1024 := (y 1).isLt
  have e0 : (((win0_9.blk t).view.emb y) 0).val = (grid0.coords t 0).val * 512 + (y 0).val := by
    blk_simp [(idx t).2.2.2.2.2.2.2.2.2.1]
  have e1 : (((win0_9.blk t).view.emb y) 1).val = (y 1).val := by
    blk_simp [(idx t).2.2.2.2.2.2.2.2.2.1]
  refine (congrArg _ (eq_ix2 y)).trans ((out10_apply _ _ _ _ _ _ _ _ _ _ ⟨(y 0).val, y0⟩ ⟨(y 1).val, y1⟩).trans ?_)
  rw [mixRow_eq m c t _ ⟨((grid0.coords t 0).val * 512 + (y 0).val) / 4096, by omega⟩ ⟨((grid0.coords t 0).val * 512 + (y 0).val) % 4096, by omega⟩
    (by dsimp only; omega)]
  refine (Cert.Reference4Ideal.Ref.mix ..).symm.trans (congrArg (GH m c) (funext fun a => Fin.ext ?_))
  match a with
  | 0 => refine Eq.trans ?_ e0.symm
         show _ / 4096 * 4096 + _ % 4096 = _
         omega
  | 1 => exact e1.symm

theorem s1_eq : (Gen.dats m 0 c).arrAt 10 cfg0.N = GS1 m c := by
  refine (dats m 0 c).arrAt_eq_of_covers 10 _ (by decide +kernel) fun t hf y => ?_
  rw [after0_10]
  blk_simp
  rw [out10_eq]
  have b0 : (grid0.coords t 0).val < 32 := (grid0.coords t 0).isLt
  have y0 : (y 0).val < 8 := (y 0).isLt
  have y1 : (y 1).val < 128 := (y 1).isLt
  have y2 : (y 2).val < 512 := (y 2).isLt
  have e0 : (((win0_10.blk t).view.emb y) 0).val = (y 0).val := by
    blk_simp [(idx t).2.2.2.2.2.2.2.2.2.2.1]
  have e1 : (((win0_10.blk t).view.emb y) 1).val = (y 1).val := by
    blk_simp [(idx t).2.2.2.2.2.2.2.2.2.2.1]
  have e2 : (((win0_10.blk t).view.emb y) 2).val = (grid0.coords t 0).val * 512 + (y 2).val := by
    blk_simp [(idx t).2.2.2.2.2.2.2.2.2.2.1]
  refine (congrArg _ (eq_ix3 y)).trans ((out11_apply _ _ _ _ _ _ _ _ _ _ ⟨(y 0).val, y0⟩ ⟨(y 1).val, y1⟩ ⟨(y 2).val, y2⟩).trans ?_)
  unfold queryRow
  rw [mixRow_eq m c t _ ⟨((grid0.coords t 0).val * 512 + (y 2).val) / 4096, by omega⟩
    ⟨((grid0.coords t 0).val * 512 + (y 2).val) % 4096, by omega⟩ (by dsimp only; omega), wq_blk m c t, k1_blk m c t]
  refine (Cert.Reference4Ideal.Ref.score1 ..).symm.trans (congrArg (GS1 m c) (funext fun a => Fin.ext ?_))
  match a with
  | 0 => exact e0.symm
  | 1 => exact e1.symm
  | 2 => refine Eq.trans ?_ e2.symm
         show _ / 4096 * 4096 + _ % 4096 = _
         omega

theorem s2_eq : (Gen.dats m 0 c).arrAt 11 cfg0.N = GS2 m c := by
  refine (dats m 0 c).arrAt_eq_of_covers 11 _ (by decide +kernel) fun t hf y => ?_
  rw [after0_11]
  blk_simp
  rw [out11_eq]
  have b0 : (grid0.coords t 0).val < 32 := (grid0.coords t 0).isLt
  have y0 : (y 0).val < 8 := (y 0).isLt
  have y1 : (y 1).val < 128 := (y 1).isLt
  have y2 : (y 2).val < 512 := (y 2).isLt
  have e0 : (((win0_11.blk t).view.emb y) 0).val = (y 0).val := by
    blk_simp [(idx t).2.2.2.2.2.2.2.2.2.2.2]
  have e1 : (((win0_11.blk t).view.emb y) 1).val = (y 1).val := by
    blk_simp [(idx t).2.2.2.2.2.2.2.2.2.2.2]
  have e2 : (((win0_11.blk t).view.emb y) 2).val = (grid0.coords t 0).val * 512 + (y 2).val := by
    blk_simp [(idx t).2.2.2.2.2.2.2.2.2.2.2]
  refine (congrArg _ (eq_ix3 y)).trans ((out12_apply _ _ _ _ _ _ _ _ _ _ ⟨(y 0).val, y0⟩ ⟨(y 1).val, y1⟩ ⟨(y 2).val, y2⟩).trans ?_)
  unfold queryRow
  rw [mixRow_eq m c t _ ⟨((grid0.coords t 0).val * 512 + (y 2).val) / 4096, by omega⟩
    ⟨((grid0.coords t 0).val * 512 + (y 2).val) % 4096, by omega⟩ (by dsimp only; omega), wq_blk m c t, k2_blk m c t]
  refine (Cert.Reference4Ideal.Ref.score2 ..).symm.trans (congrArg (GS2 m c) (funext fun a => Fin.ext ?_))
  match a with
  | 0 => exact e0.symm
  | 1 => exact e1.symm
  | 2 => refine Eq.trans ?_ e2.symm
         show _ / 4096 * 4096 + _ % 4096 = _
         omega

end Cert.Kernel4Ideal.Arr

end
-- ==== Proof.Last.lean ====
/- The call after the attention of the last layer: the kernel and the reference leave the same four arrays. -/
module

public import proofs.«01_k».proof.Defs
public import proofs.«01_k».proof.Proof.LastArr
public import proofs.«01_k».proof.Proof.Gen.Reference4Ideal.Run

@[expose] public section

noncomputable section

namespace Cert.Last

open Idealize.ShloMosaic Idealize.ShloMosaic.TcCoe Idealize.SL.Sem

theorem algebraic : Cert.algebraic_Kernel4Ideal_Reference4Ideal := by
  intro m g m' g' _ ha
  refine ⟨fun c => Kernel4Ideal.Arr.GX m c, fun c => Kernel4Ideal.Arr.GH m c, fun c => Kernel4Ideal.Arr.GS1 m c,
    fun c => Kernel4Ideal.Arr.GS2 m c, ?_, ?_⟩
  · exact (θ_run _ _ _).mono (fun r h c => ⟨(h c).1.trans (Kernel4Ideal.Arr.x_eq m c), (h c).2.1.trans (Kernel4Ideal.Arr.h_eq m c),
      (h c).2.2.1.trans (Kernel4Ideal.Arr.s1_eq m c), (h c).2.2.2.1.trans (Kernel4Ideal.Arr.s2_eq m c), (h c).2.2.2.2⟩)
      (Kernel4Ideal.Value.run_blocks m g)
  · refine (θ_run _ _ _).mono (fun r h c => ?_) (Reference4Ideal.Value.run m' g')
    obtain ⟨h0, h1, h2, h3, h4, h5, h6, h7, h8, h9⟩ := ha c
    refine ⟨((h c).1.trans (Reference4Ideal.Read.val_main_v48_eq ..)).trans ?_, ((h c).2.1.trans (Reference4Ideal.Read.val_main_v50_eq ..)).trans ?_,
      ((h c).2.2.1.trans (Reference4Ideal.Read.val_main_v51_eq ..)).trans ?_,
      ((h c).2.2.2.1.trans (Reference4Ideal.Read.val_main_v52_eq ..)).trans ?_, (h c).2.2.2.2⟩
    · rw [h0, h1, h3, h5]
      rfl
    · rw [h0, h1, h3, h5, h6]
      rfl
    · rw [h0, h1, h3, h5, h6, h7, h8]
      rfl
    · rw [h0, h1, h3, h5, h6, h7, h9]
      rfl

end Cert.Last

end
-- ==== Proof.Turn.lean ====
/- The axial rotary turn of one head's row: each pair of quarters of its 128 entries turned by the angles whose cosines and
   sines are given; and the form with two rolled copies of the row, which is the same. -/
module

public import proofs.«01_k».proof.Proof.Token

@[expose] public section

noncomputable section

namespace Cert.Token

open Idealize.ShloMosaic

/-- The row with the quarters of each half swapped, the one that comes first negated. -/
def swapped (c : Fin 128 → EReal) (j : Fin 128) : EReal :=
  if h : j.val < 32 then -c ⟨32 + j.val, by omega⟩
  else if j.val < 64 then c ⟨j.val - 32, by omega⟩
  else if h : j.val < 96 then -c ⟨32 + j.val, by omega⟩
  else c ⟨j.val - 32, by omega⟩

theorem swapped_eq (c : Fin 128 → EReal) (j : Fin 128) :
    swapped c j = if h : j.val < 32 then -c ⟨32 + j.val, by omega⟩
      else if h : j.val - 32 < 32 then c ⟨j.val - 32, by omega⟩
      else if h : j.val - 32 - 32 < 32 then -c ⟨96 + (j.val - 32 - 32), by omega⟩
      else c ⟨64 + (j.val - 32 - 32 - 32), by omega⟩ := by
  unfold swapped
  by_cases h0 : j.val < 32
  · rw [dif_pos h0, dif_pos h0]
  rw [dif_neg h0, dif_neg h0]
  by_cases h1 : j.val < 64
  · rw [if_pos h1, dif_pos (by omega)]
  rw [if_neg h1, dif_neg (show ¬j.val - 32 < 32 by omega)]
  by_cases h2 : j.val < 96
  · rw [dif_pos h2, dif_pos (by omega)]
    exact congrArg (fun i => -c i) (Fin.ext (by dsimp only; omega))
  · rw [dif_neg h2, dif_neg (by omega)]
    exact congrArg c (Fin.ext (by dsimp only; omega))

/-- A row turned. -/
def turned (c cs sn : Fin 128 → EReal) (j : Fin 128) : EReal := c j * cs j + swapped c j * sn j

/-- A row times the cosines and its two rolled copies times a table each. -/
def rolled (c cs sa sb : Fin 128 → EReal) (j : Fin 128) : EReal :=
  c j * cs j + c ⟨(j.val + 128 - 96) % 128, Nat.mod_lt _ (by decide)⟩ * sa j + c ⟨(j.val + 128 - 32) % 128, Nat.mod_lt _ (by decide)⟩ * sb j

theorem rolled_eq (c cs sn : Fin 128 → EReal) :
    rolled c cs (fun j => if j.val % 64 < 32 then -sn j else 0) (fun j => if j.val % 64 < 32 then 0 else sn j) = turned c cs sn := by
  funext j
  have hj := j.isLt
  unfold rolled turned swapped
  beta_reduce
  have hp (h : j.val + 32 < 128) : (⟨(j.val + 128 - 96) % 128, Nat.mod_lt _ (by decide)⟩ : Fin 128) = ⟨32 + j.val, by omega⟩ :=
    Fin.ext (by show (j.val + 128 - 96) % 128 = 32 + j.val; omega)
  have hm (h : 32 ≤ j.val) : (⟨(j.val + 128 - 32) % 128, Nat.mod_lt _ (by decide)⟩ : Fin 128) = ⟨j.val - 32, by omega⟩ :=
    Fin.ext (by show (j.val + 128 - 32) % 128 = j.val - 32; omega)
  by_cases h : j.val % 64 < 32
  · rw [if_pos h, if_pos h, hp (by omega), mul_zero, add_zero, mul_neg, ← neg_mul]
    by_cases h0 : j.val < 32
    · rw [dif_pos h0]
    · rw [dif_neg h0, if_neg (by omega), dif_pos (by omega)]
  · rw [if_neg h, if_neg h, hm (by omega), mul_zero, add_zero, dif_neg (by omega)]
    by_cases h1 : j.val < 64
    · rw [if_pos h1]
    · rw [if_neg h1, dif_neg (by omega)]

theorem rolled_one (c : Fin 128 → EReal) : rolled c (fun _ => 1) (fun _ => 0) (fun _ => 0) = c := by
  funext j
  simp only [rolled, mul_one, mul_zero, add_zero]

/-- The 128 entries of a product's row from `o` on, normed. -/
def headed (y : Fin 1536 → EReal) (g : Fin 128 → EReal) (o : ℕ) (ho : o + 128 ≤ 1536) : Fin 128 → EReal :=
  normed (Ideal.ofBits .f32 0x43000000#32) (fun d : Fin 128 => y ⟨o + d.val, by omega⟩) g

theorem headed_congr {y y' : Fin 1536 → EReal} {g g' : Fin 128 → EReal} {o o' : ℕ} {ho : o + 128 ≤ 1536} {ho' : o' + 128 ≤ 1536}
    (hy : y = y') (hg : g = g') (e : o = o') : headed y g o ho = headed y' g' o' ho' := by
  subst hy hg e
  rfl

end Cert.Token

end
-- ==== Proof.ProjBlock.lean ====
/- What one grid step of the projection before the attention leaves in its output blocks, row by row. -/
module

public import proofs.«01_k».proof.Proof.Gen.Kernel5Ideal.Value
public import proofs.«01_k».proof.Proof.Turn
public import Idealize.ShloMosaic.Lib.Pointwise
public import Idealize.ShloMosaic.Lib.Pipeline.ValueKit.Tiles

@[expose] public section

set_option maxRecDepth 16384

noncomputable section

namespace Cert.Kernel5Ideal.Blk

open Cert.Kernel5Ideal Cert.Kernel5Ideal.Gen Idealize.ShloMosaic Idealize.ShloMosaic.TcCoe Idealize.SL.Sem
open Idealize.ShloMosaic.Tactic
open Cert.Token

/-- The 128 columns of the product from `o` on, each row normed. -/
def headNorm (o : ℕ) (h : S512x1536.Slices ![0, o] S512x128) (Y : FVec Ideal S512x1536 .f32) (g : Vec Ideal S1x128 .f32) : FVec Ideal S512x128 .f32 :=
  let c : FVec Ideal S512x128 .f32 := extractStridedSlice S512x128 ![0, o] Y h
  let s : FVec Ideal S512 .f32 := multiReduction .add [1] S512 (mulf c c) 0x00000000#32 reduces_S512x128_S512 (.inl rfl) rfl
  let q : FVec Ideal S512x1 .f32 := divf (shapeCast S512x1 s shapeCasts_S512_S512x1) (broadcast S512x1 (Scalar.ofBits (F := Ideal) .f32 0x43000000#32))
  let z : FVec Ideal S512x1 .f32 := rsqrt (addf q (broadcast S512x1 (Scalar.ofBits (F := Ideal) .f32 0x358637BD#32)))
  mulf (mulf c (broadcastTo S512x128 z broadcasts_S512x1_S512x128))
    (broadcastTo S512x128 (shapeCast S1x128 g shapeCasts_S1x128_S1x128) broadcasts_S1x128_S512x128)

/-- The rows of a head turned, by the cosines and the two tables of sines. -/
def turn (c C A B : FVec Ideal S512x128 .f32) : FVec Ideal S512x128 .f32 :=
  addf (addf (mulf c C) (mulf (dynamicRotate 1 96#32 none c rotates_S512x128_d1) A)) (mulf (dynamicRotate 1 32#32 none c rotates_S512x128_d1) B)

/-- A key head's rows. -/
def kHead (o : ℕ) (h : S512x1536.Slices ![0, o] S512x128) (Y : FVec Ideal S512x1536 .f32) (g : Vec Ideal S1x128 .f32) (C A B : FVec Ideal S512x128 .f32) :
    FVec Ideal S512x128 .bf16 :=
  truncf .bf16 (turn (headNorm o h Y g) C A B) bitsLt_bf16_f32

/-- A query head's rows, scaled. -/
def qHead (o : ℕ) (h : S512x1536.Slices ![0, o] S512x128) (Y : FVec Ideal S512x1536 .f32) (g : Vec Ideal S1x128 .f32) (C A B : FVec Ideal S512x128 .f32) :
    FVec Ideal S512x128 .bf16 :=
  truncf .bf16 (mulf (turn (headNorm o h Y g) C A B) (broadcast S512x128 (Scalar.ofBits (F := Ideal) .f32 0x3E0293EE#32))) bitsLt_bf16_f32

section
open Idealize.ShloMosaic.Pointwise

theorem normed_apply (x : Vec Ideal S512x1024 .f32) (n : Vec Ideal S1x1024 .f32) (sc sh : Vec Ideal S1x1x1x1024 .f32) (w : Vec Ideal S1024x1536 .bf16)
    (r : Fin 512) (j : Fin 1536) :
    k0_pay5 (F := Ideal) x n sc sh w (ix2 r j)
      = times (modulated (normed (Ideal.ofBits .f32 0x44800000#32) (fun k => x (ix2 r k)) (fun k => n (ix2 0 k))) (fun k => sh (ix4 0 0 0 k))
          (fun k => sc (ix4 0 0 0 k))) (fun k j => w (ix2 k j)) j := by
  unfold times modulated normed k0_pay5
  pointwise []

theorem headNorm_apply (o : ℕ) (h : S512x1536.Slices ![0, o] S512x128) (ho : o + 128 ≤ 1536) (Y : FVec Ideal S512x1536 .f32) (g : Vec Ideal S1x128 .f32)
    (r : Fin 512) (j : Fin 128) :
    headNorm o h Y g (ix2 r j) = headed (fun j => Y (ix2 r j)) (fun j => g (ix2 0 j)) o ho j := by
  unfold headNorm headed normed
  pointwise []

theorem turn_apply (c C A B : FVec Ideal S512x128 .f32) (r : Fin 512) (j : Fin 128) :
    turn c C A B (ix2 r j) = rolled (fun j => c (ix2 r j)) (fun j => C (ix2 r j)) (fun j => A (ix2 r j)) (fun j => B (ix2 r j)) j := by
  unfold turn rolled
  pointwise []

theorem same_apply (v : Vec Ideal S512x128 .f32) : k0_pay6 v = v ∧ k0_pay7 v = v ∧ k0_pay8 v = v := by
  refine ⟨?_, ?_, ?_⟩
  all_goals
    funext i
    pointwise [k0_pay6, k0_pay7, k0_pay8]

end

/-- A piece of the block of queries: one head's columns. -/
theorem q_piece (o : ℕ) (h : S512x1536.Slices ![0, o] S512x128) (ho : o + 128 ≤ 1536) (Y : FVec Ideal S512x1536 .f32) (g : Vec Ideal S1x128 .f32)
    (C A B : FVec Ideal S512x128 .f32) (x : S512x128.Idx) (r : Fin 512) (j : Fin 128) (hr : r.val = (x 0).val) (hj : j.val = (x 1).val) :
    qHead o h Y g C A B x = rolled (headed (fun j => Y (ix2 r j)) (fun j => g (ix2 0 j)) o ho) (fun j => C (ix2 r j)) (fun j => A (ix2 r j))
      (fun j => B (ix2 r j)) j * Ideal.ofBits .f32 0x3E0293EE#32 := by
  have er : x 0 = r := Fin.ext hr.symm
  have ej : x 1 = j := Fin.ext hj.symm
  have ex : x = ix2 r j := by rw [← er, ← ej]; exact eq_ix2 x
  rw [ex]
  show turn (headNorm o h Y g) C A B (ix2 r j) * _ = _
  rw [turn_apply, funext fun j => headNorm_apply o h ho Y g r j]
  rfl

/-- A piece of the block of keys: one head's columns. -/
theorem k_piece (o : ℕ) (h : S512x1536.Slices ![0, o] S512x128) (ho : o + 128 ≤ 1536) (Y : FVec Ideal S512x1536 .f32) (g : Vec Ideal S1x128 .f32)
    (C A B : FVec Ideal S512x128 .f32) (x : S512x128.Idx) (r : Fin 512) (j : Fin 128) (hr : r.val = (x 0).val) (hj : j.val = (x 1).val) :
    kHead o h Y g C A B x = rolled (headed (fun j => Y (ix2 r j)) (fun j => g (ix2 0 j)) o ho) (fun j => C (ix2 r j)) (fun j => A (ix2 r j))
      (fun j => B (ix2 r j)) j := by
  have er : x 0 = r := Fin.ext hr.symm
  have ej : x 1 = j := Fin.ext hj.symm
  have ex : x = ix2 r j := by rw [← er, ← ej]; exact eq_ix2 x
  rw [ex]
  show turn (headNorm o h Y g) C A B (ix2 r j) = _
  rw [turn_apply, funext fun j => headNorm_apply o h ho Y g r j]

section pays

variable (Y : FVec Ideal S512x1536 .f32) (g : Vec Ideal S1x128 .f32) (C A B : FVec Ideal S512x128 .f32)

theorem q0 : k0_pay9 (F := Ideal) Y C A B g = qHead 0 slices_S512x1536_o0_0_S512x128 Y g C A (k0_pay8 B) := rfl
theorem q1 : k0_pay12 (F := Ideal) A B (k0_pay10 Y g) (k0_pay11 Y C g) = qHead 128 slices_S512x1536_o0_128_S512x128 Y g C A B := rfl
theorem q2 : k0_pay13 (F := Ideal) Y C A B g = qHead 256 slices_S512x1536_o0_256_S512x128 Y g C A B := rfl
theorem q3 : k0_pay17 (F := Ideal) C A B (k0_pay14 Y) (k0_pay15 g) (k0_pay16 Y) = qHead 384 slices_S512x1536_o0_384_S512x128 Y g C A B := rfl
theorem q4 : k0_pay19 (F := Ideal) (k0_pay18 Y C A B g) (Scalar.ofBits .f32 0x3E0293EE#32) = qHead 512 slices_S512x1536_o0_512_S512x128 Y g C A B := rfl
theorem q5 : k0_pay20 (F := Ideal) Y C A B g = qHead 640 slices_S512x1536_o0_640_S512x128 Y g C A B := rfl
theorem q6 : k0_pay24 (F := Ideal) C A B (k0_pay21 Y) (k0_pay22 g) (k0_pay23 Y) = qHead 768 slices_S512x1536_o0_768_S512x128 Y g C A B := rfl
theorem q7 : k0_pay25 (F := Ideal) Y C A B g = qHead 896 slices_S512x1536_o0_896_S512x128 Y g C A B := rfl
theorem k0 : k0_pay27 (F := Ideal) C A B (k0_pay26 Y) g = kHead 1024 slices_S512x1536_o0_1024_S512x128 Y g C A B := rfl
theorem k1 : k0_pay1 (F := Ideal) (k0_pay29 Y C A g) (k0_pay30 Y B g) = kHead 1152 slices_S512x1536_o0_1152_S512x128 Y g C A B := rfl

end pays

variable (x0 : Vec Ideal S512x1024 .f32) (x1 : Vec Ideal S1x1024 .f32) (x2 : Vec Ideal S1x6x1x1024 .f32) (x3 : Vec Ideal S1024x1536 .bf16)
  (x4 x5 : Vec Ideal S1x128 .f32) (x6 x7 x8 : Vec Ideal S512x128 .f32)

/-- Row `r` of the product of the normed and modulated rows with the weights. -/
def prodRow (r : Fin 512) : Fin 1536 → EReal :=
  times (modulated (normed (Ideal.ofBits .f32 0x44800000#32) (fun k => x0 (ix2 r k)) (fun k => x1 (ix2 0 k))) (fun k => x2 (ix4 0 0 0 k))
    (fun k => x2 (ix4 0 1 0 k))) (fun k j => x3 (ix2 k j))

theorem mod_ld (n : ℕ) (hn : n < 6) (h : ∀ a, (![0, n, 0, 0] : Fin 4 → ℕ) a + (![1, 1, 1, 1024] : Fin 4 → ℕ) a ≤ S1x6x1x1024.size a) (j : Fin 1024) :
    View.ld x2 (Rect.unit ![0, n, 0, 0] ![1, 1, 1, 1024] h) (ix4 0 0 0 j) = x2 (ix4 0 ⟨n, hn⟩ 0 j) := by
  refine congrArg x2 (funext fun a => Fin.ext ?_)
  match a with
  | 0 => rfl
  | 1 => rfl
  | 2 => rfl
  | 3 => show 0 + 1 * j.val = j.val; omega

theorem prod_row (r : Fin 512) : (fun j => k0_pay5 (F := Ideal) x0 x1 (View.ld x2 r0_2) (View.ld x2 r0_3) x3 (ix2 r j)) = prodRow x0 x1 x2 x3 r := by
  funext j
  rw [normed_apply]
  have e0 : (fun k => View.ld x2 r0_3 (ix4 0 0 0 k)) = fun k => x2 (ix4 0 0 0 k) := funext fun k => mod_ld x2 0 (by decide) _ k
  have e1 : (fun k => View.ld x2 r0_2 (ix4 0 0 0 k)) = fun k => x2 (ix4 0 1 0 k) := funext fun k => mod_ld x2 1 (by decide) _ k
  rw [e0, e1]
  rfl

/-- Row `r` of a head of the product: normed with the gain `g` and turned. -/
def headRow (g : Vec Ideal S1x128 .f32) (r : Fin 512) (o : ℕ) (ho : o + 128 ≤ 1536) : Fin 128 → EReal :=
  rolled (headed (prodRow x0 x1 x2 x3 r) (fun j => g (ix2 0 j)) o ho) (fun j => x6 (ix2 r j)) (fun j => x7 (ix2 r j)) (fun j => x8 (ix2 r j))

theorem headRow_eq (g : Vec Ideal S1x128 .f32) (r : Fin 512) (o o' : ℕ) (ho : o + 128 ≤ 1536) (ho' : o' + 128 ≤ 1536) (e : o = o') (j : Fin 128) :
    rolled (headed (fun j => k0_pay5 (F := Ideal) x0 x1 (View.ld x2 r0_2) (View.ld x2 r0_3) x3 (ix2 r j)) (fun j => g (ix2 0 j)) o ho)
      (fun j => x6 (ix2 r j)) (fun j => x7 (ix2 r j)) (fun j => x8 (ix2 r j)) j = headRow x0 x1 x2 x3 x6 x7 x8 g r o' ho' j := by
  subst e
  rw [prod_row]
  rfl

set_option maxHeartbeats 4000000 in
theorem out9_apply (r : Fin 512) (h : Fin 8) (d : Fin 128) :
    out0_9 x0 x1 x2 x3 x4 x5 x6 x7 x8 (ix2 r ⟨h.val * 128 + d.val, by omega⟩)
      = headRow x0 x1 x2 x3 x6 x7 x8 x4 r (h.val * 128) (by omega) d * Ideal.ofBits .f32 0x3E0293EE#32 := by
  unfold_out out0_9
  simp (disch := decide) only [View.ld_unit_lit', q0, q1, q2, q3, q4, q5, q6, q7, (same_apply _).1, (same_apply _).2.1, (same_apply _).2.2]
  canon_tiles x hh
  all_goals
    have a0 : r.val = (x 0).val := hh0
    have a1 : h.val * 128 + d.val = _ := hh1
    refine (q_piece _ _ ?_ _ x4 _ _ _ x r d a0 ?_).trans (congrArg (· * _) (headRow_eq x0 x1 x2 x3 x6 x7 x8 x4 r _ _ _ _ ?_ d))
    all_goals first | decide | omega

set_option maxHeartbeats 4000000 in
theorem out10_apply (r : Fin 512) (h : Fin 2) (d : Fin 128) :
    out0_10 x0 x1 x2 x3 x4 x5 x6 x7 x8 (ix2 r ⟨h.val * 128 + d.val, by omega⟩)
      = headRow x0 x1 x2 x3 x6 x7 x8 x5 r (1024 + h.val * 128) (by omega) d := by
  unfold_out out0_10
  simp (disch := decide) only [View.ld_unit_lit', k0, k1, (same_apply _).1, (same_apply _).2.1, (same_apply _).2.2]
  canon_tiles x hh
  all_goals
    have a0 : r.val = (x 0).val := hh0
    have a1 : h.val * 128 + d.val = _ := hh1
    refine (k_piece _ _ ?_ _ x5 _ _ _ x r d a0 ?_).trans (headRow_eq x0 x1 x2 x3 x6 x7 x8 x5 r _ _ _ _ ?_ d)
    all_goals first | decide | omega

section
open Idealize.ShloMosaic.Pointwise

theorem ones_apply (i : S512x128.Idx) : k0_pay2 (F := Ideal) i = 1 := by
  pointwise [k0_pay2]

theorem v_apply (Y : FVec Ideal S512x1536 .f32) (r : Fin 512) (d : Fin 128) :
    k0_pay3 (F := Ideal) Y (ix2 r d) = Y (ix2 r ⟨1280 + d.val, by omega⟩) ∧ k0_pay4 (F := Ideal) Y (ix2 r d) = Y (ix2 r ⟨1408 + d.val, by omega⟩) := by
  constructor <;> pointwise [k0_pay3, k0_pay4]

end

set_option maxHeartbeats 4000000 in
theorem out11_apply (r : Fin 512) (h : Fin 2) (d : Fin 256) :
    out0_11 x0 x1 x2 x3 x4 x5 x6 x7 x8 (ix2 r ⟨h.val * 256 + d.val, by omega⟩)
      = if hd : d.val < 128 then prodRow x0 x1 x2 x3 r ⟨1280 + (h.val * 128 + d.val), by omega⟩ else 1 := by
  rw [← prod_row]
  unfold_out out0_11
  simp (disch := decide) only [View.ld_unit_lit']
  canon_tiles x hh
  all_goals
    have a0 : r.val = (x 0).val := hh0
    have a1 : h.val * 256 + d.val = _ := hh1
    have b1 : (x 1).val < 128 := (x 1).isLt
    have ex : x = ix2 r (x 1) := by rw [← (Fin.ext a0.symm : x 0 = r)]; exact eq_ix2 x
  · rw [dif_neg (by omega)]
    exact ones_apply x
  · rw [dif_pos (by omega)]
    refine (congrArg _ ex).trans (((v_apply _ r (x 1)).2).trans (congrArg _ (congrArg (ix2 r) (Fin.ext ?_))))
    show 1408 + (x 1).val = 1280 + (h.val * 128 + d.val)
    omega
  · rw [dif_neg (by omega)]
    exact ones_apply x
  · rw [dif_pos (by omega)]
    refine (congrArg _ ex).trans (((v_apply _ r (x 1)).1).trans (congrArg _ (congrArg (ix2 r) (Fin.ext ?_))))
    show 1280 + (x 1).val = 1280 + (h.val * 128 + d.val)
    omega

end Cert.Kernel5Ideal.Blk

end
-- ==== Proof.ProjHost.lean ====
/- The matrices that the projection's launch is given, at an entry, over the arguments: the rows and the table of shifts and
   scales as in the launch after the attention, the weights, and the tables of the rotary turn with 512 rows below that turn
   nothing. -/
module

public import proofs.«01_k».proof.Proof.Gen.Kernel5Ideal.Value
public import proofs.«01_k».proof.Proof.PostHost

@[expose] public section

set_option maxRecDepth 16384

noncomputable section

namespace Cert.Kernel5Ideal.Host

open Cert.Kernel5Ideal Cert.Kernel5Ideal.Gen Idealize.ShloMosaic Idealize.ShloMosaic.TcCoe Idealize.SL.Sem
open Idealize.ShloMosaic.Tactic
open Idealize.ShloMosaic.Pointwise
open Cert.Kernel3Ideal.Host (rows rows_apply table table_lat table_ctx)

variable (m : (ℓ : Loc nD τ sig) → Buf (Elt Ideal) ℓ) (c : Dev nD)

theorem x_eq : V m c main_v2 = rows (m ((c : Thread nD τ).loc main_arg0)) (m ((c : Thread nD τ).loc main_arg1)) := by
  unfold V
  after_reads_simp
  rfl

theorem mod_eq : V m c main_v6
    = shapeCast S8x6x1x1024 (table (m ((c : Thread nD τ).loc main_arg2)) (m ((c : Thread nD τ).loc main_arg3))) shapeCasts_S8x6144_S8x6x1x1024 := by
  unfold V
  after_reads_simp
  funext i
  refine congrArg (fun T => shapeCast S8x6x1x1024 T shapeCasts_S8x6144_S8x6x1x1024 i) ?_
  show concatenate S8x6144 0 [⟨S4x6144, StableHlo.upto hostOps0 (fun b => m (c, b)) 6 (Proc.tc.devRef main_arg2)⟩,
      ⟨S1x6144, StableHlo.upto hostOps0 (fun b => m (c, b)) 6 (Proc.tc.devRef main_v4)⟩,
      ⟨S3x6144, StableHlo.upto hostOps0 (fun b => m (c, b)) 6 (Proc.tc.devRef main_v3)⟩]
    concatenates_S4x6144_S1x6144_S3x6144_S8x6144_d0 = _
  rfl

theorem mod_apply (r : Fin 8) (n : Fin 6) (j : Fin 1024) : V m c main_v6 (ix4 r n 0 j)
    = table (m ((c : Thread nD τ).loc main_arg2)) (m ((c : Thread nD τ).loc main_arg3)) (ix2 r ⟨n.val * 1024 + j.val, by omega⟩) := by
  rw [mod_eq]
  generalize table _ _ = T
  pointwise []

theorem w_eq : V m c main_v7 = m ((c : Thread nD τ).loc main_arg5) := by
  unfold V
  after_reads_simp
  rfl

theorem gain_apply (j : Fin 1024) : V m c main_v21 (ix2 0 j) = m ((c : Thread nD τ).loc main_arg4) (ix1 j) := by
  unfold V
  after_reads_at

theorem qn_apply (j : Fin 128) : V m c main_v8 (ix2 0 j) = m ((c : Thread nD τ).loc main_arg6) (ix1 j) := by
  unfold V
  after_reads_at

theorem kn_apply (j : Fin 128) : V m c main_v9 (ix2 0 j) = m ((c : Thread nD τ).loc main_arg7) (ix1 j) := by
  unfold V
  after_reads_at

/-- A table with 512 rows of `z` below. -/
def padded (T : Vec Ideal S4096x128 .f32) (z : EReal) : Vec Ideal S4608x128 .f32 :=
  pad (α := EReal) S4608x128 ![0, 0] ![512, 0] ![0, 0] T (fun _ : S_.Idx => z) pads_S4096x128_S4608x128_05120_000 h_S_

theorem padded_apply (T : Vec Ideal S4096x128 .f32) (z : EReal) (n : Fin 4608) (j : Fin 128) :
    padded T z (ix2 n j) = if h : n.val < 4096 then T (ix2 ⟨n.val, h⟩ j) else z := by
  pointwise [padded]

theorem cos_eq : V m c main_v10 = padded (m ((c : Thread nD τ).loc main_arg8)) (Ideal.ofBits .f32 0x3F800000#32) := by
  unfold V
  after_reads_simp
  rfl

/-- A word in every lane. -/
def lanes {w : ℕ} (b : IVec S_ w) : IVec S128 w := broadcastInDim S128 ![] bcast_S_S128 b

/-- The step of the lanes' remainders, 64. -/
def step : IVec S_ 32 := select (cmpi .eq (constantI S_ 32 64#32) (constantI S_ 32 0#32)) (constantI S_ 32 1#32) (constantI S_ 32 64#32)

/-- The lanes' remainders before their sign is set right. -/
def rest : IVec S128 32 := Host.remsi (iotaInDim S128 32 0) (lanes step)

/-- Whether a lane is in the first quarter of its half. -/
def first : IVec S128 1 :=
  cmpi .slt
    (select (andi (cmpi .ne (cmpi .slt rest (lanes (constantI S_ 32 0#32))) (lanes (cmpi .slt step (constantI S_ 32 0#32))))
        (cmpi .ne rest (lanes (constantI S_ 32 0#32)))) (addi rest (lanes step)) rest)
    (lanes (constantI S_ 32 32#32))

theorem first_apply : ∀ j : Fin 128, first (ix1 j) = if j.val % 64 < 32 then 1#1 else 0#1 := by
  decide +kernel

/-- The lanes' flags in every row. -/
def firsts : IVec S4608x128 1 :=
  broadcastInDim S4608x128 ![0, 1] bcast_S1x128_S4608x128_0_1 (broadcastInDim S1x128 ![1] bcast_S128_S1x128_1 first)

theorem firsts_apply (n : Fin 4608) (j : Fin 128) : firsts (ix2 n j) = if j.val % 64 < 32 then 1#1 else 0#1 := by
  rw [← first_apply]
  unfold firsts
  generalize first = f
  pointwise []

/-- Zeros. -/
def zeros : Vec Ideal S4608x128 .f32 := broadcastInDim S4608x128 ![] bcast_S_S4608x128 (constant (F := Ideal) S_ .f32 0x00000000#32)

theorem zeros_apply (n : Fin 4608) (j : Fin 128) : zeros (ix2 n j) = 0 := by
  pointwise [zeros]

theorem zero_word : (((0#32 : BitVec 32).toInt : ℝ) : EReal) = 0 := by
  rw [show (0#32 : BitVec 32).toInt = 0 by decide]
  simp

theorem one_word : Ideal.ofBits .f32 0x3F800000#32 = 1 := by
  pointwise []

theorem sa_eq : V m c main_v18 = select firsts (Host.negf (F := Ideal) (φ := .f32) (padded (m ((c : Thread nD τ).loc main_arg9)) (((0#32 : BitVec 32).toInt : ℝ) : EReal))) zeros := by
  unfold V
  after_reads_simp
  rfl

theorem sb_eq : V m c main_v20 = select firsts zeros (padded (m ((c : Thread nD τ).loc main_arg9)) (((0#32 : BitVec 32).toInt : ℝ) : EReal)) := by
  unfold V
  after_reads_simp
  rfl

/-- An entry of a table of cosines or sines. -/
def cell (T : Vec Ideal S4096x128 .f32) (n : Fin 4096) (j : Fin 128) : EReal := T (ix2 n j)

theorem sa_lat (n : Fin 4608) (h : n.val < 4096) (j : Fin 128) :
    V m c main_v18 (ix2 n j) = if j.val % 64 < 32 then -cell (m ((c : Thread nD τ).loc main_arg9)) ⟨n.val, h⟩ j else (0 : EReal) := by
  rw [sa_eq]
  show Scalar.select (firsts (ix2 n j)) (-padded _ _ (ix2 n j)) (zeros (ix2 n j)) = _
  rw [firsts_apply, padded_apply, dif_pos h, zeros_apply]
  by_cases hj : j.val % 64 < 32
  · rw [if_pos hj, if_pos hj]; rfl
  · rw [if_neg hj, if_neg hj]; rfl

theorem sb_lat (n : Fin 4608) (h : n.val < 4096) (j : Fin 128) :
    V m c main_v20 (ix2 n j) = if j.val % 64 < 32 then (0 : EReal) else cell (m ((c : Thread nD τ).loc main_arg9)) ⟨n.val, h⟩ j := by
  rw [sb_eq]
  show Scalar.select (firsts (ix2 n j)) (zeros (ix2 n j)) (padded _ _ (ix2 n j)) = _
  rw [firsts_apply, padded_apply, dif_pos h, zeros_apply]
  by_cases hj : j.val % 64 < 32
  · rw [if_pos hj, if_pos hj]; rfl
  · rw [if_neg hj, if_neg hj]; rfl

theorem cos_lat (n : Fin 4608) (h : n.val < 4096) (j : Fin 128) :
    V m c main_v10 (ix2 n j) = cell (m ((c : Thread nD τ).loc main_arg8)) ⟨n.val, h⟩ j := by
  rw [cos_eq, padded_apply, dif_pos h]
  rfl

theorem sa_ctx (n : Fin 4608) (h : ¬n.val < 4096) (j : Fin 128) : V m c main_v18 (ix2 n j) = (0 : EReal) := by
  rw [sa_eq]
  show Scalar.select (firsts (ix2 n j)) (-padded _ _ (ix2 n j)) (zeros (ix2 n j)) = _
  rw [firsts_apply, padded_apply, dif_neg h, zeros_apply, zero_word, neg_zero]
  by_cases hj : j.val % 64 < 32
  · rw [if_pos hj]; rfl
  · rw [if_neg hj]; rfl

theorem sb_ctx (n : Fin 4608) (h : ¬n.val < 4096) (j : Fin 128) : V m c main_v20 (ix2 n j) = (0 : EReal) := by
  rw [sb_eq]
  show Scalar.select (firsts (ix2 n j)) (zeros (ix2 n j)) (padded _ _ (ix2 n j)) = _
  rw [firsts_apply, padded_apply, dif_neg h, zeros_apply, zero_word]
  by_cases hj : j.val % 64 < 32
  · rw [if_pos hj]; rfl
  · rw [if_neg hj]; rfl

theorem cos_ctx (n : Fin 4608) (h : ¬n.val < 4096) (j : Fin 128) : V m c main_v10 (ix2 n j) = (1 : EReal) := by
  rw [cos_eq, padded_apply, dif_neg h]
  exact one_word

end Cert.Kernel5Ideal.Host

end
-- ==== Proof.ProjRef.lean ====
/- The three results of the reference of the projection before the attention, at an entry. -/
module

public import proofs.«01_k».proof.Proof.Gen.Reference5Ideal.Read
public import proofs.«01_k».proof.Proof.Turn
public import Idealize.ShloMosaic.Lib.Pointwise

@[expose] public section

set_option maxRecDepth 16384

noncomputable section

namespace Cert.Reference5Ideal.Ref

open Cert.Reference5Ideal Cert.Reference5Ideal.Read Idealize.ShloMosaic Idealize.ShloMosaic.TcCoe Idealize.SL.Sem
open Idealize.ShloMosaic.Pointwise
open Cert.Token

variable (x0 : (⟨S4x4096x1024, .f32⟩ : BufTy).Contents (Elt Ideal)) (x1 : (⟨S4x256x1024, .f32⟩ : BufTy).Contents (Elt Ideal))
  (x2 : (⟨S4x6144, .f32⟩ : BufTy).Contents (Elt Ideal)) (x3 : (⟨S6144, .f32⟩ : BufTy).Contents (Elt Ideal))
  (x4 : (⟨S1024, .f32⟩ : BufTy).Contents (Elt Ideal)) (x5 : (⟨S1024x1536, .f32⟩ : BufTy).Contents (Elt Ideal))
  (x6 x7 : (⟨S128, .f32⟩ : BufTy).Contents (Elt Ideal)) (x8 x9 : (⟨S4096x128, .f32⟩ : BufTy).Contents (Elt Ideal))

/-- The product's row of latent token `n` of sample `b`. -/
def latProd (b : Fin 4) (n : Fin 4096) : Fin 1536 → EReal :=
  times (modulated (normed (Ideal.ofBits .f32 0x44800000#32) (fun j => x0 (ix3 b n j)) (fun j => x4 (ix1 j)))
    (fun j : Fin 1024 => x2 (ix2 b ⟨j.val, by omega⟩)) (fun j : Fin 1024 => x2 (ix2 b ⟨1024 + j.val, by omega⟩))) (fun k j => x5 (ix2 k j))

/-- The product's row of context token `n` of sample `b`. -/
def ctxProd (b : Fin 4) (n : Fin 256) : Fin 1536 → EReal :=
  times (modulated (normed (Ideal.ofBits .f32 0x44800000#32) (fun j => x1 (ix3 b n j)) (fun j => x4 (ix1 j)))
    (fun j : Fin 1024 => x3 (ix1 ⟨j.val, by omega⟩)) (fun j : Fin 1024 => x3 (ix1 ⟨1024 + j.val, by omega⟩))) (fun k j => x5 (ix2 k j))

theorem latNorm_apply (b : Fin 4) (n : Fin 4096) (j : Fin 1024) :
    val_main_v26 (F := Ideal) x0 x4 (ix3 b n j)
      = normed (Ideal.ofBits .f32 0x44800000#32) (fun j => x0 (ix3 b n j)) (fun j => x4 (ix1 j)) j := by
  unfold normed
  pointwise [val_main_v26, val_main_v25, val_main_v24, val_main_v23, val_main_v22, val_main_v21, val_main_v20, val_main_v19, val_main_v18, val_main_v17,
    val_main_v16, val_main_v15, val_main_v14, val_main_cst, val_main_cst_0, val_main_cst_1]

theorem latMod_apply (b : Fin 4) (n : Fin 4096) (j : Fin 1024) :
    val_main_v32 (F := Ideal) x0 x2 x4 (ix3 b n j)
      = modulated (fun j => val_main_v26 (F := Ideal) x0 x4 (ix3 b n j)) (fun j : Fin 1024 => x2 (ix2 b ⟨j.val, by omega⟩))
          (fun j : Fin 1024 => x2 (ix2 b ⟨1024 + j.val, by omega⟩)) j := by
  unfold modulated val_main_v32 val_main_v31 val_main_v30
  generalize val_main_v26 (F := Ideal) x0 x4 = y
  pointwise [val_main_v29, val_main_v28, val_main_v27, val_main_v7, val_main_v6, val_main_v1, val_main_v0, val_main_cst_2]

theorem latProd_apply (b : Fin 4) (n : Fin 4096) (j : Fin 1536) :
    val_main_v33 (F := Ideal) x0 x2 x4 x5 (ix3 b n j) = latProd x0 x2 x4 x5 b n j := by
  unfold latProd
  rw [← funext (latNorm_apply x0 x4 b n), ← funext (latMod_apply x0 x2 x4 b n)]
  unfold times val_main_v33
  generalize val_main_v32 (F := Ideal) x0 x2 x4 = y
  pointwise []

theorem latSplit_apply (b : Fin 4) (n : Fin 4096) (h : Fin 2) (g : Fin 4) (d : Fin 128) :
    val_main_v37 (F := Ideal) x0 x2 x4 x5 (ix5 b n h g d) = val_main_v33 (F := Ideal) x0 x2 x4 x5 (ix3 b n ⟨(h.val * 4 + g.val) * 128 + d.val, by omega⟩) := by
  unfold val_main_v37 val_main_v34
  generalize val_main_v33 (F := Ideal) x0 x2 x4 x5 = y
  pointwise []
  exact congrArg (fun i => y (ix3 b n i)) (Fin.ext (by dsimp only; omega))

theorem latQ_apply (b : Fin 4) (n : Fin 4096) (h : Fin 2) (g : Fin 4) (d : Fin 128) :
    val_main_v50 (F := Ideal) x0 x2 x4 x5 x6 (ix5 b n h g d)
      = headed (latProd x0 x2 x4 x5 b n) (fun j => x6 (ix1 j)) ((h.val * 4 + g.val) * 128) (by omega) d := by
  unfold headed
  rw [← funext fun j => latProd_apply x0 x2 x4 x5 b n j]
  beta_reduce
  rw [← funext fun d => latSplit_apply x0 x2 x4 x5 b n h g d]
  unfold normed val_main_v50 val_main_v47 val_main_v46 val_main_v45 val_main_v44 val_main_v42 val_main_v40 val_main_v39 val_main_v38
  generalize val_main_v37 (F := Ideal) x0 x2 x4 x5 = y
  pointwise [val_main_v49, val_main_v48, val_main_v43, val_main_v41, val_main_cst_3, val_main_cst_4, val_main_cst_5]

theorem latTurn_apply (b : Fin 4) (n : Fin 4096) (h : Fin 2) (g : Fin 4) (d : Fin 128) :
    val_main_v81 (F := Ideal) x0 x2 x4 x5 x6 x8 x9 (ix5 b n h g d)
      = turned (fun d => val_main_v50 (F := Ideal) x0 x2 x4 x5 x6 (ix5 b n h g d)) (fun j => x8 (ix2 n j)) (fun j => x9 (ix2 n j)) d := by
  unfold turned
  rw [swapped_eq]
  unfold val_main_v81 val_main_v80 val_main_v77 val_main_v74 val_main_v73 val_main_v72 val_main_v71 val_main_v70 val_main_v69 val_main_v68
  generalize val_main_v50 (F := Ideal) x0 x2 x4 x5 x6 = y
  pointwise [val_main_v79, val_main_v78, val_main_v76, val_main_v75, val_main_v67, val_main_v66]

theorem latSplitK_apply (b : Fin 4) (n : Fin 4096) (h : Fin 2) (d : Fin 128) :
    val_main_v51 (F := Ideal) x0 x2 x4 x5 (ix4 b n h d) = val_main_v33 (F := Ideal) x0 x2 x4 x5 (ix3 b n ⟨1024 + h.val * 128 + d.val, by omega⟩) := by
  unfold val_main_v51 val_main_v35
  generalize val_main_v33 (F := Ideal) x0 x2 x4 x5 = y
  pointwise []
  exact congrArg (fun i => y (ix3 b n i)) (Fin.ext (by dsimp only; omega))

theorem latV_apply (b : Fin 4) (n : Fin 4096) (h : Fin 2) (d : Fin 128) :
    val_main_v65 (F := Ideal) x0 x2 x4 x5 (ix4 b n h d) = latProd x0 x2 x4 x5 b n ⟨1280 + (h.val * 128 + d.val), by omega⟩ := by
  rw [← latProd_apply]
  unfold val_main_v65 val_main_v36
  generalize val_main_v33 (F := Ideal) x0 x2 x4 x5 = y
  pointwise []

theorem latK_apply (b : Fin 4) (n : Fin 4096) (h : Fin 2) (d : Fin 128) :
    val_main_v64 (F := Ideal) x0 x2 x4 x5 x7 (ix4 b n h d)
      = headed (latProd x0 x2 x4 x5 b n) (fun j => x7 (ix1 j)) (1024 + h.val * 128) (by omega) d := by
  unfold headed
  rw [← funext fun j => latProd_apply x0 x2 x4 x5 b n j]
  beta_reduce
  rw [← funext fun d => latSplitK_apply x0 x2 x4 x5 b n h d]
  unfold normed val_main_v64 val_main_v61 val_main_v60 val_main_v59 val_main_v58 val_main_v56 val_main_v54 val_main_v53 val_main_v52
  generalize val_main_v51 (F := Ideal) x0 x2 x4 x5 = y
  pointwise [val_main_v63, val_main_v62, val_main_v57, val_main_v55, val_main_cst_6, val_main_cst_7, val_main_cst_8]

theorem latTurnK_apply (b : Fin 4) (n : Fin 4096) (h : Fin 2) (d : Fin 128) :
    val_main_v97 (F := Ideal) x0 x2 x4 x5 x7 x8 x9 (ix4 b n h d)
      = turned (fun d => val_main_v64 (F := Ideal) x0 x2 x4 x5 x7 (ix4 b n h d)) (fun j => x8 (ix2 n j)) (fun j => x9 (ix2 n j)) d := by
  unfold turned
  rw [swapped_eq]
  unfold val_main_v97 val_main_v96 val_main_v93 val_main_v90 val_main_v89 val_main_v88 val_main_v87 val_main_v86 val_main_v85 val_main_v84
  generalize val_main_v64 (F := Ideal) x0 x2 x4 x5 x7 = y
  pointwise [val_main_v95, val_main_v94, val_main_v92, val_main_v91, val_main_v83, val_main_v82]

theorem ctxNorm_apply (b : Fin 4) (n : Fin 256) (j : Fin 1024) :
    val_main_v110 (F := Ideal) x1 x4 (ix3 b n j)
      = normed (Ideal.ofBits .f32 0x44800000#32) (fun j => x1 (ix3 b n j)) (fun j => x4 (ix1 j)) j := by
  unfold normed
  pointwise [val_main_v110, val_main_v109, val_main_v108, val_main_v107, val_main_v106, val_main_v105, val_main_v104, val_main_v103, val_main_v102,
    val_main_v101, val_main_v100, val_main_v99, val_main_v98, val_main_cst_9, val_main_cst_10, val_main_cst_11]

theorem ctxMod_apply (b : Fin 4) (n : Fin 256) (j : Fin 1024) :
    val_main_v118 (F := Ideal) x1 x3 x4 (ix3 b n j)
      = modulated (fun j => val_main_v110 (F := Ideal) x1 x4 (ix3 b n j)) (fun j : Fin 1024 => x3 (ix1 ⟨j.val, by omega⟩))
          (fun j : Fin 1024 => x3 (ix1 ⟨1024 + j.val, by omega⟩)) j := by
  unfold modulated val_main_v118 val_main_v115
  generalize val_main_v110 (F := Ideal) x1 x4 = y
  pointwise [val_main_v117, val_main_v116, val_main_v114, val_main_v113, val_main_v112, val_main_v111, val_main_v9, val_main_v8, val_main_cst_12]

theorem ctxProd_apply (b : Fin 4) (n : Fin 256) (j : Fin 1536) :
    val_main_v119 (F := Ideal) x1 x3 x4 x5 (ix3 b n j) = ctxProd x1 x3 x4 x5 b n j := by
  unfold ctxProd
  rw [← funext (ctxNorm_apply x1 x4 b n), ← funext (ctxMod_apply x1 x3 x4 b n)]
  unfold times val_main_v119
  generalize val_main_v118 (F := Ideal) x1 x3 x4 = y
  pointwise []

theorem ctxSplit_apply (b : Fin 4) (n : Fin 256) (h : Fin 2) (g : Fin 4) (d : Fin 128) :
    val_main_v123 (F := Ideal) x1 x3 x4 x5 (ix5 b n h g d) = val_main_v119 (F := Ideal) x1 x3 x4 x5 (ix3 b n ⟨(h.val * 4 + g.val) * 128 + d.val, by omega⟩) := by
  unfold val_main_v123 val_main_v120
  generalize val_main_v119 (F := Ideal) x1 x3 x4 x5 = y
  pointwise []
  exact congrArg (fun i => y (ix3 b n i)) (Fin.ext (by dsimp only; omega))

theorem ctxQ_apply (b : Fin 4) (n : Fin 256) (h : Fin 2) (g : Fin 4) (d : Fin 128) :
    val_main_v136 (F := Ideal) x1 x3 x4 x5 x6 (ix5 b n h g d)
      = headed (ctxProd x1 x3 x4 x5 b n) (fun j => x6 (ix1 j)) ((h.val * 4 + g.val) * 128) (by omega) d := by
  unfold headed
  rw [← funext fun j => ctxProd_apply x1 x3 x4 x5 b n j]
  beta_reduce
  rw [← funext fun d => ctxSplit_apply x1 x3 x4 x5 b n h g d]
  unfold normed val_main_v136 val_main_v133 val_main_v132 val_main_v131 val_main_v130 val_main_v128 val_main_v126 val_main_v125 val_main_v124
  generalize val_main_v123 (F := Ideal) x1 x3 x4 x5 = y
  pointwise [val_main_v135, val_main_v134, val_main_v129, val_main_v127, val_main_cst_13, val_main_cst_14, val_main_cst_15]

theorem ctxSplitK_apply (b : Fin 4) (n : Fin 256) (h : Fin 2) (d : Fin 128) :
    val_main_v137 (F := Ideal) x1 x3 x4 x5 (ix4 b n h d) = val_main_v119 (F := Ideal) x1 x3 x4 x5 (ix3 b n ⟨1024 + h.val * 128 + d.val, by omega⟩) := by
  unfold val_main_v137 val_main_v121
  generalize val_main_v119 (F := Ideal) x1 x3 x4 x5 = y
  pointwise []
  exact congrArg (fun i => y (ix3 b n i)) (Fin.ext (by dsimp only; omega))

theorem ctxV_apply (b : Fin 4) (n : Fin 256) (h : Fin 2) (d : Fin 128) :
    val_main_v151 (F := Ideal) x1 x3 x4 x5 (ix4 b n h d) = ctxProd x1 x3 x4 x5 b n ⟨1280 + (h.val * 128 + d.val), by omega⟩ := by
  rw [← ctxProd_apply]
  unfold val_main_v151 val_main_v122
  generalize val_main_v119 (F := Ideal) x1 x3 x4 x5 = y
  pointwise []

theorem ctxK_apply (b : Fin 4) (n : Fin 256) (h : Fin 2) (d : Fin 128) :
    val_main_v150 (F := Ideal) x1 x3 x4 x5 x7 (ix4 b n h d)
      = headed (ctxProd x1 x3 x4 x5 b n) (fun j => x7 (ix1 j)) (1024 + h.val * 128) (by omega) d := by
  unfold headed
  rw [← funext fun j => ctxProd_apply x1 x3 x4 x5 b n j]
  beta_reduce
  rw [← funext fun d => ctxSplitK_apply x1 x3 x4 x5 b n h d]
  unfold normed val_main_v150 val_main_v147 val_main_v146 val_main_v145 val_main_v144 val_main_v142 val_main_v140 val_main_v139 val_main_v138
  generalize val_main_v137 (F := Ideal) x1 x3 x4 x5 = y
  pointwise [val_main_v149, val_main_v148, val_main_v143, val_main_v141, val_main_cst_16, val_main_cst_17, val_main_cst_18]

theorem ix5_eq {N : ℕ} {b b' : Fin 4} {n n' : Fin N} {h h' : Fin 2} {g g' : Fin 4} (d : Fin 128) (hb : b.val = b'.val) (hn : n.val = n'.val)
    (hh : h.val = h'.val) (hg : g.val = g'.val) : ix5 b n h g d = ix5 b' n' h' g' d := by
  rw [Fin.ext hb, Fin.ext hn, Fin.ext hh, Fin.ext hg]

theorem ix4_eq {N : ℕ} {b b' : Fin 4} {n n' : Fin N} {h h' : Fin 2} {d d' : Fin 128} (hb : b.val = b'.val) (hn : n.val = n'.val)
    (hh : h.val = h'.val) (hd : d.val = d'.val) : ix4 b n h d = ix4 b' n' h' d' := by
  rw [Fin.ext hb, Fin.ext hn, Fin.ext hh, Fin.ext hd]

/-- The three results, for a latent row and for a row of the context. -/
theorem q_lat (R : Fin 17408) (h : Fin 8) (d : Fin 128) (b : Fin 4) (n : Fin 4096) (hR : R.val = b.val * 4096 + n.val) :
    val_main_v166 (F := Ideal) x0 x1 x2 x3 x4 x5 x6 x8 x9 (ix2 R ⟨h.val * 128 + d.val, by omega⟩)
      = turned (headed (latProd x0 x2 x4 x5 b n) (fun j => x6 (ix1 j)) (h.val * 128) (by omega)) (fun j => x8 (ix2 n j)) (fun j => x9 (ix2 n j)) d
          * Ideal.ofBits .f32 0x3E0293EE#32 := by
  have e := latTurn_apply x0 x2 x4 x5 x6 x8 x9 b n ⟨h.val / 4, by omega⟩ ⟨h.val % 4, by omega⟩ d
  rw [funext fun d => latQ_apply x0 x2 x4 x5 x6 b n ⟨h.val / 4, by omega⟩ ⟨h.val % 4, by omega⟩ d,
    headed_congr (ho' := by omega) rfl rfl (show (h.val / 4 * 4 + h.val % 4) * 128 = h.val * 128 by omega)] at e
  refine Eq.trans ?_ (congrArg (· * _) e)
  unfold val_main_v166 val_main_v156 val_main_v154 val_main_v152
  generalize val_main_v153 (F := Ideal) x1 x3 x4 x5 x6 = z
  generalize val_main_v81 (F := Ideal) x0 x2 x4 x5 x6 x8 x9 = y
  pointwise [val_main_v155, val_main_cst_19]
  rw [dif_pos (by omega)]
  exact congrArg (fun i => y i * _) (ix5_eq d (by dsimp only; omega) (by dsimp only; omega) (by dsimp only; omega) (by dsimp only; omega))

theorem q_ctx (R : Fin 17408) (h : Fin 8) (d : Fin 128) (b : Fin 4) (n : Fin 256) (hR : R.val = 16384 + b.val * 256 + n.val) :
    val_main_v166 (F := Ideal) x0 x1 x2 x3 x4 x5 x6 x8 x9 (ix2 R ⟨h.val * 128 + d.val, by omega⟩)
      = headed (ctxProd x1 x3 x4 x5 b n) (fun j => x6 (ix1 j)) (h.val * 128) (by omega) d * Ideal.ofBits .f32 0x3E0293EE#32 := by
  have e := ctxQ_apply x1 x3 x4 x5 x6 b n ⟨h.val / 4, by omega⟩ ⟨h.val % 4, by omega⟩ d
  rw [headed_congr (ho' := by omega) rfl rfl (show (h.val / 4 * 4 + h.val % 4) * 128 = h.val * 128 by omega)] at e
  refine Eq.trans ?_ (congrArg (· * _) e)
  unfold val_main_v166 val_main_v156 val_main_v154 val_main_v153
  generalize val_main_v152 (F := Ideal) x0 x2 x4 x5 x6 x8 x9 = z
  generalize val_main_v136 (F := Ideal) x1 x3 x4 x5 x6 = y
  pointwise [val_main_v155, val_main_cst_19]
  rw [dif_neg (by omega)]
  exact congrArg (fun i => y i * _) (ix5_eq d (by dsimp only; omega) (by dsimp only; omega) (by dsimp only; omega) (by dsimp only; omega))

theorem k_lat (R : Fin 17408) (h : Fin 2) (d : Fin 128) (b : Fin 4) (n : Fin 4096) (hR : R.val = b.val * 4096 + n.val) :
    val_main_v167 (F := Ideal) x0 x1 x2 x3 x4 x5 x7 x8 x9 (ix2 R ⟨h.val * 128 + d.val, by omega⟩)
      = turned (headed (latProd x0 x2 x4 x5 b n) (fun j => x7 (ix1 j)) (1024 + h.val * 128) (by omega)) (fun j => x8 (ix2 n j)) (fun j => x9 (ix2 n j)) d := by
  have e := latTurnK_apply x0 x2 x4 x5 x7 x8 x9 b n h d
  rw [funext fun d => latK_apply x0 x2 x4 x5 x7 b n h d] at e
  refine Eq.trans ?_ e
  unfold val_main_v167 val_main_v159 val_main_v157
  generalize val_main_v158 (F := Ideal) x1 x3 x4 x5 x7 = z
  generalize val_main_v97 (F := Ideal) x0 x2 x4 x5 x7 x8 x9 = y
  pointwise []
  rw [dif_pos (by omega)]
  exact congrArg y (ix4_eq (by dsimp only; omega) (by dsimp only; omega) rfl rfl)

theorem k_ctx (R : Fin 17408) (h : Fin 2) (d : Fin 128) (b : Fin 4) (n : Fin 256) (hR : R.val = 16384 + b.val * 256 + n.val) :
    val_main_v167 (F := Ideal) x0 x1 x2 x3 x4 x5 x7 x8 x9 (ix2 R ⟨h.val * 128 + d.val, by omega⟩)
      = headed (ctxProd x1 x3 x4 x5 b n) (fun j => x7 (ix1 j)) (1024 + h.val * 128) (by omega) d := by
  refine Eq.trans ?_ (ctxK_apply x1 x3 x4 x5 x7 b n h d)
  unfold val_main_v167 val_main_v159 val_main_v158
  generalize val_main_v157 (F := Ideal) x0 x2 x4 x5 x7 x8 x9 = z
  generalize val_main_v150 (F := Ideal) x1 x3 x4 x5 x7 = y
  pointwise []
  rw [dif_neg (by omega)]
  exact congrArg y (ix4_eq (by dsimp only; omega) (by dsimp only; omega) rfl rfl)

theorem v_lat (R : Fin 17408) (h : Fin 2) (d : Fin 256) (b : Fin 4) (n : Fin 4096) (hR : R.val = b.val * 4096 + n.val) :
    val_main_v168 (F := Ideal) x0 x1 x2 x3 x4 x5 (ix2 R ⟨h.val * 256 + d.val, by omega⟩)
      = if hd : d.val < 128 then latProd x0 x2 x4 x5 b n ⟨1280 + (h.val * 128 + d.val), by omega⟩ else 1 := by
  by_cases hd : d.val < 128
  · rw [dif_pos hd]
    refine Eq.trans ?_ (latV_apply x0 x2 x4 x5 b n h ⟨d.val, hd⟩)
    unfold val_main_v168 val_main_v165 val_main_v164 val_main_v162 val_main_v160
    generalize val_main_v161 (F := Ideal) x1 x3 x4 x5 = z
    generalize val_main_v65 (F := Ideal) x0 x2 x4 x5 = y
    pointwise [val_main_v163, val_main_cst_20]
    rw [dif_pos hd, dif_pos (by omega)]
    exact congrArg y (ix4_eq (by dsimp only; omega) (by dsimp only; omega) rfl rfl)
  · rw [dif_neg hd]
    unfold val_main_v168 val_main_v165 val_main_v164
    generalize val_main_v162 (F := Ideal) x0 x1 x2 x3 x4 x5 = z
    pointwise [val_main_v163, val_main_cst_20]
    rw [dif_neg hd]

theorem v_ctx (R : Fin 17408) (h : Fin 2) (d : Fin 256) (b : Fin 4) (n : Fin 256) (hR : R.val = 16384 + b.val * 256 + n.val) :
    val_main_v168 (F := Ideal) x0 x1 x2 x3 x4 x5 (ix2 R ⟨h.val * 256 + d.val, by omega⟩)
      = if hd : d.val < 128 then ctxProd x1 x3 x4 x5 b n ⟨1280 + (h.val * 128 + d.val), by omega⟩ else 1 := by
  by_cases hd : d.val < 128
  · rw [dif_pos hd]
    refine Eq.trans ?_ (ctxV_apply x1 x3 x4 x5 b n h ⟨d.val, hd⟩)
    unfold val_main_v168 val_main_v165 val_main_v164 val_main_v162 val_main_v161
    generalize val_main_v160 (F := Ideal) x0 x2 x4 x5 = z
    generalize val_main_v151 (F := Ideal) x1 x3 x4 x5 = y
    pointwise [val_main_v163, val_main_cst_20]
    rw [dif_pos hd, dif_neg (by omega)]
    exact congrArg y (ix4_eq (by dsimp only; omega) (by dsimp only; omega) rfl rfl)
  · rw [dif_neg hd]
    unfold val_main_v168 val_main_v165 val_main_v164
    generalize val_main_v162 (F := Ideal) x0 x1 x2 x3 x4 x5 = z
    pointwise [val_main_v163, val_main_cst_20]
    rw [dif_neg hd]

end Cert.Reference5Ideal.Ref

end
-- ==== Proof.ProjArr.lean ====
/- The three arrays that the projection before the attention leaves: the reference's, entry by entry. -/
module

public import proofs.«01_k».proof.Proof.ProjBlock
public import proofs.«01_k».proof.Proof.ProjHost
public import proofs.«01_k».proof.Proof.ProjRef

@[expose] public section

set_option maxRecDepth 16384

noncomputable section

namespace Cert.Kernel5Ideal.Arr

open Cert.Kernel5Ideal Cert.Kernel5Ideal.Gen Idealize.ShloMosaic Idealize.ShloMosaic.TcCoe Idealize.SL.Sem
open Idealize.ShloMosaic.Tactic
open Cert.Token Cert.Kernel5Ideal.Blk
open Cert.Reference5Ideal.Ref (latProd ctxProd)

variable (m : (ℓ : Loc nD τ sig) → Buf (Elt Ideal) ℓ) (c : Dev nD)

/-- The block of the tables of the rotary turn that a step takes: of the latent tokens, or the one that turns nothing. -/
def wheel (i : ℕ) : ℕ := if i < 32 then i % 8 else 8

theorem idx : ∀ t : Fin cfg0.N, win0_0.index t = ![(grid0.coords t 0).val, 0]
    ∧ win0_1.index t = ![0, 0]
    ∧ win0_2.index t = ![min ((grid0.coords t 0).val / 8) 4, 0, 0, 0]
    ∧ win0_3.index t = ![0, 0] ∧ win0_4.index t = ![0, 0] ∧ win0_5.index t = ![0, 0]
    ∧ win0_6.index t = ![wheel (grid0.coords t 0).val, 0] ∧ win0_7.index t = ![wheel (grid0.coords t 0).val, 0]
    ∧ win0_8.index t = ![wheel (grid0.coords t 0).val, 0]
    ∧ win0_9.index t = ![(grid0.coords t 0).val, 0] ∧ win0_10.index t = ![(grid0.coords t 0).val, 0]
    ∧ win0_11.index t = ![(grid0.coords t 0).val, 0] := by decide +kernel

theorem x_blk (t : Fin cfg0.N) (r : Fin 512) (j : Fin 1024) (R : Fin 17408) (hR : R.val = (grid0.coords t 0).val * 512 + r.val) :
    iblk m c 0 t (ix2 r j) = V m c main_v2 (ix2 R j) := by
  blk_ext [iblk, (idx t).1]

theorem gain_blk (t : Fin cfg0.N) (j : Fin 1024) : iblk m c 1 t (ix2 0 j) = m ((c : Thread nD τ).loc main_arg4) (ix1 j) := by
  refine Eq.trans ?_ (Host.gain_apply m c j)
  blk_ext [iblk, (idx t).2.1]

theorem mod_blk (t : Fin cfg0.N) (n : Fin 6) (j : Fin 1024) (r : Fin 8) (hr : r.val = min ((grid0.coords t 0).val / 8) 4) :
    iblk m c 2 t (ix4 0 n 0 j) = V m c main_v6 (ix4 r n 0 j) := by
  blk_ext [iblk, (idx t).2.2.1]

theorem w_blk (t : Fin cfg0.N) (k : Fin 1024) (j : Fin 1536) : iblk m c 3 t (ix2 k j) = m ((c : Thread nD τ).loc main_arg5) (ix2 k j) := by
  refine Eq.trans ?_ (congrFun (Host.w_eq m c) (ix2 k j))
  blk_ext [iblk, (idx t).2.2.2.1]

theorem qn_blk (t : Fin cfg0.N) (j : Fin 128) : iblk m c 4 t (ix2 0 j) = m ((c : Thread nD τ).loc main_arg6) (ix1 j) := by
  refine Eq.trans ?_ (Host.qn_apply m c j)
  blk_ext [iblk, (idx t).2.2.2.2.1]

theorem kn_blk (t : Fin cfg0.N) (j : Fin 128) : iblk m c 5 t (ix2 0 j) = m ((c : Thread nD τ).loc main_arg7) (ix1 j) := by
  refine Eq.trans ?_ (Host.kn_apply m c j)
  blk_ext [iblk, (idx t).2.2.2.2.2.1]

section wheels

variable (t : Fin cfg0.N) (r : Fin 512) (j : Fin 128) (n : Fin 4608) (hn : n.val = wheel (grid0.coords t 0).val * 512 + r.val)

include hn

theorem cos_blk : iblk m c 6 t (ix2 r j) = V m c main_v10 (ix2 n j) := by
  blk_ext [iblk, (idx t).2.2.2.2.2.2.1]

theorem sa_blk : iblk m c 7 t (ix2 r j) = V m c main_v18 (ix2 n j) := by
  blk_ext [iblk, (idx t).2.2.2.2.2.2.2.1]

theorem sb_blk : iblk m c 8 t (ix2 r j) = V m c main_v20 (ix2 n j) := by
  blk_ext [iblk, (idx t).2.2.2.2.2.2.2.2.1]

end wheels

section lat

variable (t : Fin cfg0.N) (h : (grid0.coords t 0).val < 32) (r : Fin 512) (b : Fin 4) (n : Fin 4096)
  (hR : b.val * 4096 + n.val = (grid0.coords t 0).val * 512 + r.val)

include h hR

theorem x_lat : (fun j => iblk m c 0 t (ix2 r j)) = fun j => m ((c : Thread nD τ).loc main_arg0) (ix3 b n j) := by
  funext j
  rw [x_blk m c t r j ⟨b.val * 4096 + n.val, by omega⟩ hR, Host.x_eq, Cert.Kernel3Ideal.Host.rows_apply, dif_pos (by dsimp only; omega)]
  blk_ext []

theorem mod_lat (k : Fin 6) (C : Fin 1024 → Fin 6144) (hC : ∀ j, (C j).val = k.val * 1024 + j.val) :
    (fun j => iblk m c 2 t (ix4 0 k 0 j)) = fun j : Fin 1024 => m ((c : Thread nD τ).loc main_arg2) (ix2 b (C j)) := by
  funext j
  rw [mod_blk m c t k j ⟨b.val, by omega⟩ (by dsimp only; omega), Host.mod_apply, Cert.Kernel3Ideal.Host.table_lat _ _ _ b.isLt]
  exact congrArg (fun C => m ((c : Thread nD τ).loc main_arg2) (ix2 b C)) (Fin.ext (hC j).symm)

theorem prod_lat : prodRow (iblk m c 0 t) (iblk m c 1 t) (iblk m c 2 t) (iblk m c 3 t) r
    = latProd (m ((c : Thread nD τ).loc main_arg0)) (m ((c : Thread nD τ).loc main_arg2)) (m ((c : Thread nD τ).loc main_arg4))
        (m ((c : Thread nD τ).loc main_arg5)) b n := by
  unfold prodRow latProd
  rw [x_lat m c t h r b n hR, mod_lat m c t h r b n hR 0 (fun j => ⟨j.val, by omega⟩) (fun j => by show j.val = 0 * 1024 + j.val; omega),
    mod_lat m c t h r b n hR 1 (fun j => ⟨1024 + j.val, by omega⟩) (fun j => rfl), funext fun k => funext fun j => w_blk m c t k j,
    funext fun j => gain_blk m c t j]

theorem turn_lat (u : Fin 128 → EReal) :
    rolled u (fun j => iblk m c 6 t (ix2 r j)) (fun j => iblk m c 7 t (ix2 r j)) (fun j => iblk m c 8 t (ix2 r j))
      = turned u (fun j => m ((c : Thread nD τ).loc main_arg8) (ix2 n j)) (fun j => m ((c : Thread nD τ).loc main_arg9) (ix2 n j)) := by
  have hw : n.val = wheel (grid0.coords t 0).val * 512 + r.val := by
    unfold wheel
    rw [if_pos h]
    omega
  have hn : (⟨n.val, by omega⟩ : Fin 4608).val < 4096 := n.isLt
  rw [funext fun j => (cos_blk m c t r j ⟨n.val, by omega⟩ hw).trans (Host.cos_lat m c _ hn j),
    funext fun j => (sa_blk m c t r j ⟨n.val, by omega⟩ hw).trans (Host.sa_lat m c _ hn j),
    funext fun j => (sb_blk m c t r j ⟨n.val, by omega⟩ hw).trans (Host.sb_lat m c _ hn j)]
  exact rolled_eq u (fun j => Host.cell (m ((c : Thread nD τ).loc main_arg8)) n j) (fun j => Host.cell (m ((c : Thread nD τ).loc main_arg9)) n j)

end lat

section ctx

variable (t : Fin cfg0.N) (h : 32 ≤ (grid0.coords t 0).val) (r : Fin 512) (b : Fin 4) (n : Fin 256)
  (hR : b.val * 256 + n.val = ((grid0.coords t 0).val - 32) * 512 + r.val)

include h

theorem mod_ctx (k : Fin 6) (C : Fin 1024 → Fin 6144) (hC : ∀ j, (C j).val = k.val * 1024 + j.val) :
    (fun j => iblk m c 2 t (ix4 0 k 0 j)) = fun j : Fin 1024 => m ((c : Thread nD τ).loc main_arg3) (ix1 (C j)) := by
  funext j
  rw [mod_blk m c t k j 4 (by show 4 = _; omega), Host.mod_apply, Cert.Kernel3Ideal.Host.table_ctx]
  exact congrArg (fun C => m ((c : Thread nD τ).loc main_arg3) (ix1 C)) (Fin.ext (hC j).symm)

theorem turn_ctx (u : Fin 128 → EReal) :
    rolled u (fun j => iblk m c 6 t (ix2 r j)) (fun j => iblk m c 7 t (ix2 r j)) (fun j => iblk m c 8 t (ix2 r j)) = u := by
  have hw : 4096 + r.val = wheel (grid0.coords t 0).val * 512 + r.val := by
    unfold wheel
    rw [if_neg (by omega)]
  have hn : ¬(⟨4096 + r.val, by omega⟩ : Fin 4608).val < 4096 := by dsimp only; omega
  rw [funext fun j => (cos_blk m c t r j ⟨4096 + r.val, by omega⟩ hw).trans (Host.cos_ctx m c _ hn j),
    funext fun j => (sa_blk m c t r j ⟨4096 + r.val, by omega⟩ hw).trans (Host.sa_ctx m c _ hn j),
    funext fun j => (sb_blk m c t r j ⟨4096 + r.val, by omega⟩ hw).trans (Host.sb_ctx m c _ hn j)]
  exact rolled_one u

include hR

theorem x_ctx : (fun j => iblk m c 0 t (ix2 r j)) = fun j => m ((c : Thread nD τ).loc main_arg1) (ix3 b n j) := by
  funext j
  rw [x_blk m c t r j ⟨16384 + (b.val * 256 + n.val), by omega⟩ (by dsimp only; omega), Host.x_eq, Cert.Kernel3Ideal.Host.rows_apply,
    dif_neg (by dsimp only; omega)]
  blk_ext []

theorem prod_ctx : prodRow (iblk m c 0 t) (iblk m c 1 t) (iblk m c 2 t) (iblk m c 3 t) r
    = ctxProd (m ((c : Thread nD τ).loc main_arg1)) (m ((c : Thread nD τ).loc main_arg3)) (m ((c : Thread nD τ).loc main_arg4))
        (m ((c : Thread nD τ).loc main_arg5)) b n := by
  unfold prodRow ctxProd
  rw [x_ctx m c t h r b n hR, mod_ctx m c t h 0 (fun j => ⟨j.val, by omega⟩) (fun j => by show j.val = 0 * 1024 + j.val; omega),
    mod_ctx m c t h 1 (fun j => ⟨1024 + j.val, by omega⟩) (fun j => rfl), funext fun k => funext fun j => w_blk m c t k j,
    funext fun j => gain_blk m c t j]

end ctx

/-- The reference's queries, keys and values on the kernel's arguments. -/
def GQ : FVec Ideal S17408x1024 .bf16 :=
  Cert.Reference5Ideal.Read.val_main_v166 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg8))
    (m ((c : Thread nD τ).loc main_arg9))

@[inherit_doc GQ]
def GK : FVec Ideal S17408x256 .bf16 :=
  Cert.Reference5Ideal.Read.val_main_v167 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg7)) (m ((c : Thread nD τ).loc main_arg8))
    (m ((c : Thread nD τ).loc main_arg9))

@[inherit_doc GQ]
def GV : FVec Ideal S17408x512 .bf16 :=
  Cert.Reference5Ideal.Read.val_main_v168 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

section entry

variable (t : Fin cfg0.N) (r : Fin 512) (R : Fin 17408) (hR : R.val = (grid0.coords t 0).val * 512 + r.val)

include hR

theorem q_entry (h : Fin 8) (d : Fin 128) :
    headRow (iblk m c 0 t) (iblk m c 1 t) (iblk m c 2 t) (iblk m c 3 t) (iblk m c 6 t) (iblk m c 7 t) (iblk m c 8 t) (iblk m c 4 t) r
      (h.val * 128) (by omega) d * Ideal.ofBits .f32 0x3E0293EE#32 = GQ m c (ix2 R ⟨h.val * 128 + d.val, by omega⟩) := by
  unfold GQ headRow
  rw [funext fun j => qn_blk m c t j]
  by_cases hs : (grid0.coords t 0).val < 32
  · rw [turn_lat m c t hs r ⟨R.val / 4096, by omega⟩ ⟨R.val % 4096, by omega⟩ (by dsimp only; omega),
      prod_lat m c t hs r ⟨R.val / 4096, by omega⟩ ⟨R.val % 4096, by omega⟩ (by dsimp only; omega),
      Cert.Reference5Ideal.Ref.q_lat _ _ _ _ _ _ _ _ _ R h d ⟨R.val / 4096, by omega⟩ ⟨R.val % 4096, by omega⟩ (by dsimp only; omega)]
  · rw [turn_ctx m c t (by omega) r,
      prod_ctx m c t (by omega) r ⟨(R.val - 16384) / 256, by omega⟩ ⟨(R.val - 16384) % 256, by omega⟩ (by dsimp only; omega),
      Cert.Reference5Ideal.Ref.q_ctx _ _ _ _ _ _ _ _ _ R h d ⟨(R.val - 16384) / 256, by omega⟩ ⟨(R.val - 16384) % 256, by omega⟩ (by dsimp only; omega)]

theorem k_entry (h : Fin 2) (d : Fin 128) :
    headRow (iblk m c 0 t) (iblk m c 1 t) (iblk m c 2 t) (iblk m c 3 t) (iblk m c 6 t) (iblk m c 7 t) (iblk m c 8 t) (iblk m c 5 t) r
      (1024 + h.val * 128) (by omega) d = GK m c (ix2 R ⟨h.val * 128 + d.val, by omega⟩) := by
  unfold GK headRow
  rw [funext fun j => kn_blk m c t j]
  by_cases hs : (grid0.coords t 0).val < 32
  · rw [turn_lat m c t hs r ⟨R.val / 4096, by omega⟩ ⟨R.val % 4096, by omega⟩ (by dsimp only; omega),
      prod_lat m c t hs r ⟨R.val / 4096, by omega⟩ ⟨R.val % 4096, by omega⟩ (by dsimp only; omega),
      Cert.Reference5Ideal.Ref.k_lat _ _ _ _ _ _ _ _ _ R h d ⟨R.val / 4096, by omega⟩ ⟨R.val % 4096, by omega⟩ (by dsimp only; omega)]
  · rw [turn_ctx m c t (by omega) r,
      prod_ctx m c t (by omega) r ⟨(R.val - 16384) / 256, by omega⟩ ⟨(R.val - 16384) % 256, by omega⟩ (by dsimp only; omega),
      Cert.Reference5Ideal.Ref.k_ctx _ _ _ _ _ _ _ _ _ R h d ⟨(R.val - 16384) / 256, by omega⟩ ⟨(R.val - 16384) % 256, by omega⟩ (by dsimp only; omega)]

theorem v_entry (h : Fin 2) (d : Fin 256) :
    (if hd : d.val < 128 then prodRow (iblk m c 0 t) (iblk m c 1 t) (iblk m c 2 t) (iblk m c 3 t) r ⟨1280 + (h.val * 128 + d.val), by omega⟩ else 1)
      = GV m c (ix2 R ⟨h.val * 256 + d.val, by omega⟩) := by
  unfold GV
  by_cases hs : (grid0.coords t 0).val < 32
  · rw [prod_lat m c t hs r ⟨R.val / 4096, by omega⟩ ⟨R.val % 4096, by omega⟩ (by dsimp only; omega),
      Cert.Reference5Ideal.Ref.v_lat _ _ _ _ _ _ R h d ⟨R.val / 4096, by omega⟩ ⟨R.val % 4096, by omega⟩ (by dsimp only; omega)]
  · rw [prod_ctx m c t (by omega) r ⟨(R.val - 16384) / 256, by omega⟩ ⟨(R.val - 16384) % 256, by omega⟩ (by dsimp only; omega),
      Cert.Reference5Ideal.Ref.v_ctx _ _ _ _ _ _ R h d ⟨(R.val - 16384) / 256, by omega⟩ ⟨(R.val - 16384) % 256, by omega⟩ (by dsimp only; omega)]

end entry

theorem q_eq : (Gen.dats m 0 c).arrAt 9 cfg0.N = GQ m c := by
  refine (dats m 0 c).arrAt_eq_of_covers 9 _ (by decide +kernel) fun t hf y => ?_
  rw [after0_9]
  blk_simp
  have b0 : (grid0.coords t 0).val < 34 := (grid0.coords t 0).isLt
  have y0 : (y 0).val < 512 := (y 0).isLt
  have y1 : (y 1).val < 1024 := (y 1).isLt
  have e0 : (((win0_9.blk t).view.emb y) 0).val = (grid0.coords t 0).val * 512 + (y 0).val := by
    blk_simp [(idx t).2.2.2.2.2.2.2.2.2.1]
  have e1 : (((win0_9.blk t).view.emb y) 1).val = (y 1).val := by
    blk_simp [(idx t).2.2.2.2.2.2.2.2.2.1]
  have ey : y = ix2 (⟨(y 0).val, y0⟩ : Fin 512) ⟨(y 1).val / 128 * 128 + (y 1).val % 128, by omega⟩ :=
    (eq_ix2 y).trans (congrArg (ix2 _) (Fin.ext (by show (y 1).val = (y 1).val / 128 * 128 + (y 1).val % 128; omega)))
  refine (congrArg _ ey).trans ((out9_apply _ _ _ _ _ _ _ _ _ ⟨(y 0).val, y0⟩ ⟨(y 1).val / 128, by omega⟩ ⟨(y 1).val % 128, by omega⟩).trans
    ((q_entry m c t _ ⟨(grid0.coords t 0).val * 512 + (y 0).val, by omega⟩ rfl _ _).trans ?_))
  refine congrArg (GQ m c) (funext fun a => Fin.ext ?_)
  match a with
  | 0 => exact e0.symm
  | 1 => exact Eq.trans (by show (y 1).val / 128 * 128 + (y 1).val % 128 = (y 1).val; omega) e1.symm

theorem k_eq : (Gen.dats m 0 c).arrAt 10 cfg0.N = GK m c := by
  refine (dats m 0 c).arrAt_eq_of_covers 10 _ (by decide +kernel) fun t hf y => ?_
  rw [after0_10]
  blk_simp
  have b0 : (grid0.coords t 0).val < 34 := (grid0.coords t 0).isLt
  have y0 : (y 0).val < 512 := (y 0).isLt
  have y1 : (y 1).val < 256 := (y 1).isLt
  have e0 : (((win0_10.blk t).view.emb y) 0).val = (grid0.coords t 0).val * 512 + (y 0).val := by
    blk_simp [(idx t).2.2.2.2.2.2.2.2.2.2.1]
  have e1 : (((win0_10.blk t).view.emb y) 1).val = (y 1).val := by
    blk_simp [(idx t).2.2.2.2.2.2.2.2.2.2.1]
  have ey : y = ix2 (⟨(y 0).val, y0⟩ : Fin 512) ⟨(y 1).val / 128 * 128 + (y 1).val % 128, by omega⟩ :=
    (eq_ix2 y).trans (congrArg (ix2 _) (Fin.ext (by show (y 1).val = (y 1).val / 128 * 128 + (y 1).val % 128; omega)))
  refine (congrArg _ ey).trans ((out10_apply _ _ _ _ _ _ _ _ _ ⟨(y 0).val, y0⟩ ⟨(y 1).val / 128, by omega⟩ ⟨(y 1).val % 128, by omega⟩).trans
    ((k_entry m c t _ ⟨(grid0.coords t 0).val * 512 + (y 0).val, by omega⟩ rfl _ _).trans ?_))
  refine congrArg (GK m c) (funext fun a => Fin.ext ?_)
  match a with
  | 0 => exact e0.symm
  | 1 => exact Eq.trans (by show (y 1).val / 128 * 128 + (y 1).val % 128 = (y 1).val; omega) e1.symm

theorem v_eq : (Gen.dats m 0 c).arrAt 11 cfg0.N = GV m c := by
  refine (dats m 0 c).arrAt_eq_of_covers 11 _ (by decide +kernel) fun t hf y => ?_
  rw [after0_11]
  blk_simp
  have b0 : (grid0.coords t 0).val < 34 := (grid0.coords t 0).isLt
  have y0 : (y 0).val < 512 := (y 0).isLt
  have y1 : (y 1).val < 512 := (y 1).isLt
  have e0 : (((win0_11.blk t).view.emb y) 0).val = (grid0.coords t 0).val * 512 + (y 0).val := by
    blk_simp [(idx t).2.2.2.2.2.2.2.2.2.2.2]
  have e1 : (((win0_11.blk t).view.emb y) 1).val = (y 1).val := by
    blk_simp [(idx t).2.2.2.2.2.2.2.2.2.2.2]
  have ey : y = ix2 (⟨(y 0).val, y0⟩ : Fin 512) ⟨(y 1).val / 256 * 256 + (y 1).val % 256, by omega⟩ :=
    (eq_ix2 y).trans (congrArg (ix2 _) (Fin.ext (by show (y 1).val = (y 1).val / 256 * 256 + (y 1).val % 256; omega)))
  refine (congrArg _ ey).trans ((out11_apply _ _ _ _ _ _ _ _ _ ⟨(y 0).val, y0⟩ ⟨(y 1).val / 256, by omega⟩ ⟨(y 1).val % 256, by omega⟩).trans
    ((v_entry m c t _ ⟨(grid0.coords t 0).val * 512 + (y 0).val, by omega⟩ rfl _ _).trans ?_))
  refine congrArg (GV m c) (funext fun a => Fin.ext ?_)
  match a with
  | 0 => exact e0.symm
  | 1 => exact Eq.trans (by show (y 1).val / 256 * 256 + (y 1).val % 256 = (y 1).val; omega) e1.symm

end Cert.Kernel5Ideal.Arr

end
-- ==== Proof.Proj.lean ====
/- The projection before the attention: the kernel and the reference leave the same queries, keys and values. -/
module

public import proofs.«01_k».proof.Defs
public import proofs.«01_k».proof.Proof.ProjArr
public import proofs.«01_k».proof.Proof.Gen.Reference5Ideal.Run

@[expose] public section

noncomputable section

namespace Cert.Proj

open Idealize.ShloMosaic Idealize.ShloMosaic.TcCoe Idealize.SL.Sem

theorem algebraic : Cert.algebraic_Kernel5Ideal_Reference5Ideal := by
  intro m g m' g' _ ha
  refine ⟨fun c => Kernel5Ideal.Arr.GQ m c, fun c => Kernel5Ideal.Arr.GK m c, fun c => Kernel5Ideal.Arr.GV m c, ?_, ?_⟩
  · exact (θ_run _ _ _).mono (fun r h c => ⟨(h c).1.trans (Kernel5Ideal.Arr.q_eq m c), (h c).2.1.trans (Kernel5Ideal.Arr.k_eq m c),
      (h c).2.2.1.trans (Kernel5Ideal.Arr.v_eq m c), (h c).2.2.2⟩) (Kernel5Ideal.Value.run_blocks m g)
  · refine (θ_run _ _ _).mono (fun r h c => ?_) (Reference5Ideal.Value.run m' g')
    obtain ⟨h0, h1, h2, h3, h4, h5, h6, h7, h8, h9⟩ := ha c
    refine ⟨((h c).1.trans (Reference5Ideal.Read.val_main_v166_eq ..)).trans ?_, ((h c).2.1.trans (Reference5Ideal.Read.val_main_v167_eq ..)).trans ?_,
      ((h c).2.2.1.trans (Reference5Ideal.Read.val_main_v168_eq ..)).trans ?_, (h c).2.2.2⟩
    · clear h
      unfold StableHlo.launchContents
      rw [h0, h1, h2, h3, h4, h5, h6, h8, h9]
      rfl
    · clear h
      unfold StableHlo.launchContents
      rw [h0, h1, h2, h3, h4, h5, h7, h8, h9]
      rfl
    · clear h
      unfold StableHlo.launchContents
      rw [h0, h1, h2, h3, h4, h5]
      rfl

end Cert.Proj

end
-- ==== Proof.Swing.lean ====
/- The entries of a head of the latent attention, of its queries, keys and values, over one token's products; and the rotary
   turn of its 64 rotated entries, with the form in which the row is 128 entries wide, of which the last 64 stay. -/
module

public import proofs.«01_k».proof.Proof.Token

@[expose] public section

noncomputable section

namespace Cert.Latent

open Idealize.ShloMosaic
open Cert.Token

/-- The row with the quarters of each half swapped, the one that comes first negated. -/
def swapped (c : Fin 64 → EReal) (j : Fin 64) : EReal :=
  if h : j.val < 16 then -c ⟨16 + j.val, by omega⟩
  else if j.val < 32 then c ⟨j.val - 16, by omega⟩
  else if h : j.val < 48 then -c ⟨16 + j.val, by omega⟩
  else c ⟨j.val - 16, by omega⟩

theorem swapped_eq (c : Fin 64 → EReal) (j : Fin 64) :
    swapped c j = if h : j.val < 16 then -c ⟨16 + j.val, by omega⟩
      else if h : j.val - 16 < 16 then c ⟨j.val - 16, by omega⟩
      else if h : j.val - 16 - 16 < 16 then -c ⟨48 + (j.val - 16 - 16), by omega⟩
      else c ⟨32 + (j.val - 16 - 16 - 16), by omega⟩ := by
  unfold swapped
  by_cases h0 : j.val < 16
  · rw [dif_pos h0, dif_pos h0]
  rw [dif_neg h0, dif_neg h0]
  by_cases h1 : j.val < 32
  · rw [if_pos h1, dif_pos (by omega)]
  rw [if_neg h1, dif_neg (show ¬j.val - 16 < 16 by omega)]
  by_cases h2 : j.val < 48
  · rw [dif_pos h2, dif_pos (by omega)]
    exact congrArg (fun i => -c i) (Fin.ext (by dsimp only; omega))
  · rw [dif_neg h2, dif_neg (by omega)]
    exact congrArg c (Fin.ext (by dsimp only; omega))

/-- A row turned. -/
def turned (cs sn c : Fin 64 → EReal) (j : Fin 64) : EReal := c j * cs j + swapped c j * sn j

/-- A row of 64 entries with `z` in the 64 after them. -/
def wide (c : Fin 64 → EReal) (z : EReal) (j : Fin 128) : EReal := if h : j.val < 64 then c ⟨j.val, h⟩ else z

/-- A row times the cosines and its two rolled copies times a table each. -/
def rolled (c cs sa sb : Fin 128 → EReal) (j : Fin 128) : EReal :=
  c j * cs j + c ⟨(j.val + 128 - 112) % 128, Nat.mod_lt _ (by decide)⟩ * sa j + c ⟨(j.val + 128 - 16) % 128, Nat.mod_lt _ (by decide)⟩ * sb j

theorem rolled_eq (c : Fin 128 → EReal) (cs sn : Fin 64 → EReal) (j : Fin 128) :
    rolled c (wide cs 1) (fun j => if j.val % 32 < 16 then -wide sn 0 j else 0) (fun j => if j.val % 32 < 16 then 0 else wide sn 0 j) j
      = if h : j.val < 64 then turned cs sn (fun d : Fin 64 => c ⟨d.val, by omega⟩) ⟨j.val, h⟩ else c j := by
  have hj := j.isLt
  unfold rolled
  beta_reduce
  by_cases hw : j.val < 64
  · have e (f : Fin 64 → EReal) (z : EReal) : wide f z j = f ⟨j.val, hw⟩ := dif_pos hw
    rw [dif_pos hw, e, e]
    unfold turned swapped
    dsimp only
    have hp : (⟨(j.val + 128 - 112) % 128, Nat.mod_lt _ (by decide)⟩ : Fin 128) = ⟨16 + j.val, by omega⟩ :=
      Fin.ext (by show (j.val + 128 - 112) % 128 = 16 + j.val; omega)
    have hm (h : 16 ≤ j.val) : (⟨(j.val + 128 - 16) % 128, Nat.mod_lt _ (by decide)⟩ : Fin 128) = ⟨j.val - 16, by omega⟩ :=
      Fin.ext (by show (j.val + 128 - 16) % 128 = j.val - 16; omega)
    by_cases h : j.val % 32 < 16
    · rw [if_pos h, if_pos h, hp, mul_zero, add_zero, mul_neg, ← neg_mul]
      by_cases h0 : j.val < 16
      · rw [dif_pos h0]
      · rw [dif_neg h0, if_neg (by omega), dif_pos (by omega)]
    · rw [if_neg h, if_neg h, hm (by omega), mul_zero, add_zero, dif_neg (by omega)]
      by_cases h1 : j.val < 32
      · rw [if_pos h1]
      · rw [if_neg h1, dif_neg (by omega)]
  · have e (f : Fin 64 → EReal) (z : EReal) : wide f z j = z := dif_neg hw
    rw [dif_neg hw, e, e, neg_zero, ite_self, mul_one, mul_zero, mul_zero, add_zero, add_zero]

theorem rolled_one (c : Fin 128 → EReal) : rolled c (fun _ => 1) (fun _ => 0) (fun _ => 0) = c := by
  funext j
  simp only [rolled, mul_one, mul_zero, add_zero]

/-- The queries' product: the first 384 entries of the token's row, normed, times the weights. -/
def queries (A : Fin 704 → EReal) (g : Fin 384 → EReal) (w : Fin 384 → Fin 1536 → EReal) : Fin 1536 → EReal :=
  times (normed (Ideal.ofBits .f32 0x43C00000#32) (fun k : Fin 384 => A ⟨k.val, by omega⟩) g) w

/-- The keys' and values' product: the next 256 entries, normed, times the weights. -/
def pairs (A : Fin 704 → EReal) (g : Fin 256 → EReal) (w : Fin 256 → Fin 2048 → EReal) : Fin 2048 → EReal :=
  times (normed (Ideal.ofBits .f32 0x43800000#32) (fun k : Fin 256 => A ⟨384 + k.val, by omega⟩) g) w

/-- The last 64 entries, which every head's key has. -/
def common (A : Fin 704 → EReal) : Fin 64 → EReal := fun d => A ⟨640 + d.val, by omega⟩

/-- Entry `e` of head `h`'s query: 128 entries, 64 turned ones, 64 zeros, scaled. -/
def query (Q : Fin 1536 → EReal) (T : (Fin 64 → EReal) → Fin 64 → EReal) (h : Fin 8) (e : Fin 256) : EReal :=
  (if h1 : e.val < 128 then Q ⟨h.val * 192 + e.val, by omega⟩
    else if h2 : e.val - 128 < 64 then T (fun d : Fin 64 => Q ⟨h.val * 192 + (128 + d.val), by omega⟩) ⟨e.val - 128, h2⟩
    else 0) * Ideal.ofBits .f32 0x3DD53B95#32

/-- Entry `e` of head `h`'s key. -/
def key (K : Fin 2048 → EReal) (R : Fin 64 → EReal) (T : (Fin 64 → EReal) → Fin 64 → EReal) (h : Fin 8) (e : Fin 256) : EReal :=
  if h1 : e.val < 128 then K ⟨h.val * 256 + e.val, by omega⟩
    else if h2 : e.val - 128 < 64 then T R ⟨e.val - 128, h2⟩
    else 0

/-- Entry `e` of head `h`'s value: 128 entries and 128 ones. -/
def value (K : Fin 2048 → EReal) (h : Fin 8) (e : Fin 256) : EReal :=
  if h1 : e.val < 128 then K ⟨h.val * 256 + (128 + e.val), by omega⟩ else 1

end Cert.Latent

end
-- ==== Proof.LatBlock.lean ====
/- What one grid step of the projection before the latent attention leaves in its output blocks, row by row. -/
module

public import proofs.«01_k».proof.Proof.Gen.Kernel6Ideal.Value
public import proofs.«01_k».proof.Proof.Swing
public import Idealize.ShloMosaic.Lib.Pointwise
public import Idealize.ShloMosaic.Lib.Pipeline.ValueKit.Tiles

@[expose] public section

set_option maxRecDepth 16384

noncomputable section

namespace Cert.Kernel6Ideal.Blk

open Cert.Kernel6Ideal Cert.Kernel6Ideal.Gen Idealize.ShloMosaic Idealize.ShloMosaic.TcCoe Idealize.SL.Sem
open Idealize.ShloMosaic.Tactic
open Cert.Token Cert.Latent

/-- 128 columns of a product from `o` on. -/
def part (o : ℕ) (h : S512x2048.Slices ![0, o] S512x128) (Y : FVec Ideal S512x2048 .f32) : FVec Ideal S512x128 .bf16 :=
  truncf .bf16 (extractStridedSlice S512x128 ![0, o] Y h) bitsLt_bf16_f32

/-- The same, scaled. -/
def qNope (o : ℕ) (h : S512x2048.Slices ![0, o] S512x128) (Y : FVec Ideal S512x2048 .f32) : FVec Ideal S512x128 .bf16 :=
  truncf .bf16 (mulf (extractStridedSlice S512x128 ![0, o] Y h) (broadcast S512x128 (Scalar.ofBits (F := Ideal) .f32 0x3DD53B95#32))) bitsLt_bf16_f32

/-- Rows turned, by the cosines and the two tables of sines. -/
def turn (c C A B : FVec Ideal S512x128 .f32) : FVec Ideal S512x128 .f32 :=
  addf (addf (mulf c C) (mulf (dynamicRotate 1 112#32 none c rotates_S512x128_d1) A)) (mulf (dynamicRotate 1 16#32 none c rotates_S512x128_d1) B)

/-- 128 columns of a product from `o` on, turned and scaled. -/
def qTurn (o : ℕ) (h : S512x2048.Slices ![0, o] S512x128) (Y : FVec Ideal S512x2048 .f32) (C A B : FVec Ideal S512x128 .f32) : FVec Ideal S512x128 .bf16 :=
  truncf .bf16 (mulf (turn (extractStridedSlice S512x128 ![0, o] Y h) C A B) (broadcast S512x128 (Scalar.ofBits (F := Ideal) .f32 0x3DD53B95#32)))
    bitsLt_bf16_f32

/-- The block of queries at head `h` and entry `e`. -/
def qOut (Q : Fin 2048 → EReal) (C A B : Fin 128 → EReal) (h : Fin 8) (e : Fin 256) : EReal :=
  (if he : e.val < 128 then Q ⟨h.val * 256 + e.val, by omega⟩
    else rolled (fun d : Fin 128 => Q ⟨h.val * 256 + 128 + d.val, by omega⟩) C A B ⟨e.val - 128, by omega⟩) * Ideal.ofBits .f32 0x3DD53B95#32

/-- The block of keys. -/
def kOut (P : Fin 768 → EReal) (K : Fin 2048 → EReal) (C A B : Fin 128 → EReal) (h : Fin 8) (e : Fin 256) : EReal :=
  if he : e.val < 128 then K ⟨h.val * 128 + e.val, by omega⟩
    else rolled (fun d : Fin 128 => P ⟨640 + d.val, by omega⟩) C A B ⟨e.val - 128, by omega⟩

/-- The block of values. -/
def vOut (K : Fin 2048 → EReal) (h : Fin 8) (e : Fin 256) : EReal :=
  if he : e.val < 128 then K ⟨1024 + (h.val * 128 + e.val), by omega⟩ else 1

section
open Idealize.ShloMosaic.Pointwise

theorem part_apply (o : ℕ) (hs : S512x2048.Slices ![0, o] S512x128) (ho : o + 128 ≤ 2048) (Y : FVec Ideal S512x2048 .f32) (r : Fin 512) (d : Fin 128) :
    part o hs Y (ix2 r d) = Y (ix2 r ⟨o + d.val, by omega⟩) := by
  unfold part
  pointwise []

theorem nope_apply (o : ℕ) (hs : S512x2048.Slices ![0, o] S512x128) (ho : o + 128 ≤ 2048) (Y : FVec Ideal S512x2048 .f32) (r : Fin 512) (d : Fin 128) :
    qNope o hs Y (ix2 r d) = Y (ix2 r ⟨o + d.val, by omega⟩) * Ideal.ofBits .f32 0x3DD53B95#32 := by
  unfold qNope
  pointwise []

theorem turn_apply (c C A B : FVec Ideal S512x128 .f32) (r : Fin 512) (j : Fin 128) :
    turn c C A B (ix2 r j) = rolled (fun j => c (ix2 r j)) (fun j => C (ix2 r j)) (fun j => A (ix2 r j)) (fun j => B (ix2 r j)) j := by
  unfold turn rolled
  pointwise []

theorem slice_apply (o : ℕ) (hs : S512x2048.Slices ![0, o] S512x128) (ho : o + 128 ≤ 2048) (Y : FVec Ideal S512x2048 .f32) (r : Fin 512) (d : Fin 128) :
    extractStridedSlice S512x128 ![0, o] Y hs (ix2 r d) = Y (ix2 r ⟨o + d.val, by omega⟩) := by
  pointwise []

theorem down_apply (x : Vec Ideal S512x1024 .f32) (n : Vec Ideal S1x1024 .f32) (sc sh : Vec Ideal S1x1x1x1024 .f32) (w : Vec Ideal S1024x768 .bf16)
    (r : Fin 512) (j : Fin 768) :
    k0_pay4 (F := Ideal) x n sc sh w (ix2 r j)
      = times (modulated (normed (Ideal.ofBits .f32 0x44800000#32) (fun k => x (ix2 r k)) (fun k => n (ix2 0 k))) (fun k => sh (ix4 0 0 0 k))
          (fun k => sc (ix4 0 0 0 k))) (fun k j => w (ix2 k j)) j := by
  unfold times modulated normed k0_pay4
  pointwise []

theorem up_apply (x : Vec Ideal S512x1024 .f32) (n : Vec Ideal S1x1024 .f32) (sc sh : Vec Ideal S1x1x1x1024 .f32) (w : Vec Ideal S1024x768 .bf16)
    (g : Vec Ideal S1x384 .f32) (u : Vec Ideal S384x2048 .bf16) (r : Fin 512) (j : Fin 2048) :
    k0_pay15 (F := Ideal) (k0_pay8 (k0_pay5 x n sc sh w) (k0_pay6 g) (k0_pay7 x n sc sh w) (Scalar.ofBits .f32 0x43C00000#32)) (k0_pay14 u)
        (constant S512x2048 .f32 0x00000000#32) (ix2 r j)
      = times (normed (Ideal.ofBits .f32 0x43C00000#32) (fun k : Fin 384 => k0_pay4 (F := Ideal) x n sc sh w (ix2 r ⟨k.val, by omega⟩)) (fun k => g (ix2 0 k)))
          (fun k j => u (ix2 k j)) j := by
  unfold k0_pay15 k0_pay14 k0_pay8 k0_pay7 k0_pay6 k0_pay5
  generalize k0_pay4 (F := Ideal) x n sc sh w = P
  unfold times normed
  pointwise []

theorem pair_apply (P : FVec Ideal S512x768 .f32) (g : Vec Ideal S1x256 .f32) (u : Vec Ideal S256x2048 .bf16) (r : Fin 512) (j : Fin 2048) :
    k0_pay16 (F := Ideal) (k0_pay9 P g) u (ix2 r j)
      = times (normed (Ideal.ofBits .f32 0x43800000#32) (fun k : Fin 256 => P (ix2 r ⟨384 + k.val, by omega⟩)) (fun k => g (ix2 0 k)))
          (fun k j => u (ix2 k j)) j := by
  unfold times normed k0_pay16 k0_pay9
  pointwise []

theorem same_apply (v : Vec Ideal S512x128 .f32) : k0_pay10 v = v ∧ k0_pay11 v = v ∧ k0_pay12 v = v := by
  refine ⟨?_, ?_, ?_⟩
  all_goals
    funext i
    pointwise [k0_pay10, k0_pay11, k0_pay12]

theorem common_apply (P : FVec Ideal S512x768 .f32) (C A B : Vec Ideal S512x128 .f32) (r : Fin 512) (j : Fin 128) :
    k0_pay13 (F := Ideal) P C A B (ix2 r j)
      = rolled (fun d : Fin 128 => P (ix2 r ⟨640 + d.val, by omega⟩)) (fun j => C (ix2 r j)) (fun j => A (ix2 r j)) (fun j => B (ix2 r j)) j := by
  unfold k0_pay13
  rw [(same_apply C).1, (same_apply A).2.1, (same_apply B).2.2]
  unfold rolled
  pointwise []

theorem ones_apply (i : S512x128.Idx) : k0_pay17 (F := Ideal) i = 1 := by
  pointwise [k0_pay17]

end

theorem ix_eq (x : S512x128.Idx) (r : Fin 512) (hr : r.val = (x 0).val) : x = ix2 r (x 1) := by
  rw [← (Fin.ext hr.symm : x 0 = r)]
  exact eq_ix2 x

section pieces

variable (o : ℕ) (hs : S512x2048.Slices ![0, o] S512x128) (Y : FVec Ideal S512x2048 .f32) (P : FVec Ideal S512x768 .f32) (C A B : FVec Ideal S512x128 .f32)
  (x : S512x128.Idx) (r : Fin 512) (h : Fin 8) (e : Fin 256) (hr : r.val = (x 0).val)

include hr

theorem nope_piece (ho : o = h.val * 256) (he : e.val = (x 1).val) :
    qNope o hs Y x = qOut (fun j => Y (ix2 r j)) (fun j => C (ix2 r j)) (fun j => A (ix2 r j)) (fun j => B (ix2 r j)) h e := by
  have b1 : (x 1).val < 128 := (x 1).isLt
  subst ho
  unfold qOut
  rw [dif_pos (by omega)]
  refine (congrArg _ (ix_eq x r hr)).trans ((nope_apply _ hs (by omega) Y r (x 1)).trans ?_)
  exact congrArg (fun i => Y (ix2 r i) * _) (Fin.ext (by dsimp only; omega))

theorem turn_piece (ho : o = h.val * 256 + 128) (he : e.val = 128 + (x 1).val) :
    qTurn o hs Y C A B x = qOut (fun j => Y (ix2 r j)) (fun j => C (ix2 r j)) (fun j => A (ix2 r j)) (fun j => B (ix2 r j)) h e := by
  have b1 : (x 1).val < 128 := (x 1).isLt
  subst ho
  unfold qOut
  rw [dif_neg (by omega)]
  refine (congrArg _ (ix_eq x r hr)).trans ?_
  show turn (extractStridedSlice S512x128 ![0, h.val * 256 + 128] Y hs) C A B (ix2 r (x 1)) * _ = _
  refine (congrArg (fun i => i * _) (turn_apply _ C A B r (x 1))).trans ?_
  rw [funext fun j => slice_apply _ hs (by omega) Y r j]
  exact congrArg (fun i => rolled _ _ _ _ i * _) (Fin.ext (by show (x 1).val = e.val - 128; omega))

theorem key_piece (ho : o = h.val * 128) (he : e.val = (x 1).val) :
    part o hs Y x = kOut (fun j => P (ix2 r j)) (fun j => Y (ix2 r j)) (fun j => C (ix2 r j)) (fun j => A (ix2 r j)) (fun j => B (ix2 r j)) h e := by
  have b1 : (x 1).val < 128 := (x 1).isLt
  subst ho
  unfold kOut
  rw [dif_pos (by omega)]
  refine (congrArg _ (ix_eq x r hr)).trans ((part_apply _ hs (by omega) Y r (x 1)).trans ?_)
  exact congrArg (fun i => Y (ix2 r i)) (Fin.ext (by dsimp only; omega))

theorem common_piece (he : e.val = 128 + (x 1).val) :
    k0_pay13 (F := Ideal) P C A B x
      = kOut (fun j => P (ix2 r j)) (fun j => Y (ix2 r j)) (fun j => C (ix2 r j)) (fun j => A (ix2 r j)) (fun j => B (ix2 r j)) h e := by
  have b1 : (x 1).val < 128 := (x 1).isLt
  unfold kOut
  rw [dif_neg (by omega)]
  refine (congrArg _ (ix_eq x r hr)).trans ((common_apply P C A B r (x 1)).trans ?_)
  exact congrArg (fun i => rolled _ _ _ _ i) (Fin.ext (by show (x 1).val = e.val - 128; omega))

theorem value_piece (ho : o = 1024 + h.val * 128) (he : e.val = (x 1).val) :
    part o hs Y x = vOut (fun j => Y (ix2 r j)) h e := by
  have b1 : (x 1).val < 128 := (x 1).isLt
  subst ho
  unfold vOut
  rw [dif_pos (by omega)]
  refine (congrArg _ (ix_eq x r hr)).trans ((part_apply _ hs (by omega) Y r (x 1)).trans ?_)
  exact congrArg (fun i => Y (ix2 r i)) (Fin.ext (by dsimp only; omega))

omit hr in
theorem ones_piece (he : e.val = 128 + (x 1).val) : k0_pay17 (F := Ideal) x = vOut (fun j => Y (ix2 r j)) h e := by
  unfold vOut
  rw [dif_neg (by omega)]
  exact ones_apply x

end pieces

section pays

variable (Y : FVec Ideal S512x2048 .f32) (C A B : FVec Ideal S512x128 .f32) (a : FVec Ideal S512x384 .bf16) (w : FVec Ideal S384x2048 .bf16)
  (z : FVec Ideal S512x2048 .f32) (b : FVec Ideal S512x256 .bf16) (v : Vec Ideal S256x2048 .bf16)

theorem n0 : k0_pay18 (F := Ideal) a w z = qNope 0 slices_S512x2048_o0_0_S512x128 (k0_pay15 a w z) := rfl
theorem n256 : k0_pay23 (F := Ideal) (k0_pay22 a w z) = qNope 256 slices_S512x2048_o0_256_S512x128 (k0_pay15 a w z) := rfl
theorem n512 : k0_pay27 (F := Ideal) Y = qNope 512 slices_S512x2048_o0_512_S512x128 Y := rfl
theorem n768 : k0_pay34 (F := Ideal) Y = qNope 768 slices_S512x2048_o0_768_S512x128 Y := rfl
theorem n1024 : k0_pay38 (F := Ideal) Y = qNope 1024 slices_S512x2048_o0_1024_S512x128 Y := rfl
theorem n1280 : k0_pay42 (F := Ideal) Y = qNope 1280 slices_S512x2048_o0_1280_S512x128 Y := rfl
theorem n1536 : k0_pay46 (F := Ideal) Y = qNope 1536 slices_S512x2048_o0_1536_S512x128 Y := rfl
theorem n1792 : k0_pay50 (F := Ideal) Y = qNope 1792 slices_S512x2048_o0_1792_S512x128 Y := rfl
theorem t128 : k0_pay19 (F := Ideal) a C A B w z = qTurn 128 slices_S512x2048_o0_128_S512x128 (k0_pay15 a w z) C A B := rfl
theorem t384 : k0_pay24 (F := Ideal) C A B Y = qTurn 384 slices_S512x2048_o0_384_S512x128 Y C A B := rfl
theorem t640 : k0_pay31 (F := Ideal) B (k0_pay29 C A Y) (k0_pay30 Y) = qTurn 640 slices_S512x2048_o0_640_S512x128 Y C A B := rfl
theorem t896 : k0_pay35 (F := Ideal) C A B Y = qTurn 896 slices_S512x2048_o0_896_S512x128 Y C A B := rfl
theorem t1152 : k0_pay39 (F := Ideal) C A B Y = qTurn 1152 slices_S512x2048_o0_1152_S512x128 Y C A B := rfl
theorem t1408 : k0_pay43 (F := Ideal) C A B Y = qTurn 1408 slices_S512x2048_o0_1408_S512x128 Y C A B := rfl
theorem t1664 : k0_pay47 (F := Ideal) C A B Y = qTurn 1664 slices_S512x2048_o0_1664_S512x128 Y C A B := rfl
theorem t1920 : k0_pay1 (F := Ideal) (k0_pay51 C A B Y) = qTurn 1920 slices_S512x2048_o0_1920_S512x128 Y C A B := rfl
theorem p0 : k0_pay20 (F := Ideal) b v = part 0 slices_S512x2048_o0_0_S512x128 (k0_pay16 b v) := rfl
theorem p1024 : k0_pay21 (F := Ideal) b v = part 1024 slices_S512x2048_o0_1024_S512x128 (k0_pay16 b v) := rfl
theorem p128 : k0_pay25 (F := Ideal) Y = part 128 slices_S512x2048_o0_128_S512x128 Y := rfl
theorem p1152 : k0_pay26 (F := Ideal) Y = part 1152 slices_S512x2048_o0_1152_S512x128 Y := rfl
theorem p256 : k0_pay32 (F := Ideal) Y = part 256 slices_S512x2048_o0_256_S512x128 Y := rfl
theorem p1280 : k0_pay33 (F := Ideal) Y = part 1280 slices_S512x2048_o0_1280_S512x128 Y := rfl
theorem p384 : k0_pay36 (F := Ideal) Y = part 384 slices_S512x2048_o0_384_S512x128 Y := rfl
theorem p1408 : k0_pay37 (F := Ideal) Y = part 1408 slices_S512x2048_o0_1408_S512x128 Y := rfl
theorem p512 : k0_pay40 (F := Ideal) Y = part 512 slices_S512x2048_o0_512_S512x128 Y := rfl
theorem p1536 : k0_pay41 (F := Ideal) Y = part 1536 slices_S512x2048_o0_1536_S512x128 Y := rfl
theorem p640 : k0_pay44 (F := Ideal) Y = part 640 slices_S512x2048_o0_640_S512x128 Y := rfl
theorem p1664 : k0_pay45 (F := Ideal) Y = part 1664 slices_S512x2048_o0_1664_S512x128 Y := rfl
theorem p768 : k0_pay48 (F := Ideal) Y = part 768 slices_S512x2048_o0_768_S512x128 Y := rfl
theorem p1792 : k0_pay49 (F := Ideal) Y = part 1792 slices_S512x2048_o0_1792_S512x128 Y := rfl
theorem p896 : k0_pay2 (F := Ideal) Y = part 896 slices_S512x2048_o0_896_S512x128 Y := rfl
theorem p1920 : k0_pay3 (F := Ideal) Y = part 1920 slices_S512x2048_o0_1920_S512x128 Y := rfl

end pays

variable (x0 : Vec Ideal S512x1024 .f32) (x1 : Vec Ideal S1x1024 .f32) (x2 : Vec Ideal S1x6x1x1024 .f32) (x3 : Vec Ideal S1024x768 .bf16)
  (x4 : Vec Ideal S1x384 .f32) (x5 : Vec Ideal S384x2048 .bf16) (x6 : Vec Ideal S1x256 .f32) (x7 : Vec Ideal S256x2048 .bf16)
  (x8 x9 x10 : Vec Ideal S512x128 .f32)

/-- Row `r` of the product of the normed and modulated rows with the weights. -/
def prodRow (r : Fin 512) : Fin 768 → EReal :=
  times (modulated (normed (Ideal.ofBits .f32 0x44800000#32) (fun k => x0 (ix2 r k)) (fun k => x1 (ix2 0 k))) (fun k => x2 (ix4 0 0 0 k))
    (fun k => x2 (ix4 0 1 0 k))) (fun k j => x3 (ix2 k j))

/-- Row `r` of the queries' product. -/
def qRow (r : Fin 512) : Fin 2048 → EReal :=
  times (normed (Ideal.ofBits .f32 0x43C00000#32) (fun k : Fin 384 => prodRow x0 x1 x2 x3 r ⟨k.val, by omega⟩) (fun k => x4 (ix2 0 k))) (fun k j => x5 (ix2 k j))

/-- Row `r` of the keys' and values' product. -/
def kvRow (r : Fin 512) : Fin 2048 → EReal :=
  times (normed (Ideal.ofBits .f32 0x43800000#32) (fun k : Fin 256 => prodRow x0 x1 x2 x3 r ⟨384 + k.val, by omega⟩) (fun k => x6 (ix2 0 k)))
    (fun k j => x7 (ix2 k j))

theorem mod_ld (n : ℕ) (hn : n < 6) (h : ∀ a, (![0, n, 0, 0] : Fin 4 → ℕ) a + (![1, 1, 1, 1024] : Fin 4 → ℕ) a ≤ S1x6x1x1024.size a) (j : Fin 1024) :
    View.ld x2 (Rect.unit ![0, n, 0, 0] ![1, 1, 1, 1024] h) (ix4 0 0 0 j) = x2 (ix4 0 ⟨n, hn⟩ 0 j) := by
  refine congrArg x2 (funext fun a => Fin.ext ?_)
  match a with
  | 0 => rfl
  | 1 => rfl
  | 2 => rfl
  | 3 => show 0 + 1 * j.val = j.val; omega

theorem down_row (r : Fin 512) (j : Fin 768) : k0_pay4 (F := Ideal) x0 x1 (View.ld x2 r0_2) (View.ld x2 r0_3) x3 (ix2 r j) = prodRow x0 x1 x2 x3 r j := by
  rw [down_apply]
  have e0 : (fun k => View.ld x2 r0_3 (ix4 0 0 0 k)) = fun k => x2 (ix4 0 0 0 k) := funext fun k => mod_ld x2 0 (by decide) _ k
  have e1 : (fun k => View.ld x2 r0_2 (ix4 0 0 0 k)) = fun k => x2 (ix4 0 1 0 k) := funext fun k => mod_ld x2 1 (by decide) _ k
  rw [e0, e1]
  rfl

theorem prod_row (r : Fin 512) : (fun j => k0_pay52 (F := Ideal) x0 x1 x2 x3 x4 x5 x6 x7 x8 x9 x10 (ix2 r j)) = prodRow x0 x1 x2 x3 r := by
  funext j
  unfold k0_pay52
  simp (disch := decide) only [View.ld_unit_lit']
  exact down_row x0 x1 x2 x3 r j

theorem q_row (r : Fin 512) : (fun j => k0_pay61 (F := Ideal) x0 x1 x2 x3 x4 x5 x6 x7 x8 x9 x10 (ix2 r j)) = qRow x0 x1 x2 x3 x4 x5 r := by
  funext j
  unfold k0_pay61 k0_pay60 k0_pay54 k0_pay53
  simp (disch := decide) only [View.ld_unit_lit']
  rw [up_apply, funext fun k : Fin 384 => down_row x0 x1 x2 x3 r ⟨k.val, by omega⟩]
  rfl

theorem kv_row (r : Fin 512) : (fun j => k0_pay62 (F := Ideal) x0 x1 x2 x3 x4 x5 x6 x7 x8 x9 x10 (ix2 r j)) = kvRow x0 x1 x2 x3 x6 x7 r := by
  funext j
  unfold k0_pay62 k0_pay55 k0_pay52
  simp (disch := decide) only [View.ld_unit_lit']
  rw [pair_apply, funext fun k : Fin 256 => down_row x0 x1 x2 x3 r ⟨384 + k.val, by omega⟩]
  rfl

theorem tables : k0_pay56 (F := Ideal) x0 x1 x2 x3 x4 x5 x6 x7 x8 x9 x10 = x8 ∧ k0_pay57 (F := Ideal) x0 x1 x2 x3 x4 x5 x6 x7 x8 x9 x10 = x9 ∧ k0_pay58 (F := Ideal) x0 x1 x2 x3 x4 x5 x6 x7 x8 x9 x10 = x10 := by
  unfold k0_pay56 k0_pay57 k0_pay58
  simp (disch := decide) only [View.ld_unit_lit', (same_apply _).1, (same_apply _).2.1, (same_apply _).2.2, and_self]

theorem q_fold : k0_pay15 (F := Ideal) (k0_pay54 x0 x1 x2 x3 x4 x5 x6 x7 x8 x9 x10) (k0_pay60 x0 x1 x2 x3 x4 x5 x6 x7 x8 x9 x10) (k0_pay53 x0 x1 x2 x3 x4 x5 x6 x7 x8 x9 x10) = k0_pay61 x0 x1 x2 x3 x4 x5 x6 x7 x8 x9 x10 := rfl

theorem kv_fold : k0_pay16 (F := Ideal) (k0_pay55 x0 x1 x2 x3 x4 x5 x6 x7 x8 x9 x10) x7 = k0_pay62 x0 x1 x2 x3 x4 x5 x6 x7 x8 x9 x10 := by
  unfold k0_pay62
  simp (disch := decide) only [View.ld_unit_lit']

theorem common_fold : k0_pay59 (F := Ideal) x0 x1 x2 x3 x4 x5 x6 x7 x8 x9 x10 = k0_pay13 (k0_pay52 x0 x1 x2 x3 x4 x5 x6 x7 x8 x9 x10) x8 x9 x10 := by
  unfold k0_pay59
  simp (disch := decide) only [View.ld_unit_lit']

theorem ones_fold : k0_pay63 (F := Ideal) x0 x1 x2 x3 x4 x5 x6 x7 x8 x9 x10 = k0_pay17 := rfl

set_option maxHeartbeats 4000000 in
theorem out11_apply (r : Fin 512) (h : Fin 8) (e : Fin 256) :
    out0_11 x0 x1 x2 x3 x4 x5 x6 x7 x8 x9 x10 (ix2 r ⟨h.val * 256 + e.val, by omega⟩)
      = qOut (qRow x0 x1 x2 x3 x4 x5 r) (fun j => x8 (ix2 r j)) (fun j => x9 (ix2 r j)) (fun j => x10 (ix2 r j)) h e := by
  rw [← q_row x0 x1 x2 x3 x4 x5 x6 x7 x8 x9 x10 r]
  unfold out0_11
  simp only [n0, n256, n512, n768, n1024, n1280, n1536, n1792, t128, t384, t640, t896, t1152, t1408, t1664, t1920, q_fold, (tables x0 x1 x2 x3 x4 x5 x6 x7 x8 x9 x10).1, (tables x0 x1 x2 x3 x4 x5 x6 x7 x8 x9 x10).2.1, (tables x0 x1 x2 x3 x4 x5 x6 x7 x8 x9 x10).2.2]
  generalize k0_pay61 x0 x1 x2 x3 x4 x5 x6 x7 x8 x9 x10 = Y
  canon_tiles x hh
  all_goals
    have a0 : r.val = (x 0).val := hh0
    have a1 : h.val * 256 + e.val = _ := hh1
    have b1 : (x 1).val < 128 := (x 1).isLt
    first
      | exact nope_piece _ _ Y x8 x9 x10 x r h e a0 (by omega) (by omega)
      | exact turn_piece _ _ Y x8 x9 x10 x r h e a0 (by omega) (by omega)

set_option maxHeartbeats 4000000 in
theorem out12_apply (r : Fin 512) (h : Fin 8) (e : Fin 256) :
    out0_12 x0 x1 x2 x3 x4 x5 x6 x7 x8 x9 x10 (ix2 r ⟨h.val * 256 + e.val, by omega⟩)
      = kOut (prodRow x0 x1 x2 x3 r) (kvRow x0 x1 x2 x3 x6 x7 r) (fun j => x8 (ix2 r j)) (fun j => x9 (ix2 r j)) (fun j => x10 (ix2 r j)) h e := by
  rw [← kv_row x0 x1 x2 x3 x4 x5 x6 x7 x8 x9 x10 r, ← prod_row x0 x1 x2 x3 x4 x5 x6 x7 x8 x9 x10 r]
  unfold out0_12
  simp (disch := decide) only [View.ld_unit_lit', p0, p128, p256, p384, p512, p640, p768, p896, kv_fold, common_fold]
  generalize k0_pay62 x0 x1 x2 x3 x4 x5 x6 x7 x8 x9 x10 = Y
  generalize k0_pay52 x0 x1 x2 x3 x4 x5 x6 x7 x8 x9 x10 = P
  canon_tiles x hh
  all_goals
    have a0 : r.val = (x 0).val := hh0
    have a1 : h.val * 256 + e.val = _ := hh1
    have b1 : (x 1).val < 128 := (x 1).isLt
    first
      | exact key_piece _ _ Y P x8 x9 x10 x r h e a0 (by omega) (by omega)
      | exact common_piece Y P x8 x9 x10 x r h e a0 (by omega)

set_option maxHeartbeats 4000000 in
theorem out13_apply (r : Fin 512) (h : Fin 8) (e : Fin 256) :
    out0_13 x0 x1 x2 x3 x4 x5 x6 x7 x8 x9 x10 (ix2 r ⟨h.val * 256 + e.val, by omega⟩) = vOut (kvRow x0 x1 x2 x3 x6 x7 r) h e := by
  rw [← kv_row x0 x1 x2 x3 x4 x5 x6 x7 x8 x9 x10 r]
  unfold out0_13
  simp (disch := decide) only [View.ld_unit_lit', p1024, p1152, p1280, p1408, p1536, p1664, p1792, p1920, kv_fold, ones_fold]
  generalize k0_pay62 x0 x1 x2 x3 x4 x5 x6 x7 x8 x9 x10 = Y
  canon_tiles x hh
  all_goals
    have a0 : r.val = (x 0).val := hh0
    have a1 : h.val * 256 + e.val = _ := hh1
    have b1 : (x 1).val < 128 := (x 1).isLt
    first
      | exact value_piece _ _ Y x r h e a0 (by omega) (by omega)
      | exact ones_piece Y x r h e (by omega)

end Cert.Kernel6Ideal.Blk

end
-- ==== Proof.LatHost.lean ====
/- The matrices that the launch of the projection before the latent attention is given, at an entry, over the arguments: the
   weights with columns of zeros, the halves of the heads' columns set apart, and the tables of the rotary turn 128 wide, which
   turn nothing in the last 64 columns and in the 512 rows below. -/
module

public import proofs.«01_k».proof.Proof.Gen.Kernel6Ideal.Value
public import proofs.«01_k».proof.Proof.ProjHost
public import proofs.«01_k».proof.Proof.Swing

@[expose] public section

set_option maxRecDepth 16384

noncomputable section

namespace Cert.Kernel6Ideal.Host

open Cert.Kernel6Ideal Cert.Kernel6Ideal.Gen Idealize.ShloMosaic Idealize.ShloMosaic.TcCoe Idealize.SL.Sem
open Idealize.ShloMosaic.Tactic
open Idealize.ShloMosaic.Pointwise
open Cert.Latent
open Cert.Kernel3Ideal.Host (rows rows_apply table table_lat table_ctx)
open Cert.Kernel5Ideal.Host (zero_word one_word)

variable (m : (ℓ : Loc nD τ sig) → Buf (Elt Ideal) ℓ) (c : Dev nD)

theorem x_eq : V m c main_v2 = rows (m ((c : Thread nD τ).loc main_arg0)) (m ((c : Thread nD τ).loc main_arg1)) := by
  unfold V
  after_reads_simp
  rfl

theorem mod_eq : V m c main_v17
    = shapeCast S8x6x1x1024 (table (m ((c : Thread nD τ).loc main_arg2)) (m ((c : Thread nD τ).loc main_arg3))) shapeCasts_S8x6144_S8x6x1x1024 := by
  unfold V
  after_reads_simp
  funext i
  refine congrArg (fun T => shapeCast S8x6x1x1024 T shapeCasts_S8x6144_S8x6x1x1024 i) ?_
  rfl

theorem mod_apply (r : Fin 8) (n : Fin 6) (j : Fin 1024) : V m c main_v17 (ix4 r n 0 j)
    = table (m ((c : Thread nD τ).loc main_arg2)) (m ((c : Thread nD τ).loc main_arg3)) (ix2 r ⟨n.val * 1024 + j.val, by omega⟩) := by
  rw [mod_eq]
  generalize table _ _ = T
  pointwise []

/-- The weights with 64 columns of zeros. -/
def downs (w : Vec Ideal S1024x704 .f32) : Vec Ideal S1024x768 .f32 :=
  concatenate S1024x768 1 [⟨S1024x704, w⟩, ⟨S1024x64, broadcastInDim S1024x64 ![] bcast_S_S1024x64 (constant (F := Ideal) S_ .f32 0x00000000#32)⟩]
    concatenates_S1024x704_S1024x64_S1024x768_d1

theorem downs_apply (w : Vec Ideal S1024x704 .f32) (k : Fin 1024) (j : Fin 768) :
    downs w (ix2 k j) = if h : j.val < 704 then w (ix2 k ⟨j.val, h⟩) else 0 := by
  pointwise [downs]

theorem down_eq : V m c main_v11 = downs (m ((c : Thread nD τ).loc main_arg5)) := by
  unfold V
  after_reads_simp
  rfl

/-- The weights of the queries with 64 columns of zeros after each head's. -/
def ups (w : Vec Ideal S384x1536 .f32) (z : EReal) : Vec Ideal S384x2048 .f32 :=
  shapeCast S384x2048
    (pad (α := EReal) S384x8x256 ![0, 0, 0] ![0, 0, 64] ![0, 0, 0] (shapeCast S384x8x192 w shapeCasts_S384x1536_S384x8x192) (fun _ : S_.Idx => z)
      pads_S384x8x192_S384x8x256_000_000_0640 h_S_)
    shapeCasts_S384x8x256_S384x2048

theorem ups_apply (w : Vec Ideal S384x1536 .f32) (z : EReal) (k : Fin 384) (h : Fin 8) (e : Fin 256) :
    ups w z (ix2 k ⟨h.val * 256 + e.val, by omega⟩) = if he : e.val < 192 then w (ix2 k ⟨h.val * 192 + e.val, by omega⟩) else z := by
  pointwise [ups]

theorem up_eq : V m c main_v12 = ups (m ((c : Thread nD τ).loc main_arg7)) (((0#32 : BitVec 32).toInt : ℝ) : EReal) := by
  unfold V
  after_reads_simp
  rfl

/-- The weights of the keys and values with all heads' keys first. -/
def pairs' (w : Vec Ideal S256x2048 .f32) : Vec Ideal S256x2048 .f32 :=
  shapeCast S256x2048
    (transpose S256x2x8x128 [0, 2, 1, 3] (shapeCast S256x8x2x128 w shapeCasts_S256x2048_S256x8x2x128) transposes_S256x8x2x128_S256x2x8x128_0_2_1_3)
    shapeCasts_S256x2x8x128_S256x2048

theorem pairs'_apply (w : Vec Ideal S256x2048 .f32) (k : Fin 256) (s : Fin 2) (h : Fin 8) (d : Fin 128) :
    pairs' w (ix2 k ⟨s.val * 1024 + (h.val * 128 + d.val), by omega⟩) = w (ix2 k ⟨h.val * 256 + (s.val * 128 + d.val), by omega⟩) := by
  pointwise [pairs']
  exact congrArg (fun i => w (ix2 k i)) (Fin.ext (by dsimp only; omega))

theorem pair_eq : V m c main_v13 = pairs' (m ((c : Thread nD τ).loc main_arg9)) := by
  unfold V
  after_reads_simp
  rfl

theorem gain_apply (j : Fin 1024) : V m c main_v31 (ix2 0 j) = m ((c : Thread nD τ).loc main_arg4) (ix1 j) := by
  unfold V
  after_reads_at

theorem qn_apply (j : Fin 384) : V m c main_v18 (ix2 0 j) = m ((c : Thread nD τ).loc main_arg6) (ix1 j) := by
  unfold V
  after_reads_at

theorem kn_apply (j : Fin 256) : V m c main_v19 (ix2 0 j) = m ((c : Thread nD τ).loc main_arg8) (ix1 j) := by
  unfold V
  after_reads_at

/-- An entry of a table of cosines or sines. -/
def cell (T : Vec Ideal S4096x64 .f32) (n : Fin 4096) (j : Fin 64) : EReal := T (ix2 n j)

/-- A table with `z` in 64 columns after its own and in 512 rows below. -/
def padded (T : Vec Ideal S4096x64 .f32) (z : EReal) : Vec Ideal S4608x128 .f32 :=
  pad (α := EReal) S4608x128 ![0, 0] ![512, 64] ![0, 0] T (fun _ : S_.Idx => z) pads_S4096x64_S4608x128_05120_0640 h_S_

theorem padded_lat (T : Vec Ideal S4096x64 .f32) (z : EReal) (n : Fin 4608) (h : n.val < 4096) (j : Fin 128) :
    padded T z (ix2 n j) = wide (cell T ⟨n.val, h⟩) z j := by
  pointwise [padded, wide, cell]
  simp only [h, true_and]

theorem padded_ctx (T : Vec Ideal S4096x64 .f32) (z : EReal) (n : Fin 4608) (h : ¬n.val < 4096) (j : Fin 128) : padded T z (ix2 n j) = z := by
  pointwise [padded]
  simp only [h, false_and]
  exact dif_neg not_false

theorem cos_eq : V m c main_v20 = padded (m ((c : Thread nD τ).loc main_arg10)) (Ideal.ofBits .f32 0x3F800000#32) := by
  unfold V
  after_reads_simp
  rfl

/-- A word in every lane. -/
def lanes {w : ℕ} (b : IVec S_ w) : IVec S128 w := broadcastInDim S128 ![] bcast_S_S128 b

/-- The step of the lanes' remainders, 32. -/
def step : IVec S_ 32 := select (cmpi .eq (constantI S_ 32 32#32) (constantI S_ 32 0#32)) (constantI S_ 32 1#32) (constantI S_ 32 32#32)

/-- The lanes' remainders before their sign is set right. -/
def rest : IVec S128 32 := Host.remsi (iotaInDim S128 32 0) (lanes step)

/-- Whether a lane is in the first quarter of its half. -/
def first : IVec S128 1 :=
  cmpi .slt
    (select (andi (cmpi .ne (cmpi .slt rest (lanes (constantI S_ 32 0#32))) (lanes (cmpi .slt step (constantI S_ 32 0#32))))
        (cmpi .ne rest (lanes (constantI S_ 32 0#32)))) (addi rest (lanes step)) rest)
    (lanes (constantI S_ 32 16#32))

theorem first_apply : ∀ j : Fin 128, first (ix1 j) = if j.val % 32 < 16 then 1#1 else 0#1 := by
  decide +kernel

/-- The lanes' flags in every row. -/
def firsts : IVec S4608x128 1 :=
  broadcastInDim S4608x128 ![0, 1] bcast_S1x128_S4608x128_0_1 (broadcastInDim S1x128 ![1] bcast_S128_S1x128_1 first)

theorem firsts_apply (n : Fin 4608) (j : Fin 128) : firsts (ix2 n j) = if j.val % 32 < 16 then 1#1 else 0#1 := by
  rw [← first_apply]
  unfold firsts
  generalize first = f
  pointwise []

/-- Zeros. -/
def zeros : Vec Ideal S4608x128 .f32 := broadcastInDim S4608x128 ![] bcast_S_S4608x128 (constant (F := Ideal) S_ .f32 0x00000000#32)

theorem zeros_apply (n : Fin 4608) (j : Fin 128) : zeros (ix2 n j) = 0 := by
  pointwise [zeros]

theorem sa_eq : V m c main_v28 = select firsts (Host.negf (F := Ideal) (φ := .f32) (padded (m ((c : Thread nD τ).loc main_arg11)) (((0#32 : BitVec 32).toInt : ℝ) : EReal))) zeros := by
  unfold V
  after_reads_simp
  rfl

theorem sb_eq : V m c main_v30 = select firsts zeros (padded (m ((c : Thread nD τ).loc main_arg11)) (((0#32 : BitVec 32).toInt : ℝ) : EReal)) := by
  unfold V
  after_reads_simp
  rfl

theorem sa_lat (n : Fin 4608) (h : n.val < 4096) (j : Fin 128) :
    V m c main_v28 (ix2 n j) = if j.val % 32 < 16 then -wide (cell (m ((c : Thread nD τ).loc main_arg11)) ⟨n.val, h⟩) 0 j else (0 : EReal) := by
  rw [sa_eq]
  show Scalar.select (firsts (ix2 n j)) (-padded _ _ (ix2 n j)) (zeros (ix2 n j)) = _
  rw [firsts_apply, padded_lat _ _ _ h, zeros_apply, zero_word]
  by_cases hj : j.val % 32 < 16
  · rw [if_pos hj, if_pos hj]; rfl
  · rw [if_neg hj, if_neg hj]; rfl

theorem sb_lat (n : Fin 4608) (h : n.val < 4096) (j : Fin 128) :
    V m c main_v30 (ix2 n j) = if j.val % 32 < 16 then (0 : EReal) else wide (cell (m ((c : Thread nD τ).loc main_arg11)) ⟨n.val, h⟩) 0 j := by
  rw [sb_eq]
  show Scalar.select (firsts (ix2 n j)) (zeros (ix2 n j)) (padded _ _ (ix2 n j)) = _
  rw [firsts_apply, padded_lat _ _ _ h, zeros_apply, zero_word]
  by_cases hj : j.val % 32 < 16
  · rw [if_pos hj, if_pos hj]; rfl
  · rw [if_neg hj, if_neg hj]; rfl

theorem cos_lat (n : Fin 4608) (h : n.val < 4096) (j : Fin 128) :
    V m c main_v20 (ix2 n j) = wide (cell (m ((c : Thread nD τ).loc main_arg10)) ⟨n.val, h⟩) 1 j := by
  rw [cos_eq, padded_lat _ _ _ h, one_word]

theorem sa_ctx (n : Fin 4608) (h : ¬n.val < 4096) (j : Fin 128) : V m c main_v28 (ix2 n j) = (0 : EReal) := by
  rw [sa_eq]
  show Scalar.select (firsts (ix2 n j)) (-padded _ _ (ix2 n j)) (zeros (ix2 n j)) = _
  rw [firsts_apply, padded_ctx _ _ _ h, zeros_apply, zero_word, neg_zero]
  by_cases hj : j.val % 32 < 16
  · rw [if_pos hj]; rfl
  · rw [if_neg hj]; rfl

theorem sb_ctx (n : Fin 4608) (h : ¬n.val < 4096) (j : Fin 128) : V m c main_v30 (ix2 n j) = (0 : EReal) := by
  rw [sb_eq]
  show Scalar.select (firsts (ix2 n j)) (zeros (ix2 n j)) (padded _ _ (ix2 n j)) = _
  rw [firsts_apply, padded_ctx _ _ _ h, zeros_apply, zero_word]
  by_cases hj : j.val % 32 < 16
  · rw [if_pos hj]; rfl
  · rw [if_neg hj]; rfl

theorem cos_ctx (n : Fin 4608) (h : ¬n.val < 4096) (j : Fin 128) : V m c main_v20 (ix2 n j) = (1 : EReal) := by
  rw [cos_eq, padded_ctx _ _ _ h]
  exact one_word

end Cert.Kernel6Ideal.Host

end
-- ==== Proof.LatRef.lean ====
/- The three results of the reference of the projection before the latent attention, at an entry. -/
module

public import proofs.«01_k».proof.Proof.Gen.Reference6Ideal.Read
public import proofs.«01_k».proof.Proof.Swing
public import Idealize.ShloMosaic.Lib.Pointwise

@[expose] public section

set_option maxRecDepth 16384

noncomputable section

namespace Cert.Reference6Ideal.Ref

open Cert.Reference6Ideal Cert.Reference6Ideal.Read Idealize.ShloMosaic Idealize.ShloMosaic.TcCoe Idealize.SL.Sem
open Idealize.ShloMosaic.Pointwise
open Cert.Token Cert.Latent

variable (x0 : (⟨S4x4096x1024, .f32⟩ : BufTy).Contents (Elt Ideal)) (x1 : (⟨S4x256x1024, .f32⟩ : BufTy).Contents (Elt Ideal))
  (x2 : (⟨S4x6144, .f32⟩ : BufTy).Contents (Elt Ideal)) (x3 : (⟨S6144, .f32⟩ : BufTy).Contents (Elt Ideal))
  (x4 : (⟨S1024, .f32⟩ : BufTy).Contents (Elt Ideal)) (x5 : (⟨S1024x704, .f32⟩ : BufTy).Contents (Elt Ideal))
  (x6 : (⟨S384, .f32⟩ : BufTy).Contents (Elt Ideal)) (x7 : (⟨S384x1536, .f32⟩ : BufTy).Contents (Elt Ideal))
  (x8 : (⟨S256, .f32⟩ : BufTy).Contents (Elt Ideal)) (x9 : (⟨S256x2048, .f32⟩ : BufTy).Contents (Elt Ideal))
  (x10 x11 : (⟨S4096x64, .f32⟩ : BufTy).Contents (Elt Ideal))

/-- The product's row of latent token `n` of sample `b`. -/
def latRow (b : Fin 4) (n : Fin 4096) : Fin 704 → EReal :=
  times (modulated (normed (Ideal.ofBits .f32 0x44800000#32) (fun j => x0 (ix3 b n j)) (fun j => x4 (ix1 j)))
    (fun j : Fin 1024 => x2 (ix2 b ⟨j.val, by omega⟩)) (fun j : Fin 1024 => x2 (ix2 b ⟨1024 + j.val, by omega⟩))) (fun k j => x5 (ix2 k j))

/-- The product's row of context token `n` of sample `b`. -/
def ctxRow (b : Fin 4) (n : Fin 256) : Fin 704 → EReal :=
  times (modulated (normed (Ideal.ofBits .f32 0x44800000#32) (fun j => x1 (ix3 b n j)) (fun j => x4 (ix1 j)))
    (fun j : Fin 1024 => x3 (ix1 ⟨j.val, by omega⟩)) (fun j : Fin 1024 => x3 (ix1 ⟨1024 + j.val, by omega⟩))) (fun k j => x5 (ix2 k j))

theorem ix4_eq {N : ℕ} {b b' : Fin 4} {n n' : Fin N} {h h' : Fin 8} {d d' : Fin 256} (hb : b.val = b'.val) (hn : n.val = n'.val)
    (hh : h.val = h'.val) (hd : d.val = d'.val) : ix4 b n h d = ix4 b' n' h' d' := by
  rw [Fin.ext hb, Fin.ext hn, Fin.ext hh, Fin.ext hd]

theorem latNorm_apply (b : Fin 4) (n : Fin 4096) (j : Fin 1024) :
    val_main_v26 (F := Ideal) x0 x4 (ix3 b n j)
      = normed (Ideal.ofBits .f32 0x44800000#32) (fun j => x0 (ix3 b n j)) (fun j => x4 (ix1 j)) j := by
  unfold normed
  pointwise [val_main_v26, val_main_v25, val_main_v24, val_main_v23, val_main_v22, val_main_v21, val_main_v20, val_main_v19, val_main_v18, val_main_v17, val_main_v16, val_main_v15, val_main_v14, val_main_cst, val_main_cst_0, val_main_cst_1]

theorem latMod_apply (b : Fin 4) (n : Fin 4096) (j : Fin 1024) :
    val_main_v32 (F := Ideal) x0 x2 x4 (ix3 b n j)
      = modulated (fun j => val_main_v26 (F := Ideal) x0 x4 (ix3 b n j)) (fun j : Fin 1024 => x2 (ix2 b ⟨j.val, by omega⟩))
          (fun j : Fin 1024 => x2 (ix2 b ⟨1024 + j.val, by omega⟩)) j := by
  unfold modulated val_main_v32 val_main_v31 val_main_v30
  generalize val_main_v26 (F := Ideal) x0 x4 = y
  pointwise [val_main_v29, val_main_v28, val_main_v27, val_main_v7, val_main_v6, val_main_v1, val_main_v0, val_main_cst_2]

theorem latRow_apply (b : Fin 4) (n : Fin 4096) (j : Fin 704) :
    val_main_v33 (F := Ideal) x0 x2 x4 x5 (ix3 b n j) = latRow x0 x2 x4 x5 b n j := by
  unfold latRow
  rw [← funext (latNorm_apply x0 x4 b n), ← funext (latMod_apply x0 x2 x4 b n)]
  unfold times val_main_v33
  generalize val_main_v32 (F := Ideal) x0 x2 x4 = y
  pointwise []

theorem latQ_apply (b : Fin 4) (n : Fin 4096) (j : Fin 1536) :
    val_main_v50 (F := Ideal) x0 x2 x4 x5 x6 x7 (ix3 b n j)
      = queries (latRow x0 x2 x4 x5 b n) (fun k => x6 (ix1 k)) (fun k j => x7 (ix2 k j)) j := by
  rw [← funext fun j => latRow_apply x0 x2 x4 x5 b n j]
  unfold queries times normed val_main_v50 val_main_v49 val_main_v46 val_main_v45 val_main_v44 val_main_v43 val_main_v41 val_main_v39 val_main_v38 val_main_v37 val_main_v34
  generalize val_main_v33 (F := Ideal) x0 x2 x4 x5 = y
  pointwise [val_main_v48, val_main_v47, val_main_v42, val_main_v40, val_main_cst_3, val_main_cst_4, val_main_cst_5]

theorem latPair_apply (b : Fin 4) (n : Fin 4096) (j : Fin 2048) :
    val_main_v65 (F := Ideal) x0 x2 x4 x5 x8 x9 (ix3 b n j)
      = pairs (latRow x0 x2 x4 x5 b n) (fun k => x8 (ix1 k)) (fun k j => x9 (ix2 k j)) j := by
  rw [← funext fun j => latRow_apply x0 x2 x4 x5 b n j]
  unfold pairs times normed val_main_v65 val_main_v64 val_main_v61 val_main_v60 val_main_v59 val_main_v58 val_main_v56 val_main_v54 val_main_v53 val_main_v52 val_main_v35
  generalize val_main_v33 (F := Ideal) x0 x2 x4 x5 = y
  pointwise [val_main_v63, val_main_v62, val_main_v57, val_main_v55, val_main_cst_6, val_main_cst_7, val_main_cst_8]

theorem latCommon_apply (b : Fin 4) (n : Fin 4096) (d : Fin 64) :
    val_main_v36 (F := Ideal) x0 x2 x4 x5 (ix3 b n d) = common (latRow x0 x2 x4 x5 b n) d := by
  unfold common
  rw [← latRow_apply]
  unfold val_main_v36
  generalize val_main_v33 (F := Ideal) x0 x2 x4 x5 = y
  pointwise []

theorem latNope_apply (b : Fin 4) (n : Fin 4096) (h : Fin 8) (d : Fin 128) :
    val_main_v67 (F := Ideal) x0 x2 x4 x5 x6 x7 (ix4 b n h d) = val_main_v50 (F := Ideal) x0 x2 x4 x5 x6 x7 (ix3 b n ⟨h.val * 192 + d.val, by omega⟩) := by
  unfold val_main_v67 val_main_v51
  generalize val_main_v50 (F := Ideal) x0 x2 x4 x5 x6 x7 = y
  pointwise []

theorem latRope_apply (b : Fin 4) (n : Fin 4096) (h : Fin 8) (d : Fin 64) :
    val_main_v68 (F := Ideal) x0 x2 x4 x5 x6 x7 (ix4 b n h d) = val_main_v50 (F := Ideal) x0 x2 x4 x5 x6 x7 (ix3 b n ⟨h.val * 192 + (128 + d.val), by omega⟩) := by
  unfold val_main_v68 val_main_v51
  generalize val_main_v50 (F := Ideal) x0 x2 x4 x5 x6 x7 = y
  pointwise []

theorem latKey_apply (b : Fin 4) (n : Fin 4096) (h : Fin 8) (d : Fin 128) :
    val_main_v69 (F := Ideal) x0 x2 x4 x5 x8 x9 (ix4 b n h d) = val_main_v65 (F := Ideal) x0 x2 x4 x5 x8 x9 (ix3 b n ⟨h.val * 256 + d.val, by omega⟩) := by
  unfold val_main_v69 val_main_v66
  generalize val_main_v65 (F := Ideal) x0 x2 x4 x5 x8 x9 = y
  pointwise []

theorem latValue_apply (b : Fin 4) (n : Fin 4096) (h : Fin 8) (d : Fin 128) :
    val_main_v70 (F := Ideal) x0 x2 x4 x5 x8 x9 (ix4 b n h d) = val_main_v65 (F := Ideal) x0 x2 x4 x5 x8 x9 (ix3 b n ⟨h.val * 256 + (128 + d.val), by omega⟩) := by
  unfold val_main_v70 val_main_v66
  generalize val_main_v65 (F := Ideal) x0 x2 x4 x5 x8 x9 = y
  pointwise []

theorem latTurn_apply (b : Fin 4) (n : Fin 4096) (h : Fin 8) (d : Fin 64) :
    val_main_v86 (F := Ideal) x0 x2 x4 x5 x6 x7 x10 x11 (ix4 b n h d)
      = turned (fun j => x10 (ix2 n j)) (fun j => x11 (ix2 n j)) (fun d => val_main_v68 (F := Ideal) x0 x2 x4 x5 x6 x7 (ix4 b n h d)) d := by
  unfold turned
  rw [swapped_eq]
  unfold val_main_v86 val_main_v85 val_main_v82 val_main_v79 val_main_v78 val_main_v77 val_main_v76 val_main_v75 val_main_v74 val_main_v73
  generalize val_main_v68 (F := Ideal) x0 x2 x4 x5 x6 x7 = y
  pointwise [val_main_v84, val_main_v83, val_main_v81, val_main_v80, val_main_v72, val_main_v71]

theorem latTurnK_apply (b : Fin 4) (n : Fin 4096) (d : Fin 64) :
    val_main_v100 (F := Ideal) x0 x2 x4 x5 x10 x11 (ix3 b n d)
      = turned (fun j => x10 (ix2 n j)) (fun j => x11 (ix2 n j)) (fun d => val_main_v36 (F := Ideal) x0 x2 x4 x5 (ix3 b n d)) d := by
  unfold turned
  rw [swapped_eq]
  unfold val_main_v100 val_main_v99 val_main_v96 val_main_v93 val_main_v92 val_main_v91 val_main_v90 val_main_v89 val_main_v88 val_main_v87
  generalize val_main_v36 (F := Ideal) x0 x2 x4 x5 = y
  pointwise [val_main_v98, val_main_v97, val_main_v95, val_main_v94]

theorem latQuery_apply (b : Fin 4) (n : Fin 4096) (h : Fin 8) (e : Fin 256) :
    val_main_v104 (F := Ideal) x0 x2 x4 x5 x6 x7 x10 x11 (ix4 b n h e) * Ideal.ofBits .f32 0x3DD53B95#32
      = query (queries (latRow x0 x2 x4 x5 b n) (fun k => x6 (ix1 k)) (fun k j => x7 (ix2 k j))) (turned (fun j => x10 (ix2 n j)) (fun j => x11 (ix2 n j))) h e := by
  have e1 : val_main_v104 (F := Ideal) x0 x2 x4 x5 x6 x7 x10 x11 (ix4 b n h e)
      = if h1 : e.val < 128 then val_main_v67 (F := Ideal) x0 x2 x4 x5 x6 x7 (ix4 b n h ⟨e.val, h1⟩)
        else if h2 : e.val - 128 < 64 then val_main_v86 (F := Ideal) x0 x2 x4 x5 x6 x7 x10 x11 (ix4 b n h ⟨e.val - 128, h2⟩) else 0 := by
    unfold val_main_v104
    generalize val_main_v67 (F := Ideal) x0 x2 x4 x5 x6 x7 = y
    generalize val_main_v86 (F := Ideal) x0 x2 x4 x5 x6 x7 x10 x11 = z
    pointwise [val_main_v101, val_main_cst_9]
  rw [e1]
  simp only [latNope_apply, latTurn_apply, latRope_apply, latQ_apply]
  rfl

theorem latKeys_apply (b : Fin 4) (n : Fin 4096) (h : Fin 8) (e : Fin 256) :
    val_main_v105 (F := Ideal) x0 x2 x4 x5 x8 x9 x10 x11 (ix4 b n h e)
      = key (pairs (latRow x0 x2 x4 x5 b n) (fun k => x8 (ix1 k)) (fun k j => x9 (ix2 k j))) (common (latRow x0 x2 x4 x5 b n)) (turned (fun j => x10 (ix2 n j)) (fun j => x11 (ix2 n j))) h e := by
  have e1 : val_main_v105 (F := Ideal) x0 x2 x4 x5 x8 x9 x10 x11 (ix4 b n h e)
      = if h1 : e.val < 128 then val_main_v69 (F := Ideal) x0 x2 x4 x5 x8 x9 (ix4 b n h ⟨e.val, h1⟩)
        else if h2 : e.val - 128 < 64 then val_main_v100 (F := Ideal) x0 x2 x4 x5 x10 x11 (ix3 b n ⟨e.val - 128, h2⟩) else 0 := by
    unfold val_main_v105 val_main_v103 val_main_v102
    generalize val_main_v69 (F := Ideal) x0 x2 x4 x5 x8 x9 = y
    generalize val_main_v100 (F := Ideal) x0 x2 x4 x5 x10 x11 = z
    pointwise [val_main_v101, val_main_cst_9]
  rw [e1]
  simp only [latKey_apply, latTurnK_apply, latCommon_apply, latPair_apply]
  rfl

theorem latValues_apply (b : Fin 4) (n : Fin 4096) (h : Fin 8) (e : Fin 256) :
    val_main_v107 (F := Ideal) x0 x2 x4 x5 x8 x9 (ix4 b n h e) = value (pairs (latRow x0 x2 x4 x5 b n) (fun k => x8 (ix1 k)) (fun k j => x9 (ix2 k j))) h e := by
  have e1 : val_main_v107 (F := Ideal) x0 x2 x4 x5 x8 x9 (ix4 b n h e)
      = if h1 : e.val < 128 then val_main_v70 (F := Ideal) x0 x2 x4 x5 x8 x9 (ix4 b n h ⟨e.val, h1⟩) else 1 := by
    unfold val_main_v107
    generalize val_main_v70 (F := Ideal) x0 x2 x4 x5 x8 x9 = y
    pointwise [val_main_v106, val_main_cst_10]
  rw [e1]
  simp only [latValue_apply, latPair_apply]
  rfl

theorem ctxNorm_apply (b : Fin 4) (n : Fin 256) (j : Fin 1024) :
    val_main_v123 (F := Ideal) x1 x4 (ix3 b n j)
      = normed (Ideal.ofBits .f32 0x44800000#32) (fun j => x1 (ix3 b n j)) (fun j => x4 (ix1 j)) j := by
  unfold normed
  pointwise [val_main_v123, val_main_v122, val_main_v121, val_main_v120, val_main_v119, val_main_v118, val_main_v117, val_main_v116, val_main_v115, val_main_v114, val_main_v113, val_main_v112, val_main_v111, val_main_cst_11, val_main_cst_12, val_main_cst_13]

theorem ctxMod_apply (b : Fin 4) (n : Fin 256) (j : Fin 1024) :
    val_main_v131 (F := Ideal) x1 x3 x4 (ix3 b n j)
      = modulated (fun j => val_main_v123 (F := Ideal) x1 x4 (ix3 b n j)) (fun j : Fin 1024 => x3 (ix1 ⟨j.val, by omega⟩))
          (fun j : Fin 1024 => x3 (ix1 ⟨1024 + j.val, by omega⟩)) j := by
  unfold modulated val_main_v131 val_main_v128
  generalize val_main_v123 (F := Ideal) x1 x4 = y
  pointwise [val_main_v130, val_main_v129, val_main_v127, val_main_v126, val_main_v125, val_main_v124, val_main_v9, val_main_v8, val_main_cst_14]

theorem ctxRow_apply (b : Fin 4) (n : Fin 256) (j : Fin 704) :
    val_main_v132 (F := Ideal) x1 x3 x4 x5 (ix3 b n j) = ctxRow x1 x3 x4 x5 b n j := by
  unfold ctxRow
  rw [← funext (ctxNorm_apply x1 x4 b n), ← funext (ctxMod_apply x1 x3 x4 b n)]
  unfold times val_main_v132
  generalize val_main_v131 (F := Ideal) x1 x3 x4 = y
  pointwise []

theorem ctxQ_apply (b : Fin 4) (n : Fin 256) (j : Fin 1536) :
    val_main_v149 (F := Ideal) x1 x3 x4 x5 x6 x7 (ix3 b n j)
      = queries (ctxRow x1 x3 x4 x5 b n) (fun k => x6 (ix1 k)) (fun k j => x7 (ix2 k j)) j := by
  rw [← funext fun j => ctxRow_apply x1 x3 x4 x5 b n j]
  unfold queries times normed val_main_v149 val_main_v148 val_main_v145 val_main_v144 val_main_v143 val_main_v142 val_main_v140 val_main_v138 val_main_v137 val_main_v136 val_main_v133
  generalize val_main_v132 (F := Ideal) x1 x3 x4 x5 = y
  pointwise [val_main_v147, val_main_v146, val_main_v141, val_main_v139, val_main_cst_15, val_main_cst_16, val_main_cst_17]

theorem ctxPair_apply (b : Fin 4) (n : Fin 256) (j : Fin 2048) :
    val_main_v164 (F := Ideal) x1 x3 x4 x5 x8 x9 (ix3 b n j)
      = pairs (ctxRow x1 x3 x4 x5 b n) (fun k => x8 (ix1 k)) (fun k j => x9 (ix2 k j)) j := by
  rw [← funext fun j => ctxRow_apply x1 x3 x4 x5 b n j]
  unfold pairs times normed val_main_v164 val_main_v163 val_main_v160 val_main_v159 val_main_v158 val_main_v157 val_main_v155 val_main_v153 val_main_v152 val_main_v151 val_main_v134
  generalize val_main_v132 (F := Ideal) x1 x3 x4 x5 = y
  pointwise [val_main_v162, val_main_v161, val_main_v156, val_main_v154, val_main_cst_18, val_main_cst_19, val_main_cst_20]

theorem ctxCommon_apply (b : Fin 4) (n : Fin 256) (d : Fin 64) :
    val_main_v135 (F := Ideal) x1 x3 x4 x5 (ix3 b n d) = common (ctxRow x1 x3 x4 x5 b n) d := by
  unfold common
  rw [← ctxRow_apply]
  unfold val_main_v135
  generalize val_main_v132 (F := Ideal) x1 x3 x4 x5 = y
  pointwise []

theorem ctxNope_apply (b : Fin 4) (n : Fin 256) (h : Fin 8) (d : Fin 128) :
    val_main_v166 (F := Ideal) x1 x3 x4 x5 x6 x7 (ix4 b n h d) = val_main_v149 (F := Ideal) x1 x3 x4 x5 x6 x7 (ix3 b n ⟨h.val * 192 + d.val, by omega⟩) := by
  unfold val_main_v166 val_main_v150
  generalize val_main_v149 (F := Ideal) x1 x3 x4 x5 x6 x7 = y
  pointwise []

theorem ctxRope_apply (b : Fin 4) (n : Fin 256) (h : Fin 8) (d : Fin 64) :
    val_main_v167 (F := Ideal) x1 x3 x4 x5 x6 x7 (ix4 b n h d) = val_main_v149 (F := Ideal) x1 x3 x4 x5 x6 x7 (ix3 b n ⟨h.val * 192 + (128 + d.val), by omega⟩) := by
  unfold val_main_v167 val_main_v150
  generalize val_main_v149 (F := Ideal) x1 x3 x4 x5 x6 x7 = y
  pointwise []

theorem ctxKey_apply (b : Fin 4) (n : Fin 256) (h : Fin 8) (d : Fin 128) :
    val_main_v168 (F := Ideal) x1 x3 x4 x5 x8 x9 (ix4 b n h d) = val_main_v164 (F := Ideal) x1 x3 x4 x5 x8 x9 (ix3 b n ⟨h.val * 256 + d.val, by omega⟩) := by
  unfold val_main_v168 val_main_v165
  generalize val_main_v164 (F := Ideal) x1 x3 x4 x5 x8 x9 = y
  pointwise []

theorem ctxValue_apply (b : Fin 4) (n : Fin 256) (h : Fin 8) (d : Fin 128) :
    val_main_v169 (F := Ideal) x1 x3 x4 x5 x8 x9 (ix4 b n h d) = val_main_v164 (F := Ideal) x1 x3 x4 x5 x8 x9 (ix3 b n ⟨h.val * 256 + (128 + d.val), by omega⟩) := by
  unfold val_main_v169 val_main_v165
  generalize val_main_v164 (F := Ideal) x1 x3 x4 x5 x8 x9 = y
  pointwise []

theorem ctxQuery_apply (b : Fin 4) (n : Fin 256) (h : Fin 8) (e : Fin 256) :
    val_main_v173 (F := Ideal) x1 x3 x4 x5 x6 x7 (ix4 b n h e) * Ideal.ofBits .f32 0x3DD53B95#32
      = query (queries (ctxRow x1 x3 x4 x5 b n) (fun k => x6 (ix1 k)) (fun k j => x7 (ix2 k j))) (fun c => c) h e := by
  have e1 : val_main_v173 (F := Ideal) x1 x3 x4 x5 x6 x7 (ix4 b n h e)
      = if h1 : e.val < 128 then val_main_v166 (F := Ideal) x1 x3 x4 x5 x6 x7 (ix4 b n h ⟨e.val, h1⟩)
        else if h2 : e.val - 128 < 64 then val_main_v167 (F := Ideal) x1 x3 x4 x5 x6 x7 (ix4 b n h ⟨e.val - 128, h2⟩) else 0 := by
    unfold val_main_v173
    generalize val_main_v166 (F := Ideal) x1 x3 x4 x5 x6 x7 = y
    generalize val_main_v167 (F := Ideal) x1 x3 x4 x5 x6 x7 = z
    pointwise [val_main_v170, val_main_cst_21]
  rw [e1]
  simp only [ctxNope_apply, ctxRope_apply, ctxQ_apply]
  rfl

theorem ctxKeys_apply (b : Fin 4) (n : Fin 256) (h : Fin 8) (e : Fin 256) :
    val_main_v174 (F := Ideal) x1 x3 x4 x5 x8 x9 (ix4 b n h e)
      = key (pairs (ctxRow x1 x3 x4 x5 b n) (fun k => x8 (ix1 k)) (fun k j => x9 (ix2 k j))) (common (ctxRow x1 x3 x4 x5 b n)) (fun c => c) h e := by
  have e1 : val_main_v174 (F := Ideal) x1 x3 x4 x5 x8 x9 (ix4 b n h e)
      = if h1 : e.val < 128 then val_main_v168 (F := Ideal) x1 x3 x4 x5 x8 x9 (ix4 b n h ⟨e.val, h1⟩)
        else if h2 : e.val - 128 < 64 then val_main_v135 (F := Ideal) x1 x3 x4 x5 (ix3 b n ⟨e.val - 128, h2⟩) else 0 := by
    unfold val_main_v174 val_main_v172 val_main_v171
    generalize val_main_v168 (F := Ideal) x1 x3 x4 x5 x8 x9 = y
    generalize val_main_v135 (F := Ideal) x1 x3 x4 x5 = z
    pointwise [val_main_v170, val_main_cst_21]
  rw [e1]
  simp only [ctxKey_apply, ctxCommon_apply, ctxPair_apply]
  rfl

theorem ctxValues_apply (b : Fin 4) (n : Fin 256) (h : Fin 8) (e : Fin 256) :
    val_main_v176 (F := Ideal) x1 x3 x4 x5 x8 x9 (ix4 b n h e) = value (pairs (ctxRow x1 x3 x4 x5 b n) (fun k => x8 (ix1 k)) (fun k j => x9 (ix2 k j))) h e := by
  have e1 : val_main_v176 (F := Ideal) x1 x3 x4 x5 x8 x9 (ix4 b n h e)
      = if h1 : e.val < 128 then val_main_v169 (F := Ideal) x1 x3 x4 x5 x8 x9 (ix4 b n h ⟨e.val, h1⟩) else 1 := by
    unfold val_main_v176
    generalize val_main_v169 (F := Ideal) x1 x3 x4 x5 x8 x9 = y
    pointwise [val_main_v175, val_main_cst_22]
  rw [e1]
  simp only [ctxValue_apply, ctxPair_apply]
  rfl

/-- The three results, for a latent row and for a row of the context. -/
theorem q_lat (R : Fin 17408) (h : Fin 8) (e : Fin 256) (b : Fin 4) (n : Fin 4096) (hR : R.val = b.val * 4096 + n.val) :
    val_main_v185 (F := Ideal) x0 x1 x2 x3 x4 x5 x6 x7 x10 x11 (ix2 R ⟨h.val * 256 + e.val, by omega⟩)
      = query (queries (latRow x0 x2 x4 x5 b n) (fun k => x6 (ix1 k)) (fun k j => x7 (ix2 k j))) (turned (fun j => x10 (ix2 n j)) (fun j => x11 (ix2 n j))) h e := by
  rw [← latQuery_apply]
  unfold val_main_v185 val_main_v182 val_main_v180 val_main_v108
  generalize val_main_v177 (F := Ideal) x1 x3 x4 x5 x6 x7 = z
  generalize val_main_v104 (F := Ideal) x0 x2 x4 x5 x6 x7 x10 x11 = y
  pointwise [val_main_v181, val_main_cst_23]
  rw [dif_pos (by omega)]
  exact congrArg (fun i => y i * _) (ix4_eq (by dsimp only; omega) (by dsimp only; omega) rfl rfl)

theorem q_ctx (R : Fin 17408) (h : Fin 8) (e : Fin 256) (b : Fin 4) (n : Fin 256) (hR : R.val = 16384 + b.val * 256 + n.val) :
    val_main_v185 (F := Ideal) x0 x1 x2 x3 x4 x5 x6 x7 x10 x11 (ix2 R ⟨h.val * 256 + e.val, by omega⟩)
      = query (queries (ctxRow x1 x3 x4 x5 b n) (fun k => x6 (ix1 k)) (fun k j => x7 (ix2 k j))) (fun c => c) h e := by
  rw [← ctxQuery_apply]
  unfold val_main_v185 val_main_v182 val_main_v180 val_main_v177
  generalize val_main_v108 (F := Ideal) x0 x2 x4 x5 x6 x7 x10 x11 = z
  generalize val_main_v173 (F := Ideal) x1 x3 x4 x5 x6 x7 = y
  pointwise [val_main_v181, val_main_cst_23]
  rw [dif_neg (by omega)]
  exact congrArg (fun i => y i * _) (ix4_eq (by dsimp only; omega) (by dsimp only; omega) rfl rfl)

theorem k_lat (R : Fin 17408) (h : Fin 8) (e : Fin 256) (b : Fin 4) (n : Fin 4096) (hR : R.val = b.val * 4096 + n.val) :
    val_main_v186 (F := Ideal) x0 x1 x2 x3 x4 x5 x8 x9 x10 x11 (ix2 R ⟨h.val * 256 + e.val, by omega⟩)
      = key (pairs (latRow x0 x2 x4 x5 b n) (fun k => x8 (ix1 k)) (fun k j => x9 (ix2 k j))) (common (latRow x0 x2 x4 x5 b n)) (turned (fun j => x10 (ix2 n j)) (fun j => x11 (ix2 n j))) h e := by
  rw [← latKeys_apply]
  unfold val_main_v186 val_main_v183 val_main_v109
  generalize val_main_v178 (F := Ideal) x1 x3 x4 x5 x8 x9 = z
  generalize val_main_v105 (F := Ideal) x0 x2 x4 x5 x8 x9 x10 x11 = y
  pointwise []
  rw [dif_pos (by omega)]
  exact congrArg y (ix4_eq (by dsimp only; omega) (by dsimp only; omega) rfl rfl)

theorem k_ctx (R : Fin 17408) (h : Fin 8) (e : Fin 256) (b : Fin 4) (n : Fin 256) (hR : R.val = 16384 + b.val * 256 + n.val) :
    val_main_v186 (F := Ideal) x0 x1 x2 x3 x4 x5 x8 x9 x10 x11 (ix2 R ⟨h.val * 256 + e.val, by omega⟩)
      = key (pairs (ctxRow x1 x3 x4 x5 b n) (fun k => x8 (ix1 k)) (fun k j => x9 (ix2 k j))) (common (ctxRow x1 x3 x4 x5 b n)) (fun c => c) h e := by
  rw [← ctxKeys_apply]
  unfold val_main_v186 val_main_v183 val_main_v178
  generalize val_main_v109 (F := Ideal) x0 x2 x4 x5 x8 x9 x10 x11 = z
  generalize val_main_v174 (F := Ideal) x1 x3 x4 x5 x8 x9 = y
  pointwise []
  rw [dif_neg (by omega)]
  exact congrArg y (ix4_eq (by dsimp only; omega) (by dsimp only; omega) rfl rfl)

theorem v_lat (R : Fin 17408) (h : Fin 8) (e : Fin 256) (b : Fin 4) (n : Fin 4096) (hR : R.val = b.val * 4096 + n.val) :
    val_main_v187 (F := Ideal) x0 x1 x2 x3 x4 x5 x8 x9 (ix2 R ⟨h.val * 256 + e.val, by omega⟩)
      = value (pairs (latRow x0 x2 x4 x5 b n) (fun k => x8 (ix1 k)) (fun k j => x9 (ix2 k j))) h e := by
  rw [← latValues_apply]
  unfold val_main_v187 val_main_v184 val_main_v110
  generalize val_main_v179 (F := Ideal) x1 x3 x4 x5 x8 x9 = z
  generalize val_main_v107 (F := Ideal) x0 x2 x4 x5 x8 x9 = y
  pointwise []
  rw [dif_pos (by omega)]
  exact congrArg y (ix4_eq (by dsimp only; omega) (by dsimp only; omega) rfl rfl)

theorem v_ctx (R : Fin 17408) (h : Fin 8) (e : Fin 256) (b : Fin 4) (n : Fin 256) (hR : R.val = 16384 + b.val * 256 + n.val) :
    val_main_v187 (F := Ideal) x0 x1 x2 x3 x4 x5 x8 x9 (ix2 R ⟨h.val * 256 + e.val, by omega⟩)
      = value (pairs (ctxRow x1 x3 x4 x5 b n) (fun k => x8 (ix1 k)) (fun k j => x9 (ix2 k j))) h e := by
  rw [← ctxValues_apply]
  unfold val_main_v187 val_main_v184 val_main_v179
  generalize val_main_v110 (F := Ideal) x0 x2 x4 x5 x8 x9 = z
  generalize val_main_v176 (F := Ideal) x1 x3 x4 x5 x8 x9 = y
  pointwise []
  rw [dif_neg (by omega)]
  exact congrArg y (ix4_eq (by dsimp only; omega) (by dsimp only; omega) rfl rfl)

end Cert.Reference6Ideal.Ref

end
-- ==== Proof.LatArr.lean ====
/- The three arrays that the projection before the latent attention leaves: the reference's, entry by entry. -/
module

public import proofs.«01_k».proof.Proof.LatBlock
public import proofs.«01_k».proof.Proof.LatHost
public import proofs.«01_k».proof.Proof.LatRef

@[expose] public section

set_option maxRecDepth 16384

noncomputable section

namespace Cert.Kernel6Ideal.Arr

open Cert.Kernel6Ideal Cert.Kernel6Ideal.Gen Idealize.ShloMosaic Idealize.ShloMosaic.TcCoe Idealize.SL.Sem
open Idealize.ShloMosaic.Tactic
open Cert.Token Cert.Latent Cert.Kernel6Ideal.Blk
open Cert.Reference6Ideal.Ref (latRow ctxRow)

/-- A row of 704 entries with 64 zeros after it. -/
def long (A : Fin 704 → EReal) (j : Fin 768) : EReal := if h : j.val < 704 then A ⟨j.val, h⟩ else 0

theorem times_long {K : ℕ} (a : Fin K → EReal) (w : Fin K → Fin 704 → EReal) : times a (fun k => long (w k)) = long (times a w) := by
  funext j
  unfold times long
  by_cases h : j.val < 704
  · simp only [dif_pos h]
  · simp only [dif_neg h, mul_zero, Finset.sum_const_zero]

section rows

variable (x0 : Vec Ideal S512x1024 .f32) (x1 : Vec Ideal S1x1024 .f32) (x2 : Vec Ideal S1x6x1x1024 .f32) (x3 : Vec Ideal S1024x768 .bf16)
  (x4 : Vec Ideal S1x384 .f32) (x5 : Vec Ideal S384x2048 .bf16) (x6 : Vec Ideal S1x256 .f32) (x7 : Vec Ideal S256x2048 .bf16)
  (C S₁ S₂ : Fin 128 → EReal) (r : Fin 512) (A : Fin 704 → EReal) (hA : prodRow x0 x1 x2 x3 r = long A)
  (T : (Fin 64 → EReal) → Fin 64 → EReal)
  (hT : ∀ (c : Fin 128 → EReal) (j : Fin 128), rolled c C S₁ S₂ j = if h : j.val < 64 then T (fun d : Fin 64 => c ⟨d.val, by omega⟩) ⟨j.val, h⟩ else c j)
  (gq : Fin 384 → EReal) (hgq : (fun k => x4 (ix2 0 k)) = gq) (wq : Fin 384 → Fin 1536 → EReal)
  (hwq : ∀ (k : Fin 384) (h : Fin 8) (e : Fin 256),
    x5 (ix2 k ⟨h.val * 256 + e.val, by omega⟩) = if he : e.val < 192 then wq k ⟨h.val * 192 + e.val, by omega⟩ else 0)
  (gk : Fin 256 → EReal) (hgk : (fun k => x6 (ix2 0 k)) = gk) (wk : Fin 256 → Fin 2048 → EReal)
  (hwk : ∀ (k : Fin 256) (s : Fin 2) (h : Fin 8) (d : Fin 128),
    x7 (ix2 k ⟨s.val * 1024 + (h.val * 128 + d.val), by omega⟩) = wk k ⟨h.val * 256 + (s.val * 128 + d.val), by omega⟩)

include hA

section
include hgq hwq

theorem qRow_eq (h : Fin 8) (e : Fin 256) : qRow x0 x1 x2 x3 x4 x5 r ⟨h.val * 256 + e.val, by omega⟩
    = if he : e.val < 192 then queries A gq wq ⟨h.val * 192 + e.val, by omega⟩ else 0 := by
  unfold qRow queries
  rw [hA, hgq, show (fun k : Fin 384 => long A ⟨k.val, by omega⟩) = fun k : Fin 384 => A ⟨k.val, by omega⟩ from
    funext fun k => dif_pos (show k.val < 704 by omega)]
  unfold times
  simp only [hwq]
  by_cases he : e.val < 192
  · simp only [dif_pos he]
  · simp only [dif_neg he, mul_zero, Finset.sum_const_zero]

include hT

theorem query_eq (h : Fin 8) (e : Fin 256) : qOut (qRow x0 x1 x2 x3 x4 x5 r) C S₁ S₂ h e = query (queries A gq wq) T h e := by
  have hq := qRow_eq x0 x1 x2 x3 x4 x5 r A hA gq hgq wq hwq
  unfold qOut query
  by_cases h1 : e.val < 128
  · rw [dif_pos h1, dif_pos h1, hq, dif_pos (by omega)]
  rw [dif_neg h1, dif_neg h1, hT]
  by_cases h2 : e.val - 128 < 64
  · rw [dif_pos h2, dif_pos h2]
    refine congrArg (fun f => T f _ * _) (funext fun d => ?_)
    refine Eq.trans (congrArg _ (Fin.ext (by dsimp only; omega))) ((hq h ⟨128 + d.val, by omega⟩).trans (dif_pos (by dsimp only; omega)))
  · rw [dif_neg h2, dif_neg h2]
    refine congrArg (fun a => a * _) ?_
    refine Eq.trans (congrArg _ (Fin.ext (by dsimp only; omega))) ((hq h e).trans (dif_neg (by omega)))

end

section
include hgk hwk

theorem kvRow_eq (s : Fin 2) (h : Fin 8) (d : Fin 128) : kvRow x0 x1 x2 x3 x6 x7 r ⟨s.val * 1024 + (h.val * 128 + d.val), by omega⟩
    = pairs A gk wk ⟨h.val * 256 + (s.val * 128 + d.val), by omega⟩ := by
  unfold kvRow pairs
  rw [hA, hgk, show (fun k : Fin 256 => long A ⟨384 + k.val, by omega⟩) = fun k : Fin 256 => A ⟨384 + k.val, by omega⟩ from
    funext fun k => dif_pos (show 384 + k.val < 704 by omega)]
  unfold times
  simp only [hwk]

theorem value_eq (h : Fin 8) (e : Fin 256) : vOut (kvRow x0 x1 x2 x3 x6 x7 r) h e = value (pairs A gk wk) h e := by
  unfold vOut value
  by_cases h1 : e.val < 128
  · rw [dif_pos h1, dif_pos h1]
    refine Eq.trans (congrArg _ (Fin.ext (by show _ = 1 * 1024 + (h.val * 128 + e.val); dsimp only)))
      ((kvRow_eq x0 x1 x2 x3 x6 x7 r A hA gk hgk wk hwk 1 h ⟨e.val, h1⟩).trans (congrArg _ (Fin.ext (by show h.val * 256 + (1 * 128 + e.val) = _; dsimp only))))
  · rw [dif_neg h1, dif_neg h1]

include hT

theorem key_eq (h : Fin 8) (e : Fin 256) :
    kOut (prodRow x0 x1 x2 x3 r) (kvRow x0 x1 x2 x3 x6 x7 r) C S₁ S₂ h e = key (pairs A gk wk) (common A) T h e := by
  unfold kOut key
  by_cases h1 : e.val < 128
  · rw [dif_pos h1, dif_pos h1]
    refine Eq.trans (congrArg _ (Fin.ext (by show _ = 0 * 1024 + (h.val * 128 + e.val); dsimp only; omega)))
      ((kvRow_eq x0 x1 x2 x3 x6 x7 r A hA gk hgk wk hwk 0 h ⟨e.val, h1⟩).trans (congrArg _ (Fin.ext (by show h.val * 256 + (0 * 128 + e.val) = _; dsimp only; omega))))
  rw [dif_neg h1, dif_neg h1, hT, hA]
  by_cases h2 : e.val - 128 < 64
  · rw [dif_pos h2, dif_pos h2]
    exact congrArg (fun f => T f _) (funext fun d => dif_pos (show 640 + d.val < 704 by omega))
  · rw [dif_neg h2, dif_neg h2]
    exact dif_neg (show ¬640 + (e.val - 128) < 704 by omega)

end

end rows

variable (m : (ℓ : Loc nD τ sig) → Buf (Elt Ideal) ℓ) (c : Dev nD)

/-- The block of the tables of the rotary turn that a step takes: of the latent tokens, or the one that turns nothing. -/
def wheel (i : ℕ) : ℕ := if i < 32 then i % 8 else 8

theorem idx : ∀ t : Fin cfg0.N, win0_0.index t = ![(grid0.coords t 0).val, 0]
    ∧ win0_1.index t = ![0, 0]
    ∧ win0_2.index t = ![min ((grid0.coords t 0).val / 8) 4, 0, 0, 0]
    ∧ win0_3.index t = ![0, 0] ∧ win0_4.index t = ![0, 0] ∧ win0_5.index t = ![0, 0] ∧ win0_6.index t = ![0, 0] ∧ win0_7.index t = ![0, 0]
    ∧ win0_8.index t = ![wheel (grid0.coords t 0).val, 0] ∧ win0_9.index t = ![wheel (grid0.coords t 0).val, 0]
    ∧ win0_10.index t = ![wheel (grid0.coords t 0).val, 0]
    ∧ win0_11.index t = ![(grid0.coords t 0).val, 0] ∧ win0_12.index t = ![(grid0.coords t 0).val, 0]
    ∧ win0_13.index t = ![(grid0.coords t 0).val, 0] := by decide +kernel

theorem x_blk (t : Fin cfg0.N) (r : Fin 512) (j : Fin 1024) (R : Fin 17408) (hR : R.val = (grid0.coords t 0).val * 512 + r.val) :
    iblk m c 0 t (ix2 r j) = V m c main_v2 (ix2 R j) := by
  blk_ext [iblk, (idx t).1]

theorem gain_blk (t : Fin cfg0.N) (j : Fin 1024) : iblk m c 1 t (ix2 0 j) = m ((c : Thread nD τ).loc main_arg4) (ix1 j) := by
  refine Eq.trans ?_ (Host.gain_apply m c j)
  blk_ext [iblk, (idx t).2.1]

theorem mod_blk (t : Fin cfg0.N) (n : Fin 6) (j : Fin 1024) (r : Fin 8) (hr : r.val = min ((grid0.coords t 0).val / 8) 4) :
    iblk m c 2 t (ix4 0 n 0 j) = V m c main_v17 (ix4 r n 0 j) := by
  blk_ext [iblk, (idx t).2.2.1]

theorem down_blk (t : Fin cfg0.N) (k : Fin 1024) (j : Fin 768) :
    iblk m c 3 t (ix2 k j) = long (fun j => m ((c : Thread nD τ).loc main_arg5) (ix2 k j)) j := by
  refine Eq.trans ?_ ((congrFun (Host.down_eq m c) (ix2 k j)).trans (Host.downs_apply _ k j))
  blk_ext [iblk, (idx t).2.2.2.1]

theorem qn_blk (t : Fin cfg0.N) (j : Fin 384) : iblk m c 4 t (ix2 0 j) = m ((c : Thread nD τ).loc main_arg6) (ix1 j) := by
  refine Eq.trans ?_ (Host.qn_apply m c j)
  blk_ext [iblk, (idx t).2.2.2.2.1]

theorem up_blk (t : Fin cfg0.N) (k : Fin 384) (h : Fin 8) (e : Fin 256) : iblk m c 5 t (ix2 k ⟨h.val * 256 + e.val, by omega⟩)
    = if he : e.val < 192 then m ((c : Thread nD τ).loc main_arg7) (ix2 k ⟨h.val * 192 + e.val, by omega⟩) else (0 : EReal) := by
  have e1 := (congrFun (Host.up_eq m c) (ix2 k ⟨h.val * 256 + e.val, by omega⟩)).trans (Host.ups_apply _ _ k h e)
  rw [Cert.Kernel5Ideal.Host.zero_word] at e1
  refine Eq.trans ?_ e1
  blk_ext [iblk, (idx t).2.2.2.2.2.1]

theorem kn_blk (t : Fin cfg0.N) (j : Fin 256) : iblk m c 6 t (ix2 0 j) = m ((c : Thread nD τ).loc main_arg8) (ix1 j) := by
  refine Eq.trans ?_ (Host.kn_apply m c j)
  blk_ext [iblk, (idx t).2.2.2.2.2.2.1]

theorem pair_blk (t : Fin cfg0.N) (k : Fin 256) (s : Fin 2) (h : Fin 8) (d : Fin 128) :
    iblk m c 7 t (ix2 k ⟨s.val * 1024 + (h.val * 128 + d.val), by omega⟩)
      = m ((c : Thread nD τ).loc main_arg9) (ix2 k ⟨h.val * 256 + (s.val * 128 + d.val), by omega⟩) := by
  refine Eq.trans ?_ ((congrFun (Host.pair_eq m c) (ix2 k ⟨s.val * 1024 + (h.val * 128 + d.val), by omega⟩)).trans (Host.pairs'_apply _ k s h d))
  blk_ext [iblk, (idx t).2.2.2.2.2.2.2.1]

section wheels

variable (t : Fin cfg0.N) (r : Fin 512) (j : Fin 128) (n : Fin 4608) (hn : n.val = wheel (grid0.coords t 0).val * 512 + r.val)

include hn

theorem cos_blk : iblk m c 8 t (ix2 r j) = V m c main_v20 (ix2 n j) := by
  blk_ext [iblk, (idx t).2.2.2.2.2.2.2.2.1]

theorem sa_blk : iblk m c 9 t (ix2 r j) = V m c main_v28 (ix2 n j) := by
  blk_ext [iblk, (idx t).2.2.2.2.2.2.2.2.2.1]

theorem sb_blk : iblk m c 10 t (ix2 r j) = V m c main_v30 (ix2 n j) := by
  blk_ext [iblk, (idx t).2.2.2.2.2.2.2.2.2.2.1]

end wheels

section lat

variable (t : Fin cfg0.N) (h : (grid0.coords t 0).val < 32) (r : Fin 512) (b : Fin 4) (n : Fin 4096)
  (hR : b.val * 4096 + n.val = (grid0.coords t 0).val * 512 + r.val)

include h hR

theorem x_lat : (fun j => iblk m c 0 t (ix2 r j)) = fun j => m ((c : Thread nD τ).loc main_arg0) (ix3 b n j) := by
  funext j
  rw [x_blk m c t r j ⟨b.val * 4096 + n.val, by omega⟩ hR, Host.x_eq, Cert.Kernel3Ideal.Host.rows_apply, dif_pos (by dsimp only; omega)]
  blk_ext []

theorem mod_lat (k : Fin 6) (C : Fin 1024 → Fin 6144) (hC : ∀ j, (C j).val = k.val * 1024 + j.val) :
    (fun j => iblk m c 2 t (ix4 0 k 0 j)) = fun j : Fin 1024 => m ((c : Thread nD τ).loc main_arg2) (ix2 b (C j)) := by
  funext j
  rw [mod_blk m c t k j ⟨b.val, by omega⟩ (by dsimp only; omega), Host.mod_apply, Cert.Kernel3Ideal.Host.table_lat _ _ _ b.isLt]
  exact congrArg (fun C => m ((c : Thread nD τ).loc main_arg2) (ix2 b C)) (Fin.ext (hC j).symm)

theorem prod_lat : prodRow (iblk m c 0 t) (iblk m c 1 t) (iblk m c 2 t) (iblk m c 3 t) r
    = long (latRow (m ((c : Thread nD τ).loc main_arg0)) (m ((c : Thread nD τ).loc main_arg2)) (m ((c : Thread nD τ).loc main_arg4))
        (m ((c : Thread nD τ).loc main_arg5)) b n) := by
  unfold prodRow latRow
  rw [x_lat m c t h r b n hR, mod_lat m c t h r b n hR 0 (fun j => ⟨j.val, by omega⟩) (fun j => by show j.val = 0 * 1024 + j.val; omega),
    mod_lat m c t h r b n hR 1 (fun j => ⟨1024 + j.val, by omega⟩) (fun j => rfl), funext fun k => funext fun j => down_blk m c t k j,
    funext fun j => gain_blk m c t j]
  exact times_long _ _

theorem turn_lat (u : Fin 128 → EReal) (j : Fin 128) :
    rolled u (fun j => iblk m c 8 t (ix2 r j)) (fun j => iblk m c 9 t (ix2 r j)) (fun j => iblk m c 10 t (ix2 r j)) j
      = if h : j.val < 64 then turned (fun j => m ((c : Thread nD τ).loc main_arg10) (ix2 n j)) (fun j => m ((c : Thread nD τ).loc main_arg11) (ix2 n j))
          (fun d : Fin 64 => u ⟨d.val, by omega⟩) ⟨j.val, h⟩ else u j := by
  have hw : n.val = wheel (grid0.coords t 0).val * 512 + r.val := by
    unfold wheel
    rw [if_pos h]
    omega
  have hn : (⟨n.val, by omega⟩ : Fin 4608).val < 4096 := n.isLt
  rw [funext fun j => (cos_blk m c t r j ⟨n.val, by omega⟩ hw).trans (Host.cos_lat m c _ hn j),
    funext fun j => (sa_blk m c t r j ⟨n.val, by omega⟩ hw).trans (Host.sa_lat m c _ hn j),
    funext fun j => (sb_blk m c t r j ⟨n.val, by omega⟩ hw).trans (Host.sb_lat m c _ hn j)]
  exact rolled_eq u (fun j => Host.cell (m ((c : Thread nD τ).loc main_arg10)) n j) (fun j => Host.cell (m ((c : Thread nD τ).loc main_arg11)) n j) j

end lat

section ctx

variable (t : Fin cfg0.N) (h : 32 ≤ (grid0.coords t 0).val) (r : Fin 512) (b : Fin 4) (n : Fin 256)
  (hR : b.val * 256 + n.val = ((grid0.coords t 0).val - 32) * 512 + r.val)

include h

theorem mod_ctx (k : Fin 6) (C : Fin 1024 → Fin 6144) (hC : ∀ j, (C j).val = k.val * 1024 + j.val) :
    (fun j => iblk m c 2 t (ix4 0 k 0 j)) = fun j : Fin 1024 => m ((c : Thread nD τ).loc main_arg3) (ix1 (C j)) := by
  funext j
  rw [mod_blk m c t k j 4 (by show 4 = _; omega), Host.mod_apply, Cert.Kernel3Ideal.Host.table_ctx]
  exact congrArg (fun C => m ((c : Thread nD τ).loc main_arg3) (ix1 C)) (Fin.ext (hC j).symm)

theorem turn_ctx (u : Fin 128 → EReal) (j : Fin 128) :
    rolled u (fun j => iblk m c 8 t (ix2 r j)) (fun j => iblk m c 9 t (ix2 r j)) (fun j => iblk m c 10 t (ix2 r j)) j
      = if h : j.val < 64 then (fun c : Fin 64 → EReal => c) (fun d : Fin 64 => u ⟨d.val, by omega⟩) ⟨j.val, h⟩ else u j := by
  have hw : 4096 + r.val = wheel (grid0.coords t 0).val * 512 + r.val := by
    unfold wheel
    rw [if_neg (by omega)]
  have hn : ¬(⟨4096 + r.val, by omega⟩ : Fin 4608).val < 4096 := by dsimp only; omega
  rw [funext fun j => (cos_blk m c t r j ⟨4096 + r.val, by omega⟩ hw).trans (Host.cos_ctx m c _ hn j),
    funext fun j => (sa_blk m c t r j ⟨4096 + r.val, by omega⟩ hw).trans (Host.sa_ctx m c _ hn j),
    funext fun j => (sb_blk m c t r j ⟨4096 + r.val, by omega⟩ hw).trans (Host.sb_ctx m c _ hn j)]
  refine (congrFun (rolled_one u) j).trans ?_
  by_cases hj : j.val < 64
  · rw [dif_pos hj]
  · rw [dif_neg hj]

include hR

theorem x_ctx : (fun j => iblk m c 0 t (ix2 r j)) = fun j => m ((c : Thread nD τ).loc main_arg1) (ix3 b n j) := by
  funext j
  rw [x_blk m c t r j ⟨16384 + (b.val * 256 + n.val), by omega⟩ (by dsimp only; omega), Host.x_eq, Cert.Kernel3Ideal.Host.rows_apply,
    dif_neg (by dsimp only; omega)]
  blk_ext []

theorem prod_ctx : prodRow (iblk m c 0 t) (iblk m c 1 t) (iblk m c 2 t) (iblk m c 3 t) r
    = long (ctxRow (m ((c : Thread nD τ).loc main_arg1)) (m ((c : Thread nD τ).loc main_arg3)) (m ((c : Thread nD τ).loc main_arg4))
        (m ((c : Thread nD τ).loc main_arg5)) b n) := by
  unfold prodRow ctxRow
  rw [x_ctx m c t h r b n hR, mod_ctx m c t h 0 (fun j => ⟨j.val, by omega⟩) (fun j => by show j.val = 0 * 1024 + j.val; omega),
    mod_ctx m c t h 1 (fun j => ⟨1024 + j.val, by omega⟩) (fun j => rfl), funext fun k => funext fun j => down_blk m c t k j,
    funext fun j => gain_blk m c t j]
  exact times_long _ _

end ctx

/-- The reference's queries, keys and values on the kernel's arguments. -/
def GQ : FVec Ideal S17408x2048 .bf16 :=
  Cert.Reference6Ideal.Read.val_main_v185 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg10)) (m ((c : Thread nD τ).loc main_arg11))

@[inherit_doc GQ]
def GK : FVec Ideal S17408x2048 .bf16 :=
  Cert.Reference6Ideal.Read.val_main_v186 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg8)) (m ((c : Thread nD τ).loc main_arg9)) (m ((c : Thread nD τ).loc main_arg10)) (m ((c : Thread nD τ).loc main_arg11))

@[inherit_doc GQ]
def GV : FVec Ideal S17408x2048 .bf16 :=
  Cert.Reference6Ideal.Read.val_main_v187 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg8)) (m ((c : Thread nD τ).loc main_arg9))

section entry

variable (t : Fin cfg0.N) (r : Fin 512) (R : Fin 17408) (hR : R.val = (grid0.coords t 0).val * 512 + r.val)

include hR

theorem q_entry (h : Fin 8) (e : Fin 256) :
    qOut (qRow (iblk m c 0 t) (iblk m c 1 t) (iblk m c 2 t) (iblk m c 3 t) (iblk m c 4 t) (iblk m c 5 t) r)
      (fun j => iblk m c 8 t (ix2 r j)) (fun j => iblk m c 9 t (ix2 r j)) (fun j => iblk m c 10 t (ix2 r j)) h e
      = GQ m c (ix2 R ⟨h.val * 256 + e.val, by omega⟩) := by
  unfold GQ
  by_cases hs : (grid0.coords t 0).val < 32
  · rw [Cert.Reference6Ideal.Ref.q_lat _ _ _ _ _ _ _ _ _ _ R h e ⟨R.val / 4096, by omega⟩ ⟨R.val % 4096, by omega⟩ (by dsimp only; omega)]
    exact query_eq (iblk m c 0 t) (iblk m c 1 t) (iblk m c 2 t) (iblk m c 3 t) (iblk m c 4 t) (iblk m c 5 t) _ _ _ r _
      (prod_lat m c t hs r ⟨R.val / 4096, by omega⟩ ⟨R.val % 4096, by omega⟩ (by dsimp only; omega)) _ (turn_lat m c t hs r ⟨R.val / 4096, by omega⟩ ⟨R.val % 4096, by omega⟩ (by dsimp only; omega))
      _ (funext fun k => qn_blk m c t k) (fun k j => m ((c : Thread nD τ).loc main_arg7) (ix2 k j)) (up_blk m c t) h e
  · rw [Cert.Reference6Ideal.Ref.q_ctx _ _ _ _ _ _ _ _ _ _ R h e ⟨(R.val - 16384) / 256, by omega⟩ ⟨(R.val - 16384) % 256, by omega⟩ (by dsimp only; omega)]
    exact query_eq (iblk m c 0 t) (iblk m c 1 t) (iblk m c 2 t) (iblk m c 3 t) (iblk m c 4 t) (iblk m c 5 t) _ _ _ r _
      (prod_ctx m c t (by omega) r ⟨(R.val - 16384) / 256, by omega⟩ ⟨(R.val - 16384) % 256, by omega⟩ (by dsimp only; omega)) (fun c => c) (turn_ctx m c t (by omega) r ⟨(R.val - 16384) / 256, by omega⟩ ⟨(R.val - 16384) % 256, by omega⟩)
      _ (funext fun k => qn_blk m c t k) (fun k j => m ((c : Thread nD τ).loc main_arg7) (ix2 k j)) (up_blk m c t) h e

theorem k_entry (h : Fin 8) (e : Fin 256) :
    kOut (prodRow (iblk m c 0 t) (iblk m c 1 t) (iblk m c 2 t) (iblk m c 3 t) r) (kvRow (iblk m c 0 t) (iblk m c 1 t) (iblk m c 2 t) (iblk m c 3 t) (iblk m c 6 t) (iblk m c 7 t) r)
      (fun j => iblk m c 8 t (ix2 r j)) (fun j => iblk m c 9 t (ix2 r j)) (fun j => iblk m c 10 t (ix2 r j)) h e
      = GK m c (ix2 R ⟨h.val * 256 + e.val, by omega⟩) := by
  unfold GK
  by_cases hs : (grid0.coords t 0).val < 32
  · rw [Cert.Reference6Ideal.Ref.k_lat _ _ _ _ _ _ _ _ _ _ R h e ⟨R.val / 4096, by omega⟩ ⟨R.val % 4096, by omega⟩ (by dsimp only; omega)]
    exact key_eq (iblk m c 0 t) (iblk m c 1 t) (iblk m c 2 t) (iblk m c 3 t) (iblk m c 6 t) (iblk m c 7 t) _ _ _ r _
      (prod_lat m c t hs r ⟨R.val / 4096, by omega⟩ ⟨R.val % 4096, by omega⟩ (by dsimp only; omega)) _ (turn_lat m c t hs r ⟨R.val / 4096, by omega⟩ ⟨R.val % 4096, by omega⟩ (by dsimp only; omega))
      _ (funext fun k => kn_blk m c t k) (fun k j => m ((c : Thread nD τ).loc main_arg9) (ix2 k j)) (pair_blk m c t) h e
  · rw [Cert.Reference6Ideal.Ref.k_ctx _ _ _ _ _ _ _ _ _ _ R h e ⟨(R.val - 16384) / 256, by omega⟩ ⟨(R.val - 16384) % 256, by omega⟩ (by dsimp only; omega)]
    exact key_eq (iblk m c 0 t) (iblk m c 1 t) (iblk m c 2 t) (iblk m c 3 t) (iblk m c 6 t) (iblk m c 7 t) _ _ _ r _
      (prod_ctx m c t (by omega) r ⟨(R.val - 16384) / 256, by omega⟩ ⟨(R.val - 16384) % 256, by omega⟩ (by dsimp only; omega)) (fun c => c) (turn_ctx m c t (by omega) r ⟨(R.val - 16384) / 256, by omega⟩ ⟨(R.val - 16384) % 256, by omega⟩)
      _ (funext fun k => kn_blk m c t k) (fun k j => m ((c : Thread nD τ).loc main_arg9) (ix2 k j)) (pair_blk m c t) h e

theorem v_entry (h : Fin 8) (e : Fin 256) :
    vOut (kvRow (iblk m c 0 t) (iblk m c 1 t) (iblk m c 2 t) (iblk m c 3 t) (iblk m c 6 t) (iblk m c 7 t) r) h e
      = GV m c (ix2 R ⟨h.val * 256 + e.val, by omega⟩) := by
  unfold GV
  by_cases hs : (grid0.coords t 0).val < 32
  · rw [Cert.Reference6Ideal.Ref.v_lat _ _ _ _ _ _ _ _ R h e ⟨R.val / 4096, by omega⟩ ⟨R.val % 4096, by omega⟩ (by dsimp only; omega)]
    exact value_eq (iblk m c 0 t) (iblk m c 1 t) (iblk m c 2 t) (iblk m c 3 t) (iblk m c 6 t) (iblk m c 7 t) r _
      (prod_lat m c t hs r ⟨R.val / 4096, by omega⟩ ⟨R.val % 4096, by omega⟩ (by dsimp only; omega))
      _ (funext fun k => kn_blk m c t k) (fun k j => m ((c : Thread nD τ).loc main_arg9) (ix2 k j)) (pair_blk m c t) h e
  · rw [Cert.Reference6Ideal.Ref.v_ctx _ _ _ _ _ _ _ _ R h e ⟨(R.val - 16384) / 256, by omega⟩ ⟨(R.val - 16384) % 256, by omega⟩ (by dsimp only; omega)]
    exact value_eq (iblk m c 0 t) (iblk m c 1 t) (iblk m c 2 t) (iblk m c 3 t) (iblk m c 6 t) (iblk m c 7 t) r _
      (prod_ctx m c t (by omega) r ⟨(R.val - 16384) / 256, by omega⟩ ⟨(R.val - 16384) % 256, by omega⟩ (by dsimp only; omega))
      _ (funext fun k => kn_blk m c t k) (fun k j => m ((c : Thread nD τ).loc main_arg9) (ix2 k j)) (pair_blk m c t) h e

end entry

theorem q_eq : (Gen.dats m 0 c).arrAt 11 cfg0.N = GQ m c := by
  refine (dats m 0 c).arrAt_eq_of_covers 11 _ (by decide +kernel) fun t hf y => ?_
  rw [after0_11]
  blk_simp
  have b0 : (grid0.coords t 0).val < 34 := (grid0.coords t 0).isLt
  have y0 : (y 0).val < 512 := (y 0).isLt
  have y1 : (y 1).val < 2048 := (y 1).isLt
  have e0 : (((win0_11.blk t).view.emb y) 0).val = (grid0.coords t 0).val * 512 + (y 0).val := by
    blk_simp [(idx t).2.2.2.2.2.2.2.2.2.2.2.1]
  have e1 : (((win0_11.blk t).view.emb y) 1).val = (y 1).val := by
    blk_simp [(idx t).2.2.2.2.2.2.2.2.2.2.2.1]
  have ey : y = ix2 (⟨(y 0).val, y0⟩ : Fin 512) ⟨(y 1).val / 256 * 256 + (y 1).val % 256, by omega⟩ :=
    (eq_ix2 y).trans (congrArg (ix2 _) (Fin.ext (by show (y 1).val = (y 1).val / 256 * 256 + (y 1).val % 256; omega)))
  refine (congrArg _ ey).trans ((out11_apply _ _ _ _ _ _ _ _ _ _ _ ⟨(y 0).val, y0⟩ ⟨(y 1).val / 256, by omega⟩ ⟨(y 1).val % 256, by omega⟩).trans
    ((q_entry m c t _ ⟨(grid0.coords t 0).val * 512 + (y 0).val, by omega⟩ rfl _ _).trans ?_))
  refine congrArg (GQ m c) (funext fun a => Fin.ext ?_)
  match a with
  | 0 => exact e0.symm
  | 1 => exact Eq.trans (by show (y 1).val / 256 * 256 + (y 1).val % 256 = (y 1).val; omega) e1.symm

theorem k_eq : (Gen.dats m 0 c).arrAt 12 cfg0.N = GK m c := by
  refine (dats m 0 c).arrAt_eq_of_covers 12 _ (by decide +kernel) fun t hf y => ?_
  rw [after0_12]
  blk_simp
  have b0 : (grid0.coords t 0).val < 34 := (grid0.coords t 0).isLt
  have y0 : (y 0).val < 512 := (y 0).isLt
  have y1 : (y 1).val < 2048 := (y 1).isLt
  have e0 : (((win0_12.blk t).view.emb y) 0).val = (grid0.coords t 0).val * 512 + (y 0).val := by
    blk_simp [(idx t).2.2.2.2.2.2.2.2.2.2.2.2.1]
  have e1 : (((win0_12.blk t).view.emb y) 1).val = (y 1).val := by
    blk_simp [(idx t).2.2.2.2.2.2.2.2.2.2.2.2.1]
  have ey : y = ix2 (⟨(y 0).val, y0⟩ : Fin 512) ⟨(y 1).val / 256 * 256 + (y 1).val % 256, by omega⟩ :=
    (eq_ix2 y).trans (congrArg (ix2 _) (Fin.ext (by show (y 1).val = (y 1).val / 256 * 256 + (y 1).val % 256; omega)))
  refine (congrArg _ ey).trans ((out12_apply _ _ _ _ _ _ _ _ _ _ _ ⟨(y 0).val, y0⟩ ⟨(y 1).val / 256, by omega⟩ ⟨(y 1).val % 256, by omega⟩).trans
    ((k_entry m c t _ ⟨(grid0.coords t 0).val * 512 + (y 0).val, by omega⟩ rfl _ _).trans ?_))
  refine congrArg (GK m c) (funext fun a => Fin.ext ?_)
  match a with
  | 0 => exact e0.symm
  | 1 => exact Eq.trans (by show (y 1).val / 256 * 256 + (y 1).val % 256 = (y 1).val; omega) e1.symm

theorem v_eq : (Gen.dats m 0 c).arrAt 13 cfg0.N = GV m c := by
  refine (dats m 0 c).arrAt_eq_of_covers 13 _ (by decide +kernel) fun t hf y => ?_
  rw [after0_13]
  blk_simp
  have b0 : (grid0.coords t 0).val < 34 := (grid0.coords t 0).isLt
  have y0 : (y 0).val < 512 := (y 0).isLt
  have y1 : (y 1).val < 2048 := (y 1).isLt
  have e0 : (((win0_13.blk t).view.emb y) 0).val = (grid0.coords t 0).val * 512 + (y 0).val := by
    blk_simp [(idx t).2.2.2.2.2.2.2.2.2.2.2.2.2]
  have e1 : (((win0_13.blk t).view.emb y) 1).val = (y 1).val := by
    blk_simp [(idx t).2.2.2.2.2.2.2.2.2.2.2.2.2]
  have ey : y = ix2 (⟨(y 0).val, y0⟩ : Fin 512) ⟨(y 1).val / 256 * 256 + (y 1).val % 256, by omega⟩ :=
    (eq_ix2 y).trans (congrArg (ix2 _) (Fin.ext (by show (y 1).val = (y 1).val / 256 * 256 + (y 1).val % 256; omega)))
  refine (congrArg _ ey).trans ((out13_apply _ _ _ _ _ _ _ _ _ _ _ ⟨(y 0).val, y0⟩ ⟨(y 1).val / 256, by omega⟩ ⟨(y 1).val % 256, by omega⟩).trans
    ((v_entry m c t _ ⟨(grid0.coords t 0).val * 512 + (y 0).val, by omega⟩ rfl _ _).trans ?_))
  refine congrArg (GV m c) (funext fun a => Fin.ext ?_)
  match a with
  | 0 => exact e0.symm
  | 1 => exact Eq.trans (by show (y 1).val / 256 * 256 + (y 1).val % 256 = (y 1).val; omega) e1.symm

end Cert.Kernel6Ideal.Arr

end
-- ==== Proof.Lat.lean ====
/- The projection before the latent attention: the kernel and the reference leave the same queries, keys and values. -/
module

public import proofs.«01_k».proof.Defs
public import proofs.«01_k».proof.Proof.LatArr
public import proofs.«01_k».proof.Proof.Gen.Reference6Ideal.Run

@[expose] public section

noncomputable section

namespace Cert.Lat

open Idealize.ShloMosaic Idealize.ShloMosaic.TcCoe Idealize.SL.Sem

theorem algebraic : Cert.algebraic_Kernel6Ideal_Reference6Ideal := by
  intro m g m' g' _ ha
  refine ⟨fun c => Kernel6Ideal.Arr.GQ m c, fun c => Kernel6Ideal.Arr.GK m c, fun c => Kernel6Ideal.Arr.GV m c, ?_, ?_⟩
  · exact (θ_run _ _ _).mono (fun r h c => ⟨(h c).1.trans (Kernel6Ideal.Arr.q_eq m c), (h c).2.1.trans (Kernel6Ideal.Arr.k_eq m c),
      (h c).2.2.1.trans (Kernel6Ideal.Arr.v_eq m c), (h c).2.2.2⟩) (Kernel6Ideal.Value.run_blocks m g)
  · refine (θ_run _ _ _).mono (fun r h c => ?_) (Reference6Ideal.Value.run m' g')
    obtain ⟨h0, h1, h2, h3, h4, h5, h6, h7, h8, h9, h10, h11⟩ := ha c
    refine ⟨((h c).1.trans (Reference6Ideal.Read.val_main_v185_eq ..)).trans ?_, ((h c).2.1.trans (Reference6Ideal.Read.val_main_v186_eq ..)).trans ?_,
      ((h c).2.2.1.trans (Reference6Ideal.Read.val_main_v187_eq ..)).trans ?_, (h c).2.2.2⟩
    · clear h
      unfold StableHlo.launchContents
      rw [h0, h1, h2, h3, h4, h5, h6, h7, h10, h11]
      rfl
    · clear h
      unfold StableHlo.launchContents
      rw [h0, h1, h2, h3, h4, h5, h8, h9, h10, h11]
      rfl
    · clear h
      unfold StableHlo.launchContents
      rw [h0, h1, h2, h3, h4, h5, h8, h9]
      rfl

end Cert.Lat

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite_gqa
public import proofs.«01_k».proof.Proof.Gen.Pre_finite_mla
public import proofs.«01_k».proof.Proof.Gqa
public import proofs.«01_k».proof.Proof.Mla
public import proofs.«01_k».proof.Proof.Post
public import proofs.«01_k».proof.Proof.Last
public import proofs.«01_k».proof.Proof.Proj
public import proofs.«01_k».proof.Proof.Lat

@[expose] public section

noncomputable section

namespace Cert.Proof

open Idealize.ShloMosaic Idealize.SL.Sem

/-- The frame of the grouped-query attention's reference. -/
theorem ref : Cert.quiescent_ReferenceIdeal := fun m ρ _ =>
  (θ_run _ _ _).mono (fun _ h => ⟨fun c => (h c).2, sem_eq_zero_of_no_sems rfl _⟩) (Cert.ReferenceIdeal.Value.run m ρ)

/-- The frame of the multi-head latent attention's reference. -/
theorem ref2 : Cert.quiescent_Reference2Ideal := fun m ρ _ =>
  (θ_run _ _ _).mono (fun _ h => ⟨fun c => (h c).2, sem_eq_zero_of_no_sems rfl _⟩) (Cert.Reference2Ideal.Value.run m ρ)

/-- The frame of the reference of the call after the attention. -/
theorem ref3 : Cert.quiescent_Reference3Ideal := fun m ρ _ =>
  (θ_run _ _ _).mono (fun _ h => ⟨fun c => (h c).2.2.2.2, sem_eq_zero_of_no_sems rfl _⟩) (Cert.Reference3Ideal.Value.run m ρ)

/-- The frame of the reference of the call after the last layer's attention. -/
theorem ref4 : Cert.quiescent_Reference4Ideal := fun m ρ _ =>
  (θ_run _ _ _).mono (fun _ h => ⟨fun c => (h c).2.2.2.2, sem_eq_zero_of_no_sems rfl _⟩) (Cert.Reference4Ideal.Value.run m ρ)

/-- The frame of the reference of the projection before the attention. -/
theorem ref5 : Cert.quiescent_Reference5Ideal := fun m ρ _ =>
  (θ_run _ _ _).mono (fun _ h => ⟨fun c => (h c).2.2.2, sem_eq_zero_of_no_sems rfl _⟩) (Cert.Reference5Ideal.Value.run m ρ)

/-- The frame of the reference of the projection before the latent attention. -/
theorem ref6 : Cert.quiescent_Reference6Ideal := fun m ρ _ =>
  (θ_run _ _ _).mono (fun _ h => ⟨fun c => (h c).2.2.2, sem_eq_zero_of_no_sems rfl _⟩) (Cert.Reference6Ideal.Value.run m ρ)

theorem claim : Cert.Claim :=
  ⟨inferInstance, inferInstance, inferInstance, inferInstance, inferInstance, inferInstance, inferInstance, inferInstance,
    inferInstance, inferInstance, inferInstance, inferInstance, inferInstance, inferInstance, inferInstance, inferInstance, inferInstance,
    inferInstance, inferInstance, inferInstance,
    fun m ρ _ => Cert.Kernel.Gen.frame m ρ, fun m ρ _ => Cert.KernelIdeal.Gen.frame m ρ, fun m ρ _ => Cert.KernelIdeal.Gen.frame m ρ,
    ref, fun m ρ _ => ref m ρ trivial,
    fun m ρ _ => Cert.Kernel2.Gen.frame m ρ, fun m ρ _ => Cert.Kernel2Ideal.Gen.frame m ρ, fun m ρ _ => Cert.Kernel2Ideal.Gen.frame m ρ,
    ref2, fun m ρ _ => ref2 m ρ trivial,
    fun m ρ _ => Cert.Kernel3.Gen.frame m ρ, fun m ρ _ => Cert.Kernel3Ideal.Gen.frame m ρ, ref3,
    fun m ρ _ => Cert.Kernel4.Gen.frame m ρ, fun m ρ _ => Cert.Kernel4Ideal.Gen.frame m ρ, ref4,
    fun m ρ _ => Cert.Kernel5.Gen.frame m ρ, fun m ρ _ => Cert.Kernel5Ideal.Gen.frame m ρ, ref5,
    fun m ρ _ => Cert.Kernel6.Gen.frame m ρ, fun m ρ _ => Cert.Kernel6Ideal.Gen.frame m ρ, ref6,
    trivial, Cert.Gqa.algebraic, trivial, Cert.Mla.algebraic, trivial, Cert.Post.algebraic, trivial, Cert.Last.algebraic,
    trivial, Cert.Proj.algebraic, trivial, Cert.Lat.algebraic⟩

end Cert.Proof

end
